-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_WgradRg (m : (ℓ : Loc Cert.WgradRg.nD Cert.WgradRg.τ Cert.WgradRg.sig) → Buf (Elt Bits) ℓ) : Prop :=
  True

def Pre_WgradRgIdeal (m : (ℓ : Loc Cert.WgradRgIdeal.nD Cert.WgradRgIdeal.τ Cert.WgradRgIdeal.sig) → Buf (Elt Ideal) ℓ) : Prop :=
  True

def Pre_WgradRgRefIdeal (m : (ℓ : Loc Cert.WgradRgRefIdeal.nD Cert.WgradRgRefIdeal.τ Cert.WgradRgRefIdeal.sig) → Buf (Elt Ideal) ℓ) : Prop :=
  True

def Pre_WgradMl (m : (ℓ : Loc Cert.WgradMl.nD Cert.WgradMl.τ Cert.WgradMl.sig) → Buf (Elt Bits) ℓ) : Prop :=
  True

def Pre_WgradMlIdeal (m : (ℓ : Loc Cert.WgradMlIdeal.nD Cert.WgradMlIdeal.τ Cert.WgradMlIdeal.sig) → Buf (Elt Ideal) ℓ) : Prop :=
  True

def Pre_WgradMlRefIdeal (m : (ℓ : Loc Cert.WgradMlRefIdeal.nD Cert.WgradMlRefIdeal.τ Cert.WgradMlRefIdeal.sig) → Buf (Elt Ideal) ℓ) : Prop :=
  True

def Pre_WgradGd (m : (ℓ : Loc Cert.WgradGd.nD Cert.WgradGd.τ Cert.WgradGd.sig) → Buf (Elt Bits) ℓ) : Prop :=
  True

def Pre_WgradGdIdeal (m : (ℓ : Loc Cert.WgradGdIdeal.nD Cert.WgradGdIdeal.τ Cert.WgradGdIdeal.sig) → Buf (Elt Ideal) ℓ) : Prop :=
  True

def Pre_WgradGdRefIdeal (m : (ℓ : Loc Cert.WgradGdRefIdeal.nD Cert.WgradGdRefIdeal.τ Cert.WgradGdRefIdeal.sig) → Buf (Elt Ideal) ℓ) : Prop :=
  True

def Pre_WgradSm (m : (ℓ : Loc Cert.WgradSm.nD Cert.WgradSm.τ Cert.WgradSm.sig) → Buf (Elt Bits) ℓ) : Prop :=
  True

def Pre_WgradSmIdeal (m : (ℓ : Loc Cert.WgradSmIdeal.nD Cert.WgradSmIdeal.τ Cert.WgradSmIdeal.sig) → Buf (Elt Ideal) ℓ) : Prop :=
  True

def Pre_WgradSmRefIdeal (m : (ℓ : Loc Cert.WgradSmRefIdeal.nD Cert.WgradSmRefIdeal.τ Cert.WgradSmRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Regroup (m : (ℓ : Loc Cert.Regroup.nD Cert.Regroup.τ Cert.Regroup.sig) → Buf (Elt Bits) ℓ) : Prop :=
  True

def Pre_RegroupIdeal (m : (ℓ : Loc Cert.RegroupIdeal.nD Cert.RegroupIdeal.τ Cert.RegroupIdeal.sig) → Buf (Elt Ideal) ℓ) : Prop :=
  True

def Pre_RegroupRefIdeal (m : (ℓ : Loc Cert.RegroupRefIdeal.nD Cert.RegroupRefIdeal.τ Cert.RegroupRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_WgradRg [hWgradRg : Cert.WgradRg.Facts] : Prop :=
  ∀ (m : (ℓ : Loc Cert.WgradRg.nD Cert.WgradRg.τ Cert.WgradRg.sig) → Buf (Elt Bits) ℓ) (g : Dev Cert.WgradRg.nD → PrngReg), Pre_WgradRg m →
    θ_run (Cert.WgradRg.defs (F := Bits)) (onTc (τ := Cert.WgradRg.τ) (Cert.WgradRg.main (F := Bits))) ⟨m, fun _ => 0, g⟩ (fun r => (∀ c : Dev Cert.WgradRg.nD,
      r.2.mem ((c.tc : Thread Cert.WgradRg.nD Cert.WgradRg.τ).loc Cert.WgradRg.main_arg0) = m ((c.tc : Thread Cert.WgradRg.nD Cert.WgradRg.τ).loc Cert.WgradRg.main_arg0)
      ∧ r.2.mem ((c.tc : Thread Cert.WgradRg.nD Cert.WgradRg.τ).loc Cert.WgradRg.main_arg1) = m ((c.tc : Thread Cert.WgradRg.nD Cert.WgradRg.τ).loc Cert.WgradRg.main_arg1))
      ∧ r.2.sem = fun _ => 0)

def quiescent_WgradRgIdeal [hWgradRgIdeal : Cert.WgradRgIdeal.Facts] : Prop :=
  ∀ (m : (ℓ : Loc Cert.WgradRgIdeal.nD Cert.WgradRgIdeal.τ Cert.WgradRgIdeal.sig) → Buf (Elt Ideal) ℓ) (g : Dev Cert.WgradRgIdeal.nD → PrngReg), Pre_WgradRgIdeal m →
    θ_run (Cert.WgradRgIdeal.defs (F := Ideal)) (onTc (τ := Cert.WgradRgIdeal.τ) (Cert.WgradRgIdeal.main (F := Ideal))) ⟨m, fun _ => 0, g⟩ (fun r => (∀ c : Dev Cert.WgradRgIdeal.nD,
      r.2.mem ((c.tc : Thread Cert.WgradRgIdeal.nD Cert.WgradRgIdeal.τ).loc Cert.WgradRgIdeal.main_arg0) = m ((c.tc : Thread Cert.WgradRgIdeal.nD Cert.WgradRgIdeal.τ).loc Cert.WgradRgIdeal.main_arg0)
      ∧ r.2.mem ((c.tc : Thread Cert.WgradRgIdeal.nD Cert.WgradRgIdeal.τ).loc Cert.WgradRgIdeal.main_arg1) = m ((c.tc : Thread Cert.WgradRgIdeal.nD Cert.WgradRgIdeal.τ).loc Cert.WgradRgIdeal.main_arg1))
      ∧ r.2.sem = fun _ => 0)

def quiescent_WgradRgRefIdeal [hWgradRgRefIdeal : Cert.WgradRgRefIdeal.Facts] : Prop :=
  ∀ (m : (ℓ : Loc Cert.WgradRgRefIdeal.nD Cert.WgradRgRefIdeal.τ Cert.WgradRgRefIdeal.sig) → Buf (Elt Ideal) ℓ) (g : Dev Cert.WgradRgRefIdeal.nD → PrngReg), Pre_WgradRgRefIdeal m →
    θ_run (Cert.WgradRgRefIdeal.defs (F := Ideal)) (onTc (τ := Cert.WgradRgRefIdeal.τ) (Cert.WgradRgRefIdeal.main (F := Ideal))) ⟨m, fun _ => 0, g⟩ (fun r => (∀ c : Dev Cert.WgradRgRefIdeal.nD,
      r.2.mem ((c.tc : Thread Cert.WgradRgRefIdeal.nD Cert.WgradRgRefIdeal.τ).loc Cert.WgradRgRefIdeal.main_arg0) = m ((c.tc : Thread Cert.WgradRgRefIdeal.nD Cert.WgradRgRefIdeal.τ).loc Cert.WgradRgRefIdeal.main_arg0)
      ∧ r.2.mem ((c.tc : Thread Cert.WgradRgRefIdeal.nD Cert.WgradRgRefIdeal.τ).loc Cert.WgradRgRefIdeal.main_arg1) = m ((c.tc : Thread Cert.WgradRgRefIdeal.nD Cert.WgradRgRefIdeal.τ).loc Cert.WgradRgRefIdeal.main_arg1))
      ∧ r.2.sem = fun _ => 0)

def quiescent_WgradMl [hWgradMl : Cert.WgradMl.Facts] : Prop :=
  ∀ (m : (ℓ : Loc Cert.WgradMl.nD Cert.WgradMl.τ Cert.WgradMl.sig) → Buf (Elt Bits) ℓ) (g : Dev Cert.WgradMl.nD → PrngReg), Pre_WgradMl m →
    θ_run (Cert.WgradMl.defs (F := Bits)) (onTc (τ := Cert.WgradMl.τ) (Cert.WgradMl.main (F := Bits))) ⟨m, fun _ => 0, g⟩ (fun r => (∀ c : Dev Cert.WgradMl.nD,
      r.2.mem ((c.tc : Thread Cert.WgradMl.nD Cert.WgradMl.τ).loc Cert.WgradMl.main_arg0) = m ((c.tc : Thread Cert.WgradMl.nD Cert.WgradMl.τ).loc Cert.WgradMl.main_arg0)
      ∧ r.2.mem ((c.tc : Thread Cert.WgradMl.nD Cert.WgradMl.τ).loc Cert.WgradMl.main_arg1) = m ((c.tc : Thread Cert.WgradMl.nD Cert.WgradMl.τ).loc Cert.WgradMl.main_arg1))
      ∧ r.2.sem = fun _ => 0)

def quiescent_WgradMlIdeal [hWgradMlIdeal : Cert.WgradMlIdeal.Facts] : Prop :=
  ∀ (m : (ℓ : Loc Cert.WgradMlIdeal.nD Cert.WgradMlIdeal.τ Cert.WgradMlIdeal.sig) → Buf (Elt Ideal) ℓ) (g : Dev Cert.WgradMlIdeal.nD → PrngReg), Pre_WgradMlIdeal m →
    θ_run (Cert.WgradMlIdeal.defs (F := Ideal)) (onTc (τ := Cert.WgradMlIdeal.τ) (Cert.WgradMlIdeal.main (F := Ideal))) ⟨m, fun _ => 0, g⟩ (fun r => (∀ c : Dev Cert.WgradMlIdeal.nD,
      r.2.mem ((c.tc : Thread Cert.WgradMlIdeal.nD Cert.WgradMlIdeal.τ).loc Cert.WgradMlIdeal.main_arg0) = m ((c.tc : Thread Cert.WgradMlIdeal.nD Cert.WgradMlIdeal.τ).loc Cert.WgradMlIdeal.main_arg0)
      ∧ r.2.mem ((c.tc : Thread Cert.WgradMlIdeal.nD Cert.WgradMlIdeal.τ).loc Cert.WgradMlIdeal.main_arg1) = m ((c.tc : Thread Cert.WgradMlIdeal.nD Cert.WgradMlIdeal.τ).loc Cert.WgradMlIdeal.main_arg1))
      ∧ r.2.sem = fun _ => 0)

def quiescent_WgradMlRefIdeal [hWgradMlRefIdeal : Cert.WgradMlRefIdeal.Facts] : Prop :=
  ∀ (m : (ℓ : Loc Cert.WgradMlRefIdeal.nD Cert.WgradMlRefIdeal.τ Cert.WgradMlRefIdeal.sig) → Buf (Elt Ideal) ℓ) (g : Dev Cert.WgradMlRefIdeal.nD → PrngReg), Pre_WgradMlRefIdeal m →
    θ_run (Cert.WgradMlRefIdeal.defs (F := Ideal)) (onTc (τ := Cert.WgradMlRefIdeal.τ) (Cert.WgradMlRefIdeal.main (F := Ideal))) ⟨m, fun _ => 0, g⟩ (fun r => (∀ c : Dev Cert.WgradMlRefIdeal.nD,
      r.2.mem ((c.tc : Thread Cert.WgradMlRefIdeal.nD Cert.WgradMlRefIdeal.τ).loc Cert.WgradMlRefIdeal.main_arg0) = m ((c.tc : Thread Cert.WgradMlRefIdeal.nD Cert.WgradMlRefIdeal.τ).loc Cert.WgradMlRefIdeal.main_arg0)
      ∧ r.2.mem ((c.tc : Thread Cert.WgradMlRefIdeal.nD Cert.WgradMlRefIdeal.τ).loc Cert.WgradMlRefIdeal.main_arg1) = m ((c.tc : Thread Cert.WgradMlRefIdeal.nD Cert.WgradMlRefIdeal.τ).loc Cert.WgradMlRefIdeal.main_arg1))
      ∧ r.2.sem = fun _ => 0)

def quiescent_WgradGd [hWgradGd : Cert.WgradGd.Facts] : Prop :=
  ∀ (m : (ℓ : Loc Cert.WgradGd.nD Cert.WgradGd.τ Cert.WgradGd.sig) → Buf (Elt Bits) ℓ) (g : Dev Cert.WgradGd.nD → PrngReg), Pre_WgradGd m →
    θ_run (Cert.WgradGd.defs (F := Bits)) (onTc (τ := Cert.WgradGd.τ) (Cert.WgradGd.main (F := Bits))) ⟨m, fun _ => 0, g⟩ (fun r => (∀ c : Dev Cert.WgradGd.nD,
      r.2.mem ((c.tc : Thread Cert.WgradGd.nD Cert.WgradGd.τ).loc Cert.WgradGd.main_arg0) = m ((c.tc : Thread Cert.WgradGd.nD Cert.WgradGd.τ).loc Cert.WgradGd.main_arg0)
      ∧ r.2.mem ((c.tc : Thread Cert.WgradGd.nD Cert.WgradGd.τ).loc Cert.WgradGd.main_arg1) = m ((c.tc : Thread Cert.WgradGd.nD Cert.WgradGd.τ).loc Cert.WgradGd.main_arg1))
      ∧ r.2.sem = fun _ => 0)

def quiescent_WgradGdIdeal [hWgradGdIdeal : Cert.WgradGdIdeal.Facts] : Prop :=
  ∀ (m : (ℓ : Loc Cert.WgradGdIdeal.nD Cert.WgradGdIdeal.τ Cert.WgradGdIdeal.sig) → Buf (Elt Ideal) ℓ) (g : Dev Cert.WgradGdIdeal.nD → PrngReg), Pre_WgradGdIdeal m →
    θ_run (Cert.WgradGdIdeal.defs (F := Ideal)) (onTc (τ := Cert.WgradGdIdeal.τ) (Cert.WgradGdIdeal.main (F := Ideal))) ⟨m, fun _ => 0, g⟩ (fun r => (∀ c : Dev Cert.WgradGdIdeal.nD,
      r.2.mem ((c.tc : Thread Cert.WgradGdIdeal.nD Cert.WgradGdIdeal.τ).loc Cert.WgradGdIdeal.main_arg0) = m ((c.tc : Thread Cert.WgradGdIdeal.nD Cert.WgradGdIdeal.τ).loc Cert.WgradGdIdeal.main_arg0)
      ∧ r.2.mem ((c.tc : Thread Cert.WgradGdIdeal.nD Cert.WgradGdIdeal.τ).loc Cert.WgradGdIdeal.main_arg1) = m ((c.tc : Thread Cert.WgradGdIdeal.nD Cert.WgradGdIdeal.τ).loc Cert.WgradGdIdeal.main_arg1))
      ∧ r.2.sem = fun _ => 0)

def quiescent_WgradGdRefIdeal [hWgradGdRefIdeal : Cert.WgradGdRefIdeal.Facts] : Prop :=
  ∀ (m : (ℓ : Loc Cert.WgradGdRefIdeal.nD Cert.WgradGdRefIdeal.τ Cert.WgradGdRefIdeal.sig) → Buf (Elt Ideal) ℓ) (g : Dev Cert.WgradGdRefIdeal.nD → PrngReg), Pre_WgradGdRefIdeal m →
    θ_run (Cert.WgradGdRefIdeal.defs (F := Ideal)) (onTc (τ := Cert.WgradGdRefIdeal.τ) (Cert.WgradGdRefIdeal.main (F := Ideal))) ⟨m, fun _ => 0, g⟩ (fun r => (∀ c : Dev Cert.WgradGdRefIdeal.nD,
      r.2.mem ((c.tc : Thread Cert.WgradGdRefIdeal.nD Cert.WgradGdRefIdeal.τ).loc Cert.WgradGdRefIdeal.main_arg0) = m ((c.tc : Thread Cert.WgradGdRefIdeal.nD Cert.WgradGdRefIdeal.τ).loc Cert.WgradGdRefIdeal.main_arg0)
      ∧ r.2.mem ((c.tc : Thread Cert.WgradGdRefIdeal.nD Cert.WgradGdRefIdeal.τ).loc Cert.WgradGdRefIdeal.main_arg1) = m ((c.tc : Thread Cert.WgradGdRefIdeal.nD Cert.WgradGdRefIdeal.τ).loc Cert.WgradGdRefIdeal.main_arg1))
      ∧ r.2.sem = fun _ => 0)

def quiescent_WgradSm [hWgradSm : Cert.WgradSm.Facts] : Prop :=
  ∀ (m : (ℓ : Loc Cert.WgradSm.nD Cert.WgradSm.τ Cert.WgradSm.sig) → Buf (Elt Bits) ℓ) (g : Dev Cert.WgradSm.nD → PrngReg), Pre_WgradSm m →
    θ_run (Cert.WgradSm.defs (F := Bits)) (onTc (τ := Cert.WgradSm.τ) (Cert.WgradSm.main (F := Bits))) ⟨m, fun _ => 0, g⟩ (fun r => (∀ c : Dev Cert.WgradSm.nD,
      r.2.mem ((c.tc : Thread Cert.WgradSm.nD Cert.WgradSm.τ).loc Cert.WgradSm.main_arg0) = m ((c.tc : Thread Cert.WgradSm.nD Cert.WgradSm.τ).loc Cert.WgradSm.main_arg0)
      ∧ r.2.mem ((c.tc : Thread Cert.WgradSm.nD Cert.WgradSm.τ).loc Cert.WgradSm.main_arg1) = m ((c.tc : Thread Cert.WgradSm.nD Cert.WgradSm.τ).loc Cert.WgradSm.main_arg1)
      ∧ r.2.mem ((c.tc : Thread Cert.WgradSm.nD Cert.WgradSm.τ).loc Cert.WgradSm.main_arg2) = m ((c.tc : Thread Cert.WgradSm.nD Cert.WgradSm.τ).loc Cert.WgradSm.main_arg2))
      ∧ r.2.sem = fun _ => 0)

def quiescent_WgradSmIdeal [hWgradSmIdeal : Cert.WgradSmIdeal.Facts] : Prop :=
  ∀ (m : (ℓ : Loc Cert.WgradSmIdeal.nD Cert.WgradSmIdeal.τ Cert.WgradSmIdeal.sig) → Buf (Elt Ideal) ℓ) (g : Dev Cert.WgradSmIdeal.nD → PrngReg), Pre_WgradSmIdeal m →
    θ_run (Cert.WgradSmIdeal.defs (F := Ideal)) (onTc (τ := Cert.WgradSmIdeal.τ) (Cert.WgradSmIdeal.main (F := Ideal))) ⟨m, fun _ => 0, g⟩ (fun r => (∀ c : Dev Cert.WgradSmIdeal.nD,
      r.2.mem ((c.tc : Thread Cert.WgradSmIdeal.nD Cert.WgradSmIdeal.τ).loc Cert.WgradSmIdeal.main_arg0) = m ((c.tc : Thread Cert.WgradSmIdeal.nD Cert.WgradSmIdeal.τ).loc Cert.WgradSmIdeal.main_arg0)
      ∧ r.2.mem ((c.tc : Thread Cert.WgradSmIdeal.nD Cert.WgradSmIdeal.τ).loc Cert.WgradSmIdeal.main_arg1) = m ((c.tc : Thread Cert.WgradSmIdeal.nD Cert.WgradSmIdeal.τ).loc Cert.WgradSmIdeal.main_arg1)
      ∧ r.2.mem ((c.tc : Thread Cert.WgradSmIdeal.nD Cert.WgradSmIdeal.τ).loc Cert.WgradSmIdeal.main_arg2) = m ((c.tc : Thread Cert.WgradSmIdeal.nD Cert.WgradSmIdeal.τ).loc Cert.WgradSmIdeal.main_arg2))
      ∧ r.2.sem = fun _ => 0)

def quiescent_WgradSmRefIdeal [hWgradSmRefIdeal : Cert.WgradSmRefIdeal.Facts] : Prop :=
  ∀ (m : (ℓ : Loc Cert.WgradSmRefIdeal.nD Cert.WgradSmRefIdeal.τ Cert.WgradSmRefIdeal.sig) → Buf (Elt Ideal) ℓ) (g : Dev Cert.WgradSmRefIdeal.nD → PrngReg), Pre_WgradSmRefIdeal m →
    θ_run (Cert.WgradSmRefIdeal.defs (F := Ideal)) (onTc (τ := Cert.WgradSmRefIdeal.τ) (Cert.WgradSmRefIdeal.main (F := Ideal))) ⟨m, fun _ => 0, g⟩ (fun r => (∀ c : Dev Cert.WgradSmRefIdeal.nD,
      r.2.mem ((c.tc : Thread Cert.WgradSmRefIdeal.nD Cert.WgradSmRefIdeal.τ).loc Cert.WgradSmRefIdeal.main_arg0) = m ((c.tc : Thread Cert.WgradSmRefIdeal.nD Cert.WgradSmRefIdeal.τ).loc Cert.WgradSmRefIdeal.main_arg0)
      ∧ r.2.mem ((c.tc : Thread Cert.WgradSmRefIdeal.nD Cert.WgradSmRefIdeal.τ).loc Cert.WgradSmRefIdeal.main_arg1) = m ((c.tc : Thread Cert.WgradSmRefIdeal.nD Cert.WgradSmRefIdeal.τ).loc Cert.WgradSmRefIdeal.main_arg1)
      ∧ r.2.mem ((c.tc : Thread Cert.WgradSmRefIdeal.nD Cert.WgradSmRefIdeal.τ).loc Cert.WgradSmRefIdeal.main_arg2) = m ((c.tc : Thread Cert.WgradSmRefIdeal.nD Cert.WgradSmRefIdeal.τ).loc Cert.WgradSmRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Regroup [hRegroup : Cert.Regroup.Facts] : Prop :=
  ∀ (m : (ℓ : Loc Cert.Regroup.nD Cert.Regroup.τ Cert.Regroup.sig) → Buf (Elt Bits) ℓ) (g : Dev Cert.Regroup.nD → PrngReg), Pre_Regroup m →
    θ_run (Cert.Regroup.defs (F := Bits)) (onTc (τ := Cert.Regroup.τ) (Cert.Regroup.main (F := Bits))) ⟨m, fun _ => 0, g⟩ (fun r => (∀ c : Dev Cert.Regroup.nD,
      r.2.mem ((c.tc : Thread Cert.Regroup.nD Cert.Regroup.τ).loc Cert.Regroup.main_arg0) = m ((c.tc : Thread Cert.Regroup.nD Cert.Regroup.τ).loc Cert.Regroup.main_arg0))
      ∧ r.2.sem = fun _ => 0)

def quiescent_RegroupIdeal [hRegroupIdeal : Cert.RegroupIdeal.Facts] : Prop :=
  ∀ (m : (ℓ : Loc Cert.RegroupIdeal.nD Cert.RegroupIdeal.τ Cert.RegroupIdeal.sig) → Buf (Elt Ideal) ℓ) (g : Dev Cert.RegroupIdeal.nD → PrngReg), Pre_RegroupIdeal m →
    θ_run (Cert.RegroupIdeal.defs (F := Ideal)) (onTc (τ := Cert.RegroupIdeal.τ) (Cert.RegroupIdeal.main (F := Ideal))) ⟨m, fun _ => 0, g⟩ (fun r => (∀ c : Dev Cert.RegroupIdeal.nD,
      r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ r.2.sem = fun _ => 0)

def quiescent_RegroupRefIdeal [hRegroupRefIdeal : Cert.RegroupRefIdeal.Facts] : Prop :=
  ∀ (m : (ℓ : Loc Cert.RegroupRefIdeal.nD Cert.RegroupRefIdeal.τ Cert.RegroupRefIdeal.sig) → Buf (Elt Ideal) ℓ) (g : Dev Cert.RegroupRefIdeal.nD → PrngReg), Pre_RegroupRefIdeal m →
    θ_run (Cert.RegroupRefIdeal.defs (F := Ideal)) (onTc (τ := Cert.RegroupRefIdeal.τ) (Cert.RegroupRefIdeal.main (F := Ideal))) ⟨m, fun _ => 0, g⟩ (fun r => (∀ c : Dev Cert.RegroupRefIdeal.nD,
      r.2.mem ((c.tc : Thread Cert.RegroupRefIdeal.nD Cert.RegroupRefIdeal.τ).loc Cert.RegroupRefIdeal.main_arg0) = m ((c.tc : Thread Cert.RegroupRefIdeal.nD Cert.RegroupRefIdeal.τ).loc Cert.RegroupRefIdeal.main_arg0))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0)
      ∧ r.2.mem ((c.tc : Thread Cert.Slots.nD Cert.Slots.τ).loc Cert.Slots.main_arg1) = m ((c.tc : Thread Cert.Slots.nD Cert.Slots.τ).loc Cert.Slots.main_arg1)
      ∧ r.2.mem ((c.tc : Thread Cert.Slots.nD Cert.Slots.τ).loc Cert.Slots.main_arg2) = m ((c.tc : Thread Cert.Slots.nD Cert.Slots.τ).loc Cert.Slots.main_arg2)
      ∧ r.2.mem ((c.tc : Thread Cert.Slots.nD Cert.Slots.τ).loc Cert.Slots.main_arg3) = m ((c.tc : Thread Cert.Slots.nD Cert.Slots.τ).loc Cert.Slots.main_arg3))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
      ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1)
      ∧ r.2.mem ((c.tc : Thread Cert.SlotsIdeal.nD Cert.SlotsIdeal.τ).loc Cert.SlotsIdeal.main_arg2) = m ((c.tc : Thread Cert.SlotsIdeal.nD Cert.SlotsIdeal.τ).loc Cert.SlotsIdeal.main_arg2)
      ∧ r.2.mem ((c.tc : Thread Cert.SlotsIdeal.nD Cert.SlotsIdeal.τ).loc Cert.SlotsIdeal.main_arg3) = m ((c.tc : Thread Cert.SlotsIdeal.nD Cert.SlotsIdeal.τ).loc Cert.SlotsIdeal.main_arg3))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0)
      ∧ r.2.mem ((c.tc : Thread Cert.SlotsRefIdeal.nD Cert.SlotsRefIdeal.τ).loc Cert.SlotsRefIdeal.main_arg1) = m ((c.tc : Thread Cert.SlotsRefIdeal.nD Cert.SlotsRefIdeal.τ).loc Cert.SlotsRefIdeal.main_arg1)
      ∧ r.2.mem ((c.tc : Thread Cert.SlotsRefIdeal.nD Cert.SlotsRefIdeal.τ).loc Cert.SlotsRefIdeal.main_arg2) = m ((c.tc : Thread Cert.SlotsRefIdeal.nD Cert.SlotsRefIdeal.τ).loc Cert.SlotsRefIdeal.main_arg2)
      ∧ r.2.mem ((c.tc : Thread Cert.SlotsRefIdeal.nD Cert.SlotsRefIdeal.τ).loc Cert.SlotsRefIdeal.main_arg3) = m ((c.tc : Thread Cert.SlotsRefIdeal.nD Cert.SlotsRefIdeal.τ).loc Cert.SlotsRefIdeal.main_arg3))
      ∧ r.2.sem = fun _ => 0)

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v45) = v0 c
          ∧ r.2.mem ((c.tc : Thread Cert.InBwdRefIdeal.nD Cert.InBwdRefIdeal.τ).loc Cert.InBwdRefIdeal.main_v48) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)) (v2 : (c : Dev Cert.OutBwdIdeal.nD) → Buf (Elt Ideal) ((c.tc : Thread Cert.OutBwdIdeal.nD Cert.OutBwdIdeal.τ).loc Cert.OutBwdIdeal.main_v0_2)) (v3 : (c : Dev Cert.OutBwdIdeal.nD) → Buf (Elt Ideal) ((c.tc : Thread Cert.OutBwdIdeal.nD Cert.OutBwdIdeal.τ).loc Cert.OutBwdIdeal.main_v0_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_v0_2) = v2 c
          ∧ r.2.mem ((c.tc : Thread Cert.OutBwdIdeal.nD Cert.OutBwdIdeal.τ).loc Cert.OutBwdIdeal.main_v0_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v9) = v0 c
          ∧ r.2.mem ((c.tc : Thread Cert.OutBwdRefIdeal.nD Cert.OutBwdRefIdeal.τ).loc Cert.OutBwdRefIdeal.main_v10) = v1 c
          ∧ r.2.mem ((c.tc : Thread Cert.OutBwdRefIdeal.nD Cert.OutBwdRefIdeal.τ).loc Cert.OutBwdRefIdeal.main_v11) = v2 c
          ∧ r.2.mem ((c.tc : Thread Cert.OutBwdRefIdeal.nD Cert.OutBwdRefIdeal.τ).loc Cert.OutBwdRefIdeal.main_v7) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4))

def preserves_WgradRg_WgradRgIdeal : Prop :=
  True

def algebraic_WgradRgIdeal_WgradRgRefIdeal [hWgradRgIdeal : Cert.WgradRgIdeal.Facts] [hWgradRgRefIdeal : Cert.WgradRgRefIdeal.Facts] : Prop :=
  ∀ (m : (ℓ : Loc Cert.WgradRgIdeal.nD Cert.WgradRgIdeal.τ Cert.WgradRgIdeal.sig) → Buf (Elt Ideal) ℓ) (g : Dev Cert.WgradRgIdeal.nD → PrngReg)
    (m' : (ℓ : Loc Cert.WgradRgRefIdeal.nD Cert.WgradRgRefIdeal.τ Cert.WgradRgRefIdeal.sig) → Buf (Elt Ideal) ℓ) (g' : Dev Cert.WgradRgRefIdeal.nD → PrngReg), Pre_WgradRgIdeal m →
    (∀ c : Dev Cert.WgradRgIdeal.nD,
      m' ((c.tc : Thread Cert.WgradRgRefIdeal.nD Cert.WgradRgRefIdeal.τ).loc Cert.WgradRgRefIdeal.main_arg0) = m ((c.tc : Thread Cert.WgradRgIdeal.nD Cert.WgradRgIdeal.τ).loc Cert.WgradRgIdeal.main_arg0)
      ∧ m' ((c.tc : Thread Cert.WgradRgRefIdeal.nD Cert.WgradRgRefIdeal.τ).loc Cert.WgradRgRefIdeal.main_arg1) = m ((c.tc : Thread Cert.WgradRgIdeal.nD Cert.WgradRgIdeal.τ).loc Cert.WgradRgIdeal.main_arg1)) →
    ∃ (v0 : (c : Dev Cert.WgradRgIdeal.nD) → Buf (Elt Ideal) ((c.tc : Thread Cert.WgradRgIdeal.nD Cert.WgradRgIdeal.τ).loc Cert.WgradRgIdeal.main_v0)),
      θ_run (Cert.WgradRgIdeal.defs (F := Ideal)) (onTc (τ := Cert.WgradRgIdeal.τ) (Cert.WgradRgIdeal.main (F := Ideal))) ⟨m, fun _ => 0, g⟩ (fun r => ∀ c : Dev Cert.WgradRgIdeal.nD,
          r.2.mem ((c.tc : Thread Cert.WgradRgIdeal.nD Cert.WgradRgIdeal.τ).loc Cert.WgradRgIdeal.main_v0) = v0 c
          ∧ r.2.mem ((c.tc : Thread Cert.WgradRgIdeal.nD Cert.WgradRgIdeal.τ).loc Cert.WgradRgIdeal.main_arg0) = m ((c.tc : Thread Cert.WgradRgIdeal.nD Cert.WgradRgIdeal.τ).loc Cert.WgradRgIdeal.main_arg0)
          ∧ r.2.mem ((c.tc : Thread Cert.WgradRgIdeal.nD Cert.WgradRgIdeal.τ).loc Cert.WgradRgIdeal.main_arg1) = m ((c.tc : Thread Cert.WgradRgIdeal.nD Cert.WgradRgIdeal.τ).loc Cert.WgradRgIdeal.main_arg1))
      ∧ θ_run (Cert.WgradRgRefIdeal.defs (F := Ideal)) (onTc (τ := Cert.WgradRgRefIdeal.τ) (Cert.WgradRgRefIdeal.main (F := Ideal))) ⟨m', fun _ => 0, g'⟩ (fun r => ∀ c : Dev Cert.WgradRgRefIdeal.nD,
          r.2.mem ((c.tc : Thread Cert.WgradRgRefIdeal.nD Cert.WgradRgRefIdeal.τ).loc Cert.WgradRgRefIdeal.main_v7) = v0 c
          ∧ r.2.mem ((c.tc : Thread Cert.WgradRgRefIdeal.nD Cert.WgradRgRefIdeal.τ).loc Cert.WgradRgRefIdeal.main_arg0) = m' ((c.tc : Thread Cert.WgradRgRefIdeal.nD Cert.WgradRgRefIdeal.τ).loc Cert.WgradRgRefIdeal.main_arg0)
          ∧ r.2.mem ((c.tc : Thread Cert.WgradRgRefIdeal.nD Cert.WgradRgRefIdeal.τ).loc Cert.WgradRgRefIdeal.main_arg1) = m' ((c.tc : Thread Cert.WgradRgRefIdeal.nD Cert.WgradRgRefIdeal.τ).loc Cert.WgradRgRefIdeal.main_arg1))

def preserves_WgradMl_WgradMlIdeal : Prop :=
  True

def algebraic_WgradMlIdeal_WgradMlRefIdeal [hWgradMlIdeal : Cert.WgradMlIdeal.Facts] [hWgradMlRefIdeal : Cert.WgradMlRefIdeal.Facts] : Prop :=
  ∀ (m : (ℓ : Loc Cert.WgradMlIdeal.nD Cert.WgradMlIdeal.τ Cert.WgradMlIdeal.sig) → Buf (Elt Ideal) ℓ) (g : Dev Cert.WgradMlIdeal.nD → PrngReg)
    (m' : (ℓ : Loc Cert.WgradMlRefIdeal.nD Cert.WgradMlRefIdeal.τ Cert.WgradMlRefIdeal.sig) → Buf (Elt Ideal) ℓ) (g' : Dev Cert.WgradMlRefIdeal.nD → PrngReg), Pre_WgradMlIdeal m →
    (∀ c : Dev Cert.WgradMlIdeal.nD,
      m' ((c.tc : Thread Cert.WgradMlRefIdeal.nD Cert.WgradMlRefIdeal.τ).loc Cert.WgradMlRefIdeal.main_arg0) = m ((c.tc : Thread Cert.WgradMlIdeal.nD Cert.WgradMlIdeal.τ).loc Cert.WgradMlIdeal.main_arg0)
      ∧ m' ((c.tc : Thread Cert.WgradMlRefIdeal.nD Cert.WgradMlRefIdeal.τ).loc Cert.WgradMlRefIdeal.main_arg1) = m ((c.tc : Thread Cert.WgradMlIdeal.nD Cert.WgradMlIdeal.τ).loc Cert.WgradMlIdeal.main_arg1)) →
    ∃ (v0 : (c : Dev Cert.WgradMlIdeal.nD) → Buf (Elt Ideal) ((c.tc : Thread Cert.WgradMlIdeal.nD Cert.WgradMlIdeal.τ).loc Cert.WgradMlIdeal.main_v0)),
      θ_run (Cert.WgradMlIdeal.defs (F := Ideal)) (onTc (τ := Cert.WgradMlIdeal.τ) (Cert.WgradMlIdeal.main (F := Ideal))) ⟨m, fun _ => 0, g⟩ (fun r => ∀ c : Dev Cert.WgradMlIdeal.nD,
          r.2.mem ((c.tc : Thread Cert.WgradMlIdeal.nD Cert.WgradMlIdeal.τ).loc Cert.WgradMlIdeal.main_v0) = v0 c
          ∧ r.2.mem ((c.tc : Thread Cert.WgradMlIdeal.nD Cert.WgradMlIdeal.τ).loc Cert.WgradMlIdeal.main_arg0) = m ((c.tc : Thread Cert.WgradMlIdeal.nD Cert.WgradMlIdeal.τ).loc Cert.WgradMlIdeal.main_arg0)
          ∧ r.2.mem ((c.tc : Thread Cert.WgradMlIdeal.nD Cert.WgradMlIdeal.τ).loc Cert.WgradMlIdeal.main_arg1) = m ((c.tc : Thread Cert.WgradMlIdeal.nD Cert.WgradMlIdeal.τ).loc Cert.WgradMlIdeal.main_arg1))
      ∧ θ_run (Cert.WgradMlRefIdeal.defs (F := Ideal)) (onTc (τ := Cert.WgradMlRefIdeal.τ) (Cert.WgradMlRefIdeal.main (F := Ideal))) ⟨m', fun _ => 0, g'⟩ (fun r => ∀ c : Dev Cert.WgradMlRefIdeal.nD,
          r.2.mem ((c.tc : Thread Cert.WgradMlRefIdeal.nD Cert.WgradMlRefIdeal.τ).loc Cert.WgradMlRefIdeal.main_v7) = v0 c
          ∧ r.2.mem ((c.tc : Thread Cert.WgradMlRefIdeal.nD Cert.WgradMlRefIdeal.τ).loc Cert.WgradMlRefIdeal.main_arg0) = m' ((c.tc : Thread Cert.WgradMlRefIdeal.nD Cert.WgradMlRefIdeal.τ).loc Cert.WgradMlRefIdeal.main_arg0)
          ∧ r.2.mem ((c.tc : Thread Cert.WgradMlRefIdeal.nD Cert.WgradMlRefIdeal.τ).loc Cert.WgradMlRefIdeal.main_arg1) = m' ((c.tc : Thread Cert.WgradMlRefIdeal.nD Cert.WgradMlRefIdeal.τ).loc Cert.WgradMlRefIdeal.main_arg1))

def preserves_WgradGd_WgradGdIdeal : Prop :=
  True

def algebraic_WgradGdIdeal_WgradGdRefIdeal [hWgradGdIdeal : Cert.WgradGdIdeal.Facts] [hWgradGdRefIdeal : Cert.WgradGdRefIdeal.Facts] : Prop :=
  ∀ (m : (ℓ : Loc Cert.WgradGdIdeal.nD Cert.WgradGdIdeal.τ Cert.WgradGdIdeal.sig) → Buf (Elt Ideal) ℓ) (g : Dev Cert.WgradGdIdeal.nD → PrngReg)
    (m' : (ℓ : Loc Cert.WgradGdRefIdeal.nD Cert.WgradGdRefIdeal.τ Cert.WgradGdRefIdeal.sig) → Buf (Elt Ideal) ℓ) (g' : Dev Cert.WgradGdRefIdeal.nD → PrngReg), Pre_WgradGdIdeal m →
    (∀ c : Dev Cert.WgradGdIdeal.nD,
      m' ((c.tc : Thread Cert.WgradGdRefIdeal.nD Cert.WgradGdRefIdeal.τ).loc Cert.WgradGdRefIdeal.main_arg0) = m ((c.tc : Thread Cert.WgradGdIdeal.nD Cert.WgradGdIdeal.τ).loc Cert.WgradGdIdeal.main_arg0)
      ∧ m' ((c.tc : Thread Cert.WgradGdRefIdeal.nD Cert.WgradGdRefIdeal.τ).loc Cert.WgradGdRefIdeal.main_arg1) = m ((c.tc : Thread Cert.WgradGdIdeal.nD Cert.WgradGdIdeal.τ).loc Cert.WgradGdIdeal.main_arg1)) →
    ∃ (v0 : (c : Dev Cert.WgradGdIdeal.nD) → Buf (Elt Ideal) ((c.tc : Thread Cert.WgradGdIdeal.nD Cert.WgradGdIdeal.τ).loc Cert.WgradGdIdeal.main_v0)),
      θ_run (Cert.WgradGdIdeal.defs (F := Ideal)) (onTc (τ := Cert.WgradGdIdeal.τ) (Cert.WgradGdIdeal.main (F := Ideal))) ⟨m, fun _ => 0, g⟩ (fun r => ∀ c : Dev Cert.WgradGdIdeal.nD,
          r.2.mem ((c.tc : Thread Cert.WgradGdIdeal.nD Cert.WgradGdIdeal.τ).loc Cert.WgradGdIdeal.main_v0) = v0 c
          ∧ r.2.mem ((c.tc : Thread Cert.WgradGdIdeal.nD Cert.WgradGdIdeal.τ).loc Cert.WgradGdIdeal.main_arg0) = m ((c.tc : Thread Cert.WgradGdIdeal.nD Cert.WgradGdIdeal.τ).loc Cert.WgradGdIdeal.main_arg0)
          ∧ r.2.mem ((c.tc : Thread Cert.WgradGdIdeal.nD Cert.WgradGdIdeal.τ).loc Cert.WgradGdIdeal.main_arg1) = m ((c.tc : Thread Cert.WgradGdIdeal.nD Cert.WgradGdIdeal.τ).loc Cert.WgradGdIdeal.main_arg1))
      ∧ θ_run (Cert.WgradGdRefIdeal.defs (F := Ideal)) (onTc (τ := Cert.WgradGdRefIdeal.τ) (Cert.WgradGdRefIdeal.main (F := Ideal))) ⟨m', fun _ => 0, g'⟩ (fun r => ∀ c : Dev Cert.WgradGdRefIdeal.nD,
          r.2.mem ((c.tc : Thread Cert.WgradGdRefIdeal.nD Cert.WgradGdRefIdeal.τ).loc Cert.WgradGdRefIdeal.main_v7) = v0 c
          ∧ r.2.mem ((c.tc : Thread Cert.WgradGdRefIdeal.nD Cert.WgradGdRefIdeal.τ).loc Cert.WgradGdRefIdeal.main_arg0) = m' ((c.tc : Thread Cert.WgradGdRefIdeal.nD Cert.WgradGdRefIdeal.τ).loc Cert.WgradGdRefIdeal.main_arg0)
          ∧ r.2.mem ((c.tc : Thread Cert.WgradGdRefIdeal.nD Cert.WgradGdRefIdeal.τ).loc Cert.WgradGdRefIdeal.main_arg1) = m' ((c.tc : Thread Cert.WgradGdRefIdeal.nD Cert.WgradGdRefIdeal.τ).loc Cert.WgradGdRefIdeal.main_arg1))

def preserves_WgradSm_WgradSmIdeal : Prop :=
  True

def algebraic_WgradSmIdeal_WgradSmRefIdeal [hWgradSmIdeal : Cert.WgradSmIdeal.Facts] [hWgradSmRefIdeal : Cert.WgradSmRefIdeal.Facts] : Prop :=
  ∀ (m : (ℓ : Loc Cert.WgradSmIdeal.nD Cert.WgradSmIdeal.τ Cert.WgradSmIdeal.sig) → Buf (Elt Ideal) ℓ) (g : Dev Cert.WgradSmIdeal.nD → PrngReg)
    (m' : (ℓ : Loc Cert.WgradSmRefIdeal.nD Cert.WgradSmRefIdeal.τ Cert.WgradSmRefIdeal.sig) → Buf (Elt Ideal) ℓ) (g' : Dev Cert.WgradSmRefIdeal.nD → PrngReg), Pre_WgradSmIdeal m →
    (∀ c : Dev Cert.WgradSmIdeal.nD,
      m' ((c.tc : Thread Cert.WgradSmRefIdeal.nD Cert.WgradSmRefIdeal.τ).loc Cert.WgradSmRefIdeal.main_arg0) = m ((c.tc : Thread Cert.WgradSmIdeal.nD Cert.WgradSmIdeal.τ).loc Cert.WgradSmIdeal.main_arg0)
      ∧ m' ((c.tc : Thread Cert.WgradSmRefIdeal.nD Cert.WgradSmRefIdeal.τ).loc Cert.WgradSmRefIdeal.main_arg1) = m ((c.tc : Thread Cert.WgradSmIdeal.nD Cert.WgradSmIdeal.τ).loc Cert.WgradSmIdeal.main_arg1)
      ∧ m' ((c.tc : Thread Cert.WgradSmRefIdeal.nD Cert.WgradSmRefIdeal.τ).loc Cert.WgradSmRefIdeal.main_arg2) = m ((c.tc : Thread Cert.WgradSmIdeal.nD Cert.WgradSmIdeal.τ).loc Cert.WgradSmIdeal.main_arg2)) →
    ∃ (v0 : (c : Dev Cert.WgradSmIdeal.nD) → Buf (Elt Ideal) ((c.tc : Thread Cert.WgradSmIdeal.nD Cert.WgradSmIdeal.τ).loc Cert.WgradSmIdeal.main_v0)),
      θ_run (Cert.WgradSmIdeal.defs (F := Ideal)) (onTc (τ := Cert.WgradSmIdeal.τ) (Cert.WgradSmIdeal.main (F := Ideal))) ⟨m, fun _ => 0, g⟩ (fun r => ∀ c : Dev Cert.WgradSmIdeal.nD,
          r.2.mem ((c.tc : Thread Cert.WgradSmIdeal.nD Cert.WgradSmIdeal.τ).loc Cert.WgradSmIdeal.main_v0) = v0 c
          ∧ r.2.mem ((c.tc : Thread Cert.WgradSmIdeal.nD Cert.WgradSmIdeal.τ).loc Cert.WgradSmIdeal.main_arg0) = m ((c.tc : Thread Cert.WgradSmIdeal.nD Cert.WgradSmIdeal.τ).loc Cert.WgradSmIdeal.main_arg0)
          ∧ r.2.mem ((c.tc : Thread Cert.WgradSmIdeal.nD Cert.WgradSmIdeal.τ).loc Cert.WgradSmIdeal.main_arg1) = m ((c.tc : Thread Cert.WgradSmIdeal.nD Cert.WgradSmIdeal.τ).loc Cert.WgradSmIdeal.main_arg1)
          ∧ r.2.mem ((c.tc : Thread Cert.WgradSmIdeal.nD Cert.WgradSmIdeal.τ).loc Cert.WgradSmIdeal.main_arg2) = m ((c.tc : Thread Cert.WgradSmIdeal.nD Cert.WgradSmIdeal.τ).loc Cert.WgradSmIdeal.main_arg2))
      ∧ θ_run (Cert.WgradSmRefIdeal.defs (F := Ideal)) (onTc (τ := Cert.WgradSmRefIdeal.τ) (Cert.WgradSmRefIdeal.main (F := Ideal))) ⟨m', fun _ => 0, g'⟩ (fun r => ∀ c : Dev Cert.WgradSmRefIdeal.nD,
          r.2.mem ((c.tc : Thread Cert.WgradSmRefIdeal.nD Cert.WgradSmRefIdeal.τ).loc Cert.WgradSmRefIdeal.main_v7) = v0 c
          ∧ r.2.mem ((c.tc : Thread Cert.WgradSmRefIdeal.nD Cert.WgradSmRefIdeal.τ).loc Cert.WgradSmRefIdeal.main_arg0) = m' ((c.tc : Thread Cert.WgradSmRefIdeal.nD Cert.WgradSmRefIdeal.τ).loc Cert.WgradSmRefIdeal.main_arg0)
          ∧ r.2.mem ((c.tc : Thread Cert.WgradSmRefIdeal.nD Cert.WgradSmRefIdeal.τ).loc Cert.WgradSmRefIdeal.main_arg1) = m' ((c.tc : Thread Cert.WgradSmRefIdeal.nD Cert.WgradSmRefIdeal.τ).loc Cert.WgradSmRefIdeal.main_arg1)
          ∧ r.2.mem ((c.tc : Thread Cert.WgradSmRefIdeal.nD Cert.WgradSmRefIdeal.τ).loc Cert.WgradSmRefIdeal.main_arg2) = m' ((c.tc : Thread Cert.WgradSmRefIdeal.nD Cert.WgradSmRefIdeal.τ).loc Cert.WgradSmRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v15) = v0 c
          ∧ r.2.mem ((c.tc : Thread Cert.InFwdRefIdeal.nD Cert.InFwdRefIdeal.τ).loc Cert.InFwdRefIdeal.main_v17) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v6) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v51) = v0 c
          ∧ r.2.mem ((c.tc : Thread Cert.HeadRefIdeal.nD Cert.HeadRefIdeal.τ).loc Cert.HeadRefIdeal.main_v52) = v1 c
          ∧ r.2.mem ((c.tc : Thread Cert.HeadRefIdeal.nD Cert.HeadRefIdeal.τ).loc Cert.HeadRefIdeal.main_v55) = v2 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Regroup_RegroupIdeal : Prop :=
  True

def algebraic_RegroupIdeal_RegroupRefIdeal [hRegroupIdeal : Cert.RegroupIdeal.Facts] [hRegroupRefIdeal : Cert.RegroupRefIdeal.Facts] : Prop :=
  ∀ (m : (ℓ : Loc Cert.RegroupIdeal.nD Cert.RegroupIdeal.τ Cert.RegroupIdeal.sig) → Buf (Elt Ideal) ℓ) (g : Dev Cert.RegroupIdeal.nD → PrngReg)
    (m' : (ℓ : Loc Cert.RegroupRefIdeal.nD Cert.RegroupRefIdeal.τ Cert.RegroupRefIdeal.sig) → Buf (Elt Ideal) ℓ) (g' : Dev Cert.RegroupRefIdeal.nD → PrngReg), Pre_RegroupIdeal m →
    (∀ c : Dev Cert.RegroupIdeal.nD,
      m' ((c.tc : Thread Cert.RegroupRefIdeal.nD Cert.RegroupRefIdeal.τ).loc Cert.RegroupRefIdeal.main_arg0) = m ((c.tc : Thread Cert.RegroupIdeal.nD Cert.RegroupIdeal.τ).loc Cert.RegroupIdeal.main_arg0)) →
    ∃ (v0 : (c : Dev Cert.RegroupIdeal.nD) → Buf (Elt Ideal) ((c.tc : Thread Cert.RegroupIdeal.nD Cert.RegroupIdeal.τ).loc Cert.RegroupIdeal.main_v0)),
      θ_run (Cert.RegroupIdeal.defs (F := Ideal)) (onTc (τ := Cert.RegroupIdeal.τ) (Cert.RegroupIdeal.main (F := Ideal))) ⟨m, fun _ => 0, g⟩ (fun r => ∀ c : Dev Cert.RegroupIdeal.nD,
          r.2.mem ((c.tc : Thread Cert.RegroupIdeal.nD Cert.RegroupIdeal.τ).loc Cert.RegroupIdeal.main_v0) = v0 c
          ∧ r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ θ_run (Cert.RegroupRefIdeal.defs (F := Ideal)) (onTc (τ := Cert.RegroupRefIdeal.τ) (Cert.RegroupRefIdeal.main (F := Ideal))) ⟨m', fun _ => 0, g'⟩ (fun r => ∀ c : Dev Cert.RegroupRefIdeal.nD,
          r.2.mem ((c.tc : Thread Cert.RegroupRefIdeal.nD Cert.RegroupRefIdeal.τ).loc Cert.RegroupRefIdeal.main_v22) = v0 c
          ∧ r.2.mem ((c.tc : Thread Cert.RegroupRefIdeal.nD Cert.RegroupRefIdeal.τ).loc Cert.RegroupRefIdeal.main_arg0) = m' ((c.tc : Thread Cert.RegroupRefIdeal.nD Cert.RegroupRefIdeal.τ).loc Cert.RegroupRefIdeal.main_arg0))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)
      ∧ m' ((c.tc : Thread Cert.SlotsRefIdeal.nD Cert.SlotsRefIdeal.τ).loc Cert.SlotsRefIdeal.main_arg1) = m ((c.tc : Thread Cert.SlotsIdeal.nD Cert.SlotsIdeal.τ).loc Cert.SlotsIdeal.main_arg1)
      ∧ m' ((c.tc : Thread Cert.SlotsRefIdeal.nD Cert.SlotsRefIdeal.τ).loc Cert.SlotsRefIdeal.main_arg2) = m ((c.tc : Thread Cert.SlotsIdeal.nD Cert.SlotsIdeal.τ).loc Cert.SlotsIdeal.main_arg2)
      ∧ m' ((c.tc : Thread Cert.SlotsRefIdeal.nD Cert.SlotsRefIdeal.τ).loc Cert.SlotsRefIdeal.main_arg3) = m ((c.tc : Thread Cert.SlotsIdeal.nD Cert.SlotsIdeal.τ).loc Cert.SlotsIdeal.main_arg3)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
          ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1)
          ∧ r.2.mem ((c.tc : Thread Cert.SlotsIdeal.nD Cert.SlotsIdeal.τ).loc Cert.SlotsIdeal.main_arg2) = m ((c.tc : Thread Cert.SlotsIdeal.nD Cert.SlotsIdeal.τ).loc Cert.SlotsIdeal.main_arg2)
          ∧ r.2.mem ((c.tc : Thread Cert.SlotsIdeal.nD Cert.SlotsIdeal.τ).loc Cert.SlotsIdeal.main_arg3) = m ((c.tc : Thread Cert.SlotsIdeal.nD Cert.SlotsIdeal.τ).loc Cert.SlotsIdeal.main_arg3))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v19) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0)
          ∧ r.2.mem ((c.tc : Thread Cert.SlotsRefIdeal.nD Cert.SlotsRefIdeal.τ).loc Cert.SlotsRefIdeal.main_arg1) = m' ((c.tc : Thread Cert.SlotsRefIdeal.nD Cert.SlotsRefIdeal.τ).loc Cert.SlotsRefIdeal.main_arg1)
          ∧ r.2.mem ((c.tc : Thread Cert.SlotsRefIdeal.nD Cert.SlotsRefIdeal.τ).loc Cert.SlotsRefIdeal.main_arg2) = m' ((c.tc : Thread Cert.SlotsRefIdeal.nD Cert.SlotsRefIdeal.τ).loc Cert.SlotsRefIdeal.main_arg2)
          ∧ r.2.mem ((c.tc : Thread Cert.SlotsRefIdeal.nD Cert.SlotsRefIdeal.τ).loc Cert.SlotsRefIdeal.main_arg3) = m' ((c.tc : Thread Cert.SlotsRefIdeal.nD Cert.SlotsRefIdeal.τ).loc Cert.SlotsRefIdeal.main_arg3))

def Claim : Prop :=
  ∃ (hInBwd : Cert.InBwd.Facts) (hInBwdIdeal : Cert.InBwdIdeal.Facts) (hInBwdRefIdeal : Cert.InBwdRefIdeal.Facts) (hOutBwd : Cert.OutBwd.Facts) (hOutBwdIdeal : Cert.OutBwdIdeal.Facts) (hOutBwdRefIdeal : Cert.OutBwdRefIdeal.Facts) (hWgradRg : Cert.WgradRg.Facts) (hWgradRgIdeal : Cert.WgradRgIdeal.Facts) (hWgradRgRefIdeal : Cert.WgradRgRefIdeal.Facts) (hWgradMl : Cert.WgradMl.Facts) (hWgradMlIdeal : Cert.WgradMlIdeal.Facts) (hWgradMlRefIdeal : Cert.WgradMlRefIdeal.Facts) (hWgradGd : Cert.WgradGd.Facts) (hWgradGdIdeal : Cert.WgradGdIdeal.Facts) (hWgradGdRefIdeal : Cert.WgradGdRefIdeal.Facts) (hWgradSm : Cert.WgradSm.Facts) (hWgradSmIdeal : Cert.WgradSmIdeal.Facts) (hWgradSmRefIdeal : Cert.WgradSmRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hHead : Cert.Head.Facts) (hHeadIdeal : Cert.HeadIdeal.Facts) (hHeadRefIdeal : Cert.HeadRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hRegroup : Cert.Regroup.Facts) (hRegroupIdeal : Cert.RegroupIdeal.Facts) (hRegroupRefIdeal : Cert.RegroupRefIdeal.Facts) (hSlots : Cert.Slots.Facts) (hSlotsIdeal : Cert.SlotsIdeal.Facts) (hSlotsRefIdeal : Cert.SlotsRefIdeal.Facts),
    quiescent_InBwd (hInBwd := hInBwd)
    ∧ quiescent_InBwdIdeal (hInBwdIdeal := hInBwdIdeal)
    ∧ quiescent_InBwdRefIdeal (hInBwdRefIdeal := hInBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_WgradRg (hWgradRg := hWgradRg)
    ∧ quiescent_WgradRgIdeal (hWgradRgIdeal := hWgradRgIdeal)
    ∧ quiescent_WgradRgRefIdeal (hWgradRgRefIdeal := hWgradRgRefIdeal)
    ∧ quiescent_WgradMl (hWgradMl := hWgradMl)
    ∧ quiescent_WgradMlIdeal (hWgradMlIdeal := hWgradMlIdeal)
    ∧ quiescent_WgradMlRefIdeal (hWgradMlRefIdeal := hWgradMlRefIdeal)
    ∧ quiescent_WgradGd (hWgradGd := hWgradGd)
    ∧ quiescent_WgradGdIdeal (hWgradGdIdeal := hWgradGdIdeal)
    ∧ quiescent_WgradGdRefIdeal (hWgradGdRefIdeal := hWgradGdRefIdeal)
    ∧ quiescent_WgradSm (hWgradSm := hWgradSm)
    ∧ quiescent_WgradSmIdeal (hWgradSmIdeal := hWgradSmIdeal)
    ∧ quiescent_WgradSmRefIdeal (hWgradSmRefIdeal := hWgradSmRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Head (hHead := hHead)
    ∧ quiescent_HeadIdeal (hHeadIdeal := hHeadIdeal)
    ∧ quiescent_HeadRefIdeal (hHeadRefIdeal := hHeadRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Regroup (hRegroup := hRegroup)
    ∧ quiescent_RegroupIdeal (hRegroupIdeal := hRegroupIdeal)
    ∧ quiescent_RegroupRefIdeal (hRegroupRefIdeal := hRegroupRefIdeal)
    ∧ quiescent_Slots (hSlots := hSlots)
    ∧ quiescent_SlotsIdeal (hSlotsIdeal := hSlotsIdeal)
    ∧ quiescent_SlotsRefIdeal (hSlotsRefIdeal := hSlotsRefIdeal)
    ∧ preserves_InBwd_InBwdIdeal
    ∧ algebraic_InBwdIdeal_InBwdRefIdeal (hInBwdIdeal := hInBwdIdeal) (hInBwdRefIdeal := hInBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_WgradRg_WgradRgIdeal
    ∧ algebraic_WgradRgIdeal_WgradRgRefIdeal (hWgradRgIdeal := hWgradRgIdeal) (hWgradRgRefIdeal := hWgradRgRefIdeal)
    ∧ preserves_WgradMl_WgradMlIdeal
    ∧ algebraic_WgradMlIdeal_WgradMlRefIdeal (hWgradMlIdeal := hWgradMlIdeal) (hWgradMlRefIdeal := hWgradMlRefIdeal)
    ∧ preserves_WgradGd_WgradGdIdeal
    ∧ algebraic_WgradGdIdeal_WgradGdRefIdeal (hWgradGdIdeal := hWgradGdIdeal) (hWgradGdRefIdeal := hWgradGdRefIdeal)
    ∧ preserves_WgradSm_WgradSmIdeal
    ∧ algebraic_WgradSmIdeal_WgradSmRefIdeal (hWgradSmIdeal := hWgradSmIdeal) (hWgradSmRefIdeal := hWgradSmRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Head_HeadIdeal
    ∧ algebraic_HeadIdeal_HeadRefIdeal (hHeadIdeal := hHeadIdeal) (hHeadRefIdeal := hHeadRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Regroup_RegroupIdeal
    ∧ algebraic_RegroupIdeal_RegroupRefIdeal (hRegroupIdeal := hRegroupIdeal) (hRegroupRefIdeal := hRegroupRefIdeal)
    ∧ preserves_Slots_SlotsIdeal
    ∧ algebraic_SlotsIdeal_SlotsRefIdeal (hSlotsIdeal := hSlotsIdeal) (hSlotsRefIdeal := hSlotsRefIdeal)
-- ==== InBwd.lean ====
abbrev S2048x1024 : Shape := ⟨2, ![2048, 1024]⟩
abbrev S1x1024 : Shape := ⟨2, ![1, 1024]⟩
abbrev S1024x5760 : Shape := ⟨2, ![1024, 5760]⟩
abbrev S2048x2560 : Shape := ⟨2, ![2048, 2560]⟩
abbrev S2048x2048 : Shape := ⟨2, ![2048, 2048]⟩
abbrev S2048x128 : Shape := ⟨2, ![2048, 128]⟩
abbrev S8x1024 : Shape := ⟨2, ![8, 1024]⟩
abbrev S256x1024 : Shape := ⟨2, ![256, 1024]⟩
abbrev S256x2560 : Shape := ⟨2, ![256, 2560]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩
abbrev S1024x2560 : Shape := ⟨2, ![1024, 2560]⟩
abbrev S1024x2048 : Shape := ⟨2, ![1024, 2048]⟩
abbrev S1024x128 : Shape := ⟨2, ![1024, 128]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5760, .bf16⟩
  | .hbm, ⟨3, _⟩ => ⟨S2048x1024, .f32⟩
  | .hbm, ⟨4, _⟩ => ⟨S2048x1024, .bf16⟩
  | .hbm, ⟨5, _⟩ => ⟨S2048x2560, .bf16⟩
  | .hbm, ⟨6, _⟩ => ⟨S2048x2048, .bf16⟩
  | .hbm, ⟨7, _⟩ => ⟨S2048x128, .f32⟩
  | .hbm, ⟨8, _⟩ => ⟨S2048x128, .f32⟩
  | .hbm, ⟨9, _⟩ => ⟨S2048x1024, .f32⟩
  | .hbm, ⟨10, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5760, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2560, .bf16⟩
  | .local _ .vmem, ⟨9, _⟩ => ⟨S256x2560, .bf16⟩
  | .local _ .vmem, ⟨10, _⟩ => ⟨S256x2048, .bf16⟩
  | .local _ .vmem, ⟨11, _⟩ => ⟨S256x2048, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InBwdRefIdeal.lean ====
abbrev S2048x1024 : Shape := ⟨2, ![2048, 1024]⟩
abbrev S1x1024 : Shape := ⟨2, ![1, 1024]⟩
abbrev S1024x5760 : Shape := ⟨2, ![1024, 5760]⟩
abbrev S2048x2560 : Shape := ⟨2, ![2048, 2560]⟩
abbrev S2048x2048 : Shape := ⟨2, ![2048, 2048]⟩
abbrev S2048x128 : Shape := ⟨2, ![2048, 128]⟩
abbrev S2048x5760 : Shape := ⟨2, ![2048, 5760]⟩
abbrev S1024 : Shape := ⟨1, ![1024]⟩
abbrev S_ : Shape := ⟨0, ![]⟩
abbrev S2048 : Shape := ⟨1, ![2048]⟩
abbrev S2048x1 : Shape := ⟨2, ![2048, 1]⟩
abbrev S7x1024 : Shape := ⟨2, ![7, 1024]⟩
abbrev S8x1024 : Shape := ⟨2, ![8, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5760, .bf16⟩
  | .hbm, ⟨3, _⟩ => ⟨S2048x1024, .f32⟩
  | .hbm, ⟨4, _⟩ => ⟨S2048x1024, .bf16⟩
  | .hbm, ⟨5, _⟩ => ⟨S2048x2560, .bf16⟩
  | .hbm, ⟨6, _⟩ => ⟨S2048x2048, .bf16⟩
  | .hbm, ⟨7, _⟩ => ⟨S2048x128, .f32⟩
  | .hbm, ⟨8, _⟩ => ⟨S2048x128, .f32⟩
  | .hbm, ⟨9, _⟩ => ⟨S2048x1024, .f32⟩
  | .hbm, ⟨10, _⟩ => ⟨S2048x2560, .f32⟩
  | .hbm, ⟨11, _⟩ => ⟨S2048x2048, .f32⟩
  | .hbm, ⟨12, _⟩ => ⟨S2048x128, .f32⟩
  | .hbm, ⟨13, _⟩ => ⟨S2048x5760, .f32⟩
  | .hbm, ⟨14, _⟩ => ⟨S1024x5760, .f32⟩
  | .hbm, ⟨15, _⟩ => ⟨S1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x5760, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1x1024, .f32⟩
  | .hbm, ⟨65, _⟩ => ⟨S_, .f32⟩
  | .hbm, ⟨66, _⟩ => ⟨S7x1024, .f32⟩
  | .hbm, ⟨67, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== OutBwd.lean ====
abbrev S2048x1024 : Shape := ⟨2, ![2048, 1024]⟩
abbrev S2048x512 : Shape := ⟨2, ![2048, 512]⟩
abbrev S1536x1024 : Shape := ⟨2, ![1536, 1024]⟩
abbrev S256x1024 : Shape := ⟨2, ![256, 1024]⟩
abbrev S256x512 : Shape := ⟨2, ![256, 512]⟩
abbrev S512x1024 : Shape := ⟨2, ![512, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S1536x1024, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1536x1024, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S1536x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutBwdRefIdeal.lean ====
abbrev S2048x1024 : Shape := ⟨2, ![2048, 1024]⟩
abbrev S2048x512 : Shape := ⟨2, ![2048, 512]⟩
abbrev S1536x1024 : Shape := ⟨2, ![1536, 1024]⟩
abbrev S2048x1536 : Shape := ⟨2, ![2048, 1536]⟩
abbrev S1024x1536 : Shape := ⟨2, ![1024, 1536]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S1536x1024, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S1536x1024, .f32⟩
  | .hbm, ⟨9, _⟩ => ⟨S2048x1536, .f32⟩
  | .hbm, ⟨10, _⟩ => ⟨S2048x1024, .f32⟩
  | .hbm, ⟨11, _⟩ => ⟨S1024x1536, .f32⟩
  | .hbm, ⟨12, _⟩ => ⟨S1536x1024, .f32⟩
  | .hbm, ⟨13, _⟩ => ⟨S2048x1536, .f32⟩
  | .hbm, ⟨14, _⟩ => ⟨S2048x512, .f32⟩
  | .hbm, ⟨15, _⟩ => ⟨S2048x512, .f32⟩
  | .hbm, ⟨16, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== WgradRg.lean ====
abbrev S1024x2048 : Shape := ⟨2, ![1024, 2048]⟩
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .bf16⟩
  | .hbm, ⟨2, _⟩ => ⟨S1024x1024, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradRgIdeal.lean ====
abbrev S1024x2048 : Shape := ⟨2, ![1024, 2048]⟩
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .bf16⟩
  | .hbm, ⟨2, _⟩ => ⟨S1024x1024, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradRgRefIdeal.lean ====
abbrev S1024x2048 : Shape := ⟨2, ![1024, 2048]⟩
abbrev S2048x1024 : Shape := ⟨2, ![2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .bf16⟩
  | .hbm, ⟨2, _⟩ => ⟨S1024x2048, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradMl.lean ====
abbrev S1024x2048 : Shape := ⟨2, ![1024, 2048]⟩
abbrev S2048x2560 : Shape := ⟨2, ![2048, 2560]⟩
abbrev S1024x2560 : Shape := ⟨2, ![1024, 2560]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x2560, .bf16⟩
  | .hbm, ⟨2, _⟩ => ⟨S1024x2560, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradMlIdeal.lean ====
abbrev S1024x2048 : Shape := ⟨2, ![1024, 2048]⟩
abbrev S2048x2560 : Shape := ⟨2, ![2048, 2560]⟩
abbrev S1024x2560 : Shape := ⟨2, ![1024, 2560]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x2560, .bf16⟩
  | .hbm, ⟨2, _⟩ => ⟨S1024x2560, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradMlRefIdeal.lean ====
abbrev S1024x2048 : Shape := ⟨2, ![1024, 2048]⟩
abbrev S2048x2560 : Shape := ⟨2, ![2048, 2560]⟩
abbrev S2048x1024 : Shape := ⟨2, ![2048, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2560, .bf16⟩
  | .hbm, ⟨2, _⟩ => ⟨S1024x2048, .f32⟩
  | .hbm, ⟨3, _⟩ => ⟨S2048x1024, .f32⟩
  | .hbm, ⟨4, _⟩ => ⟨S2048x2560, .f32⟩
  | .hbm, ⟨5, _⟩ => ⟨S_, .f32⟩
  | .hbm, ⟨6, _⟩ => ⟨S1024x2560, .f32⟩
  | .hbm, ⟨7, _⟩ => ⟨S2048x2560, .f32⟩
  | .hbm, ⟨8, _⟩ => ⟨S2560x1024, .f32⟩
  | .hbm, ⟨9, _⟩ => ⟨S1024x2560, .f32⟩
  | .hbm, ⟨10, _⟩ => ⟨S1024x2560, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradGd.lean ====
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradGdIdeal.lean ====
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradGdRefIdeal.lean ====
abbrev S1024x2048 : Shape := ⟨2, ![1024, 2048]⟩
abbrev S2048x2048 : Shape := ⟨2, ![2048, 2048]⟩
abbrev S2048x1024 : Shape := ⟨2, ![2048, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S2048x1024, .f32⟩
  | .hbm, ⟨4, _⟩ => ⟨S2048x2048, .f32⟩
  | .hbm, ⟨5, _⟩ => ⟨S_, .f32⟩
  | .hbm, ⟨6, _⟩ => ⟨S1024x2048, .f32⟩
  | .hbm, ⟨7, _⟩ => ⟨S2048x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradSm.lean ====
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 4
  | .vmem => 4
  | .smem => 0
  | _ => 0

abbrev bufTy : (tb : Table) → Fin (tcTables nBuf tb) → BufTy
  | .hbm, ⟨0, _⟩ => ⟨S1024x2048, .bf16⟩
  | .hbm, ⟨1, _⟩ => ⟨S2048x128, .f32⟩
  | .hbm, ⟨2, _⟩ => ⟨S2048x128, .f32⟩
  | .hbm, ⟨3, _⟩ => ⟨S1024x128, .bf16⟩
  | .local _ .vmem, ⟨0, _⟩ => ⟨S1024x2048, .bf16⟩
  | .local _ .vmem, ⟨1, _⟩ => ⟨S2048x128, .f32⟩
  | .local _ .vmem, ⟨2, _⟩ => ⟨S2048x128, .f32⟩
  | .local _ .vmem, ⟨3, _⟩ => ⟨S1024x128, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== WgradSmIdeal.lean ====
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 4
  | .vmem => 4
  | .smem => 0
  | _ => 0

abbrev bufTy : (tb : Table) → Fin (tcTables nBuf tb) → BufTy
  | .hbm, ⟨0, _⟩ => ⟨S1024x2048, .bf16⟩
  | .hbm, ⟨1, _⟩ => ⟨S2048x128, .f32⟩
  | .hbm, ⟨2, _⟩ => ⟨S2048x128, .f32⟩
  | .hbm, ⟨3, _⟩ => ⟨S1024x128, .bf16⟩
  | .local _ .vmem, ⟨0, _⟩ => ⟨S1024x2048, .bf16⟩
  | .local _ .vmem, ⟨1, _⟩ => ⟨S2048x128, .f32⟩
  | .local _ .vmem, ⟨2, _⟩ => ⟨S2048x128, .f32⟩
  | .local _ .vmem, ⟨3, _⟩ => ⟨S1024x128, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== WgradSmRefIdeal.lean ====
abbrev S1024x2048 : Shape := ⟨2, ![1024, 2048]⟩
abbrev S2048x128 : Shape := ⟨2, ![2048, 128]⟩
abbrev S2048x1024 : Shape := ⟨2, ![2048, 1024]⟩
abbrev S_ : Shape := ⟨0, ![]⟩
abbrev S1024x128 : Shape := ⟨2, ![1024, 128]⟩
abbrev S128x1024 : Shape := ⟨2, ![128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x128, .f32⟩
  | .hbm, ⟨2, _⟩ => ⟨S2048x128, .f32⟩
  | .hbm, ⟨3, _⟩ => ⟨S1024x2048, .f32⟩
  | .hbm, ⟨4, _⟩ => ⟨S2048x1024, .f32⟩
  | .hbm, ⟨5, _⟩ => ⟨S2048x128, .f32⟩
  | .hbm, ⟨6, _⟩ => ⟨S_, .f32⟩
  | .hbm, ⟨7, _⟩ => ⟨S1024x128, .f32⟩
  | .hbm, ⟨8, _⟩ => ⟨S2048x128, .f32⟩
  | .hbm, ⟨9, _⟩ => ⟨S128x1024, .f32⟩
  | .hbm, ⟨10, _⟩ => ⟨S1024x128, .f32⟩
  | .hbm, ⟨11, _⟩ => ⟨S1024x128, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InFwd.lean ====
abbrev S2048x1024 : Shape := ⟨2, ![2048, 1024]⟩
abbrev S1x1024 : Shape := ⟨2, ![1, 1024]⟩
abbrev S1024x5760 : Shape := ⟨2, ![1024, 5760]⟩
abbrev S2048x5760 : Shape := ⟨2, ![2048, 5760]⟩
abbrev S1024x2048 : Shape := ⟨2, ![1024, 2048]⟩
abbrev S256x1024 : Shape := ⟨2, ![256, 1024]⟩
abbrev S256x5760 : Shape := ⟨2, ![256, 5760]⟩
abbrev S1024x256 : Shape := ⟨2, ![1024, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5760, .bf16⟩
  | .hbm, ⟨3, _⟩ => ⟨S2048x5760, .f32⟩
  | .hbm, ⟨4, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5760, .bf16⟩
  | .local _ .vmem, ⟨4, _⟩ => ⟨S256x5760, .f32⟩
  | .local _ .vmem, ⟨5, _⟩ => ⟨S256x5760, .f32⟩
  | .local _ .vmem, ⟨6, _⟩ => ⟨S1024x256, .bf16⟩
  | .local _ .vmem, ⟨7, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5760 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S2048x1024 : Shape := ⟨2, ![2048, 1024]⟩
abbrev S1x1024 : Shape := ⟨2, ![1, 1024]⟩
abbrev S1024x5760 : Shape := ⟨2, ![1024, 5760]⟩
abbrev S_ : Shape := ⟨0, ![]⟩
abbrev S2048 : Shape := ⟨1, ![2048]⟩
abbrev S2048x1 : Shape := ⟨2, ![2048, 1]⟩
abbrev S1024 : Shape := ⟨1, ![1024]⟩
abbrev S2048x5760 : Shape := ⟨2, ![2048, 5760]⟩
abbrev S1024x2048 : Shape := ⟨2, ![1024, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5760, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1024x5760, .f32⟩
  | .hbm, ⟨21, _⟩ => ⟨S2048x5760, .f32⟩
  | .hbm, ⟨22, _⟩ => ⟨S1024x2048, .f32⟩
  | .hbm, ⟨23, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OutFwd.lean ====
abbrev S2048x1024 : Shape := ⟨2, ![2048, 1024]⟩
abbrev S2048x512 : Shape := ⟨2, ![2048, 512]⟩
abbrev S1536x1024 : Shape := ⟨2, ![1536, 1024]⟩
abbrev S256x1024 : Shape := ⟨2, ![256, 1024]⟩
abbrev S256x512 : Shape := ⟨2, ![256, 512]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S1536x1024, .bf16⟩
  | .hbm, ⟨5, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1536x1024, .bf16⟩
  | .local _ .vmem, ⟨9, _⟩ => ⟨S256x1024, .f32⟩
  | .local _ .vmem, ⟨10, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S2048x1024 : Shape := ⟨2, ![2048, 1024]⟩
abbrev S2048x512 : Shape := ⟨2, ![2048, 512]⟩
abbrev S1536x1024 : Shape := ⟨2, ![1536, 1024]⟩
abbrev S2048x1536 : Shape := ⟨2, ![2048, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S1536x1024, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x1536, .f32⟩
  | .hbm, ⟨9, _⟩ => ⟨S1536x1024, .f32⟩
  | .hbm, ⟨10, _⟩ => ⟨S2048x1024, .f32⟩
  | .hbm, ⟨11, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Head.lean ====
abbrev S2048x1024 : Shape := ⟨2, ![2048, 1024]⟩
abbrev S1x1024 : Shape := ⟨2, ![1, 1024]⟩
abbrev S8x128 : Shape := ⟨2, ![8, 128]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S8x128, .f32⟩
  | .hbm, ⟨5, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S8x128, .f32⟩
  | .local _ .vmem, ⟨8, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S8x128, .f32⟩
  | .hbm, ⟨73, _⟩ => ⟨S1x1024, .f32⟩
  | .hbm, ⟨74, _⟩ => ⟨S_, .f32⟩
  | .hbm, ⟨75, _⟩ => ⟨S7x1024, .f32⟩
  | .hbm, ⟨76, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== AdamIn.lean ====
abbrev S8x4x1024x706 : Shape := ⟨4, ![8, 4, 1024, 706]⟩
abbrev S4x1024x706 : Shape := ⟨3, ![4, 1024, 706]⟩
abbrev S8x1x256x706 : Shape := ⟨4, ![8, 1, 256, 706]⟩
abbrev S1x256x706 : Shape := ⟨3, ![1, 256, 706]⟩
abbrev S1x1x256x706 : Shape := ⟨4, ![1, 1, 256, 706]⟩
abbrev S256x706 : Shape := ⟨2, ![256, 706]⟩

abbrev nBuf : Space → Nat
  | .hbm => 8
  | .vmem => 16
  | .smem => 0
  | _ => 0

abbrev bufTy : (tb : Table) → Fin (tcTables nBuf tb) → BufTy
  | .hbm, ⟨0, _⟩ => ⟨S8x4x1024x706, .bf16⟩
  | .hbm, ⟨1, _⟩ => ⟨S4x1024x706, .f32⟩
  | .hbm, ⟨2, _⟩ => ⟨S4x1024x706, .f32⟩
  | .hbm, ⟨3, _⟩ => ⟨S4x1024x706, .f32⟩
  | .hbm, ⟨4, _⟩ => ⟨S4x1024x706, .f32⟩
  | .hbm, ⟨5, _⟩ => ⟨S4x1024x706, .f32⟩
  | .hbm, ⟨6, _⟩ => ⟨S4x1024x706, .f32⟩
  | .hbm, ⟨7, _⟩ => ⟨S4x1024x706, .f32⟩
  | .local _ .vmem, ⟨0, _⟩ => ⟨S8x1x256x706, .bf16⟩
  | .local _ .vmem, ⟨1, _⟩ => ⟨S8x1x256x706, .bf16⟩
  | .local _ .vmem, ⟨2, _⟩ => ⟨S1x256x706, .f32⟩
  | .local _ .vmem, ⟨3, _⟩ => ⟨S1x256x706, .f32⟩
  | .local _ .vmem, ⟨4, _⟩ => ⟨S1x256x706, .f32⟩
  | .local _ .vmem, ⟨5, _⟩ => ⟨S1x256x706, .f32⟩
  | .local _ .vmem, ⟨6, _⟩ => ⟨S1x256x706, .f32⟩
  | .local _ .vmem, ⟨7, _⟩ => ⟨S1x256x706, .f32⟩
  | .local _ .vmem, ⟨8, _⟩ => ⟨S1x256x706, .f32⟩
  | .local _ .vmem, ⟨9, _⟩ => ⟨S1x256x706, .f32⟩
  | .local _ .vmem, ⟨10, _⟩ => ⟨S1x256x706, .f32⟩
  | .local _ .vmem, ⟨11, _⟩ => ⟨S1x256x706, .f32⟩
  | .local _ .vmem, ⟨12, _⟩ => ⟨S1x256x706, .f32⟩
  | .local _ .vmem, ⟨13, _⟩ => ⟨S1x256x706, .f32⟩
  | .local _ .vmem, ⟨14, _⟩ => ⟨S1x256x706, .f32⟩
  | .local _ .vmem, ⟨15, _⟩ => ⟨S1x256x706, .f32⟩
  | _, _ => ⟨S8x4x1024x706, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x706 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x706 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x706 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x706 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S8x4x1024x706 : Shape := ⟨4, ![8, 4, 1024, 706]⟩
abbrev S4x1024x706 : Shape := ⟨3, ![4, 1024, 706]⟩
abbrev S8x1x256x706 : Shape := ⟨4, ![8, 1, 256, 706]⟩
abbrev S1x256x706 : Shape := ⟨3, ![1, 256, 706]⟩
abbrev S1x1x256x706 : Shape := ⟨4, ![1, 1, 256, 706]⟩
abbrev S256x706 : Shape := ⟨2, ![256, 706]⟩

abbrev nBuf : Space → Nat
  | .hbm => 8
  | .vmem => 16
  | .smem => 0
  | _ => 0

abbrev bufTy : (tb : Table) → Fin (tcTables nBuf tb) → BufTy
  | .hbm, ⟨0, _⟩ => ⟨S8x4x1024x706, .bf16⟩
  | .hbm, ⟨1, _⟩ => ⟨S4x1024x706, .f32⟩
  | .hbm, ⟨2, _⟩ => ⟨S4x1024x706, .f32⟩
  | .hbm, ⟨3, _⟩ => ⟨S4x1024x706, .f32⟩
  | .hbm, ⟨4, _⟩ => ⟨S4x1024x706, .f32⟩
  | .hbm, ⟨5, _⟩ => ⟨S4x1024x706, .f32⟩
  | .hbm, ⟨6, _⟩ => ⟨S4x1024x706, .f32⟩
  | .hbm, ⟨7, _⟩ => ⟨S4x1024x706, .f32⟩
  | .local _ .vmem, ⟨0, _⟩ => ⟨S8x1x256x706, .bf16⟩
  | .local _ .vmem, ⟨1, _⟩ => ⟨S8x1x256x706, .bf16⟩
  | .local _ .vmem, ⟨2, _⟩ => ⟨S1x256x706, .f32⟩
  | .local _ .vmem, ⟨3, _⟩ => ⟨S1x256x706, .f32⟩
  | .local _ .vmem, ⟨4, _⟩ => ⟨S1x256x706, .f32⟩
  | .local _ .vmem, ⟨5, _⟩ => ⟨S1x256x706, .f32⟩
  | .local _ .vmem, ⟨6, _⟩ => ⟨S1x256x706, .f32⟩
  | .local _ .vmem, ⟨7, _⟩ => ⟨S1x256x706, .f32⟩
  | .local _ .vmem, ⟨8, _⟩ => ⟨S1x256x706, .f32⟩
  | .local _ .vmem, ⟨9, _⟩ => ⟨S1x256x706, .f32⟩
  | .local _ .vmem, ⟨10, _⟩ => ⟨S1x256x706, .f32⟩
  | .local _ .vmem, ⟨11, _⟩ => ⟨S1x256x706, .f32⟩
  | .local _ .vmem, ⟨12, _⟩ => ⟨S1x256x706, .f32⟩
  | .local _ .vmem, ⟨13, _⟩ => ⟨S1x256x706, .f32⟩
  | .local _ .vmem, ⟨14, _⟩ => ⟨S1x256x706, .f32⟩
  | .local _ .vmem, ⟨15, _⟩ => ⟨S1x256x706, .f32⟩
  | _, _ => ⟨S8x4x1024x706, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x706 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x706 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x706 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x706 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S8x4x1024x706 : Shape := ⟨4, ![8, 4, 1024, 706]⟩
abbrev S4x1024x706 : Shape := ⟨3, ![4, 1024, 706]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x1024x706, .bf16⟩
  | .hbm, ⟨1, _⟩ => ⟨S4x1024x706, .f32⟩
  | .hbm, ⟨2, _⟩ => ⟨S4x1024x706, .f32⟩
  | .hbm, ⟨3, _⟩ => ⟨S4x1024x706, .f32⟩
  | .hbm, ⟨4, _⟩ => ⟨S8x4x1024x706, .f32⟩
  | .hbm, ⟨5, _⟩ => ⟨S_, .f32⟩
  | .hbm, ⟨6, _⟩ => ⟨S4x1024x706, .f32⟩
  | .hbm, ⟨7, _⟩ => ⟨S_, .f32⟩
  | .hbm, ⟨8, _⟩ => ⟨S4x1024x706, .f32⟩
  | .hbm, ⟨9, _⟩ => ⟨S4x1024x706, .f32⟩
  | .hbm, ⟨10, _⟩ => ⟨S_, .f32⟩
  | .hbm, ⟨11, _⟩ => ⟨S4x1024x706, .f32⟩
  | .hbm, ⟨12, _⟩ => ⟨S4x1024x706, .f32⟩
  | .hbm, ⟨13, _⟩ => ⟨S4x1024x706, .f32⟩
  | .hbm, ⟨14, _⟩ => ⟨S_, .f32⟩
  | .hbm, ⟨15, _⟩ => ⟨S4x1024x706, .f32⟩
  | .hbm, ⟨16, _⟩ => ⟨S4x1024x706, .f32⟩
  | .hbm, ⟨17, _⟩ => ⟨S4x1024x706, .f32⟩
  | .hbm, ⟨18, _⟩ => ⟨S_, .f32⟩
  | .hbm, ⟨19, _⟩ => ⟨S4x1024x706, .f32⟩
  | .hbm, ⟨20, _⟩ => ⟨S4x1024x706, .f32⟩
  | .hbm, ⟨21, _⟩ => ⟨S4x1024x706, .f32⟩
  | .hbm, ⟨22, _⟩ => ⟨S_, .f32⟩
  | .hbm, ⟨23, _⟩ => ⟨S4x1024x706, .f32⟩
  | .hbm, ⟨24, _⟩ => ⟨S4x1024x706, .f32⟩
  | .hbm, ⟨25, _⟩ => ⟨S_, .f32⟩
  | .hbm, ⟨26, _⟩ => ⟨S4x1024x706, .f32⟩
  | .hbm, ⟨27, _⟩ => ⟨S4x1024x706, .f32⟩
  | .hbm, ⟨28, _⟩ => ⟨S4x1024x706, .f32⟩
  | .hbm, ⟨29, _⟩ => ⟨S_, .f32⟩
  | .hbm, ⟨30, _⟩ => ⟨S4x1024x706, .f32⟩
  | .hbm, ⟨31, _⟩ => ⟨S4x1024x706, .f32⟩
  | .hbm, ⟨32, _⟩ => ⟨S4x1024x706, .f32⟩
  | .hbm, ⟨33, _⟩ => ⟨S_, .f32⟩
  | .hbm, ⟨34, _⟩ => ⟨S4x1024x706, .f32⟩
  | .hbm, ⟨35, _⟩ => ⟨S4x1024x706, .f32⟩
  | .hbm, ⟨36, _⟩ => ⟨S4x1024x706, .f32⟩
  | .hbm, ⟨37, _⟩ => ⟨S_, .f32⟩
  | .hbm, ⟨38, _⟩ => ⟨S4x1024x706, .f32⟩
  | .hbm, ⟨39, _⟩ => ⟨S4x1024x706, .f32⟩
  | _, _ => ⟨S8x4x1024x706, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x4x192x1024 : Shape := ⟨4, ![8, 4, 192, 1024]⟩
abbrev S4x192x1024 : Shape := ⟨3, ![4, 192, 1024]⟩
abbrev S8x1x192x1024 : Shape := ⟨4, ![8, 1, 192, 1024]⟩
abbrev S1x192x1024 : Shape := ⟨3, ![1, 192, 1024]⟩
abbrev S1x1x192x1024 : Shape := ⟨4, ![1, 1, 192, 1024]⟩
abbrev S192x1024 : Shape := ⟨2, ![192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x192x1024, .bf16⟩
  | .hbm, ⟨1, _⟩ => ⟨S4x192x1024, .f32⟩
  | .hbm, ⟨2, _⟩ => ⟨S4x192x1024, .f32⟩
  | .hbm, ⟨3, _⟩ => ⟨S4x192x1024, .f32⟩
  | .hbm, ⟨4, _⟩ => ⟨S4x192x1024, .f32⟩
  | .hbm, ⟨5, _⟩ => ⟨S4x192x1024, .f32⟩
  | .hbm, ⟨6, _⟩ => ⟨S4x192x1024, .f32⟩
  | .hbm, ⟨7, _⟩ => ⟨S4x192x1024, .f32⟩
  | .local _ .vmem, ⟨0, _⟩ => ⟨S8x1x192x1024, .bf16⟩
  | .local _ .vmem, ⟨1, _⟩ => ⟨S8x1x192x1024, .bf16⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | .local _ .vmem, ⟨14, _⟩ => ⟨S1x192x1024, .f32⟩
  | .local _ .vmem, ⟨15, _⟩ => ⟨S1x192x1024, .f32⟩
  | _, _ => ⟨S8x4x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutIdeal.lean ====
abbrev S8x4x192x1024 : Shape := ⟨4, ![8, 4, 192, 1024]⟩
abbrev S4x192x1024 : Shape := ⟨3, ![4, 192, 1024]⟩
abbrev S8x1x192x1024 : Shape := ⟨4, ![8, 1, 192, 1024]⟩
abbrev S1x192x1024 : Shape := ⟨3, ![1, 192, 1024]⟩
abbrev S1x1x192x1024 : Shape := ⟨4, ![1, 1, 192, 1024]⟩
abbrev S192x1024 : Shape := ⟨2, ![192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x192x1024, .bf16⟩
  | .hbm, ⟨1, _⟩ => ⟨S4x192x1024, .f32⟩
  | .hbm, ⟨2, _⟩ => ⟨S4x192x1024, .f32⟩
  | .hbm, ⟨3, _⟩ => ⟨S4x192x1024, .f32⟩
  | .hbm, ⟨4, _⟩ => ⟨S4x192x1024, .f32⟩
  | .hbm, ⟨5, _⟩ => ⟨S4x192x1024, .f32⟩
  | .hbm, ⟨6, _⟩ => ⟨S4x192x1024, .f32⟩
  | .hbm, ⟨7, _⟩ => ⟨S4x192x1024, .f32⟩
  | .local _ .vmem, ⟨0, _⟩ => ⟨S8x1x192x1024, .bf16⟩
  | .local _ .vmem, ⟨1, _⟩ => ⟨S8x1x192x1024, .bf16⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | .local _ .vmem, ⟨14, _⟩ => ⟨S1x192x1024, .f32⟩
  | .local _ .vmem, ⟨15, _⟩ => ⟨S1x192x1024, .f32⟩
  | _, _ => ⟨S8x4x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S8x4x192x1024 : Shape := ⟨4, ![8, 4, 192, 1024]⟩
abbrev S4x192x1024 : Shape := ⟨3, ![4, 192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x192x1024, .bf16⟩
  | .hbm, ⟨1, _⟩ => ⟨S4x192x1024, .f32⟩
  | .hbm, ⟨2, _⟩ => ⟨S4x192x1024, .f32⟩
  | .hbm, ⟨3, _⟩ => ⟨S4x192x1024, .f32⟩
  | .hbm, ⟨4, _⟩ => ⟨S8x4x192x1024, .f32⟩
  | .hbm, ⟨5, _⟩ => ⟨S_, .f32⟩
  | .hbm, ⟨6, _⟩ => ⟨S4x192x1024, .f32⟩
  | .hbm, ⟨7, _⟩ => ⟨S_, .f32⟩
  | .hbm, ⟨8, _⟩ => ⟨S4x192x1024, .f32⟩
  | .hbm, ⟨9, _⟩ => ⟨S4x192x1024, .f32⟩
  | .hbm, ⟨10, _⟩ => ⟨S_, .f32⟩
  | .hbm, ⟨11, _⟩ => ⟨S4x192x1024, .f32⟩
  | .hbm, ⟨12, _⟩ => ⟨S4x192x1024, .f32⟩
  | .hbm, ⟨13, _⟩ => ⟨S4x192x1024, .f32⟩
  | .hbm, ⟨14, _⟩ => ⟨S_, .f32⟩
  | .hbm, ⟨15, _⟩ => ⟨S4x192x1024, .f32⟩
  | .hbm, ⟨16, _⟩ => ⟨S4x192x1024, .f32⟩
  | .hbm, ⟨17, _⟩ => ⟨S4x192x1024, .f32⟩
  | .hbm, ⟨18, _⟩ => ⟨S_, .f32⟩
  | .hbm, ⟨19, _⟩ => ⟨S4x192x1024, .f32⟩
  | .hbm, ⟨20, _⟩ => ⟨S4x192x1024, .f32⟩
  | .hbm, ⟨21, _⟩ => ⟨S4x192x1024, .f32⟩
  | .hbm, ⟨22, _⟩ => ⟨S_, .f32⟩
  | .hbm, ⟨23, _⟩ => ⟨S4x192x1024, .f32⟩
  | .hbm, ⟨24, _⟩ => ⟨S4x192x1024, .f32⟩
  | .hbm, ⟨25, _⟩ => ⟨S_, .f32⟩
  | .hbm, ⟨26, _⟩ => ⟨S4x192x1024, .f32⟩
  | .hbm, ⟨27, _⟩ => ⟨S4x192x1024, .f32⟩
  | .hbm, ⟨28, _⟩ => ⟨S4x192x1024, .f32⟩
  | .hbm, ⟨29, _⟩ => ⟨S_, .f32⟩
  | .hbm, ⟨30, _⟩ => ⟨S4x192x1024, .f32⟩
  | .hbm, ⟨31, _⟩ => ⟨S4x192x1024, .f32⟩
  | .hbm, ⟨32, _⟩ => ⟨S4x192x1024, .f32⟩
  | .hbm, ⟨33, _⟩ => ⟨S_, .f32⟩
  | .hbm, ⟨34, _⟩ => ⟨S4x192x1024, .f32⟩
  | .hbm, ⟨35, _⟩ => ⟨S4x192x1024, .f32⟩
  | .hbm, ⟨36, _⟩ => ⟨S4x192x1024, .f32⟩
  | .hbm, ⟨37, _⟩ => ⟨S_, .f32⟩
  | .hbm, ⟨38, _⟩ => ⟨S4x192x1024, .f32⟩
  | .hbm, ⟨39, _⟩ => ⟨S4x192x1024, .f32⟩
  | _, _ => ⟨S8x4x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S2208x128 : Shape := ⟨2, ![2208, 128]⟩

abbrev nBuf : Space → Nat
  | .hbm => 7
  | .vmem => 7
  | .smem => 0
  | _ => 0

abbrev bufTy : (tb : Table) → Fin (tcTables nBuf tb) → BufTy
  | .hbm, ⟨0, _⟩ => ⟨S2208x128, .f32⟩
  | .hbm, ⟨1, _⟩ => ⟨S2208x128, .f32⟩
  | .hbm, ⟨2, _⟩ => ⟨S2208x128, .f32⟩
  | .hbm, ⟨3, _⟩ => ⟨S2208x128, .f32⟩
  | .hbm, ⟨4, _⟩ => ⟨S2208x128, .f32⟩
  | .hbm, ⟨5, _⟩ => ⟨S2208x128, .f32⟩
  | .hbm, ⟨6, _⟩ => ⟨S2208x128, .f32⟩
  | .local _ .vmem, ⟨0, _⟩ => ⟨S2208x128, .f32⟩
  | .local _ .vmem, ⟨1, _⟩ => ⟨S2208x128, .f32⟩
  | .local _ .vmem, ⟨2, _⟩ => ⟨S2208x128, .f32⟩
  | .local _ .vmem, ⟨3, _⟩ => ⟨S2208x128, .f32⟩
  | .local _ .vmem, ⟨4, _⟩ => ⟨S2208x128, .f32⟩
  | .local _ .vmem, ⟨5, _⟩ => ⟨S2208x128, .f32⟩
  | .local _ .vmem, ⟨6, _⟩ => ⟨S2208x128, .f32⟩
  | _, _ => ⟨S2208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2208x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2208x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2208x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2208x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2208x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S2208x128 : Shape := ⟨2, ![2208, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2208x128, .f32⟩
  | .hbm, ⟨1, _⟩ => ⟨S2208x128, .f32⟩
  | .hbm, ⟨2, _⟩ => ⟨S2208x128, .f32⟩
  | .hbm, ⟨3, _⟩ => ⟨S2208x128, .f32⟩
  | .hbm, ⟨4, _⟩ => ⟨S_, .f32⟩
  | .hbm, ⟨5, _⟩ => ⟨S2208x128, .f32⟩
  | .hbm, ⟨6, _⟩ => ⟨S2208x128, .f32⟩
  | .hbm, ⟨7, _⟩ => ⟨S_, .f32⟩
  | .hbm, ⟨8, _⟩ => ⟨S2208x128, .f32⟩
  | .hbm, ⟨9, _⟩ => ⟨S2208x128, .f32⟩
  | .hbm, ⟨10, _⟩ => ⟨S2208x128, .f32⟩
  | .hbm, ⟨11, _⟩ => ⟨S_, .f32⟩
  | .hbm, ⟨12, _⟩ => ⟨S2208x128, .f32⟩
  | .hbm, ⟨13, _⟩ => ⟨S2208x128, .f32⟩
  | .hbm, ⟨14, _⟩ => ⟨S2208x128, .f32⟩
  | .hbm, ⟨15, _⟩ => ⟨S_, .f32⟩
  | .hbm, ⟨16, _⟩ => ⟨S2208x128, .f32⟩
  | .hbm, ⟨17, _⟩ => ⟨S2208x128, .f32⟩
  | .hbm, ⟨18, _⟩ => ⟨S2208x128, .f32⟩
  | .hbm, ⟨19, _⟩ => ⟨S_, .f32⟩
  | .hbm, ⟨20, _⟩ => ⟨S2208x128, .f32⟩
  | .hbm, ⟨21, _⟩ => ⟨S2208x128, .f32⟩
  | .hbm, ⟨22, _⟩ => ⟨S_, .f32⟩
  | .hbm, ⟨23, _⟩ => ⟨S2208x128, .f32⟩
  | .hbm, ⟨24, _⟩ => ⟨S2208x128, .f32⟩
  | .hbm, ⟨25, _⟩ => ⟨S2208x128, .f32⟩
  | .hbm, ⟨26, _⟩ => ⟨S_, .f32⟩
  | .hbm, ⟨27, _⟩ => ⟨S2208x128, .f32⟩
  | .hbm, ⟨28, _⟩ => ⟨S2208x128, .f32⟩
  | .hbm, ⟨29, _⟩ => ⟨S2208x128, .f32⟩
  | .hbm, ⟨30, _⟩ => ⟨S_, .f32⟩
  | .hbm, ⟨31, _⟩ => ⟨S2208x128, .f32⟩
  | .hbm, ⟨32, _⟩ => ⟨S2208x128, .f32⟩
  | .hbm, ⟨33, _⟩ => ⟨S2208x128, .f32⟩
  | .hbm, ⟨34, _⟩ => ⟨S_, .f32⟩
  | .hbm, ⟨35, _⟩ => ⟨S2208x128, .f32⟩
  | .hbm, ⟨36, _⟩ => ⟨S2208x128, .f32⟩
  | _, _ => ⟨S2208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Regroup.lean ====
abbrev S8x1024x706 : Shape := ⟨3, ![8, 1024, 706]⟩
abbrev S1024x5760 : Shape := ⟨2, ![1024, 5760]⟩
abbrev S8x256x706 : Shape := ⟨3, ![8, 256, 706]⟩
abbrev S256x5760 : Shape := ⟨2, ![256, 5760]⟩
abbrev S1x256x706 : Shape := ⟨3, ![1, 256, 706]⟩
abbrev S256x706 : Shape := ⟨2, ![256, 706]⟩
abbrev S1x256x54 : Shape := ⟨3, ![1, 256, 54]⟩
abbrev S256x54 : Shape := ⟨2, ![256, 54]⟩
abbrev S1x256x644 : Shape := ⟨3, ![1, 256, 644]⟩
abbrev S256x644 : Shape := ⟨2, ![256, 644]⟩
abbrev S1x256x698 : Shape := ⟨3, ![1, 256, 698]⟩
abbrev S256x698 : Shape := ⟨2, ![256, 698]⟩
abbrev S1x256x8 : Shape := ⟨3, ![1, 256, 8]⟩
abbrev S256x8 : Shape := ⟨2, ![256, 8]⟩
abbrev S256x112 : Shape := ⟨2, ![256, 112]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x706, .bf16⟩
  | .hbm, ⟨1, _⟩ => ⟨S1024x5760, .bf16⟩
  | .local _ .vmem, ⟨0, _⟩ => ⟨S8x256x706, .bf16⟩
  | .local _ .vmem, ⟨1, _⟩ => ⟨S8x256x706, .bf16⟩
  | .local _ .vmem, ⟨2, _⟩ => ⟨S256x5760, .bf16⟩
  | .local _ .vmem, ⟨3, _⟩ => ⟨S256x5760, .bf16⟩
  | _, _ => ⟨S8x1024x706, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x706 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5760 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RegroupRefIdeal.lean ====
abbrev S8x1024x706 : Shape := ⟨3, ![8, 1024, 706]⟩
abbrev S1x1024x706 : Shape := ⟨3, ![1, 1024, 706]⟩
abbrev S1024x706 : Shape := ⟨2, ![1024, 706]⟩
abbrev S1024x5648 : Shape := ⟨2, ![1024, 5648]⟩
abbrev S1024x3584 : Shape := ⟨2, ![1024, 3584]⟩
abbrev S1024x2048 : Shape := ⟨2, ![1024, 2048]⟩
abbrev S1024x8 : Shape := ⟨2, ![1024, 8]⟩
abbrev S_ : Shape := ⟨0, ![]⟩
abbrev S1024x112 : Shape := ⟨2, ![1024, 112]⟩
abbrev S1024x5760 : Shape := ⟨2, ![1024, 5760]⟩

abbrev nBuf : Space → Nat
  | .hbm => 25
  | .vmem => 0
  | .smem => 0
  | _ => 0

abbrev bufTy : (tb : Table) → Fin (tcTables nBuf tb) → BufTy
  | .hbm, ⟨0, _⟩ => ⟨S8x1024x706, .bf16⟩
  | .hbm, ⟨1, _⟩ => ⟨S1x1024x706, .bf16⟩
  | .hbm, ⟨2, _⟩ => ⟨S1024x706, .bf16⟩
  | .hbm, ⟨3, _⟩ => ⟨S1x1024x706, .bf16⟩
  | .hbm, ⟨4, _⟩ => ⟨S1024x706, .bf16⟩
  | .hbm, ⟨5, _⟩ => ⟨S1x1024x706, .bf16⟩
  | .hbm, ⟨6, _⟩ => ⟨S1024x706, .bf16⟩
  | .hbm, ⟨7, _⟩ => ⟨S1x1024x706, .bf16⟩
  | .hbm, ⟨8, _⟩ => ⟨S1024x706, .bf16⟩
  | .hbm, ⟨9, _⟩ => ⟨S1x1024x706, .bf16⟩
  | .hbm, ⟨10, _⟩ => ⟨S1024x706, .bf16⟩
  | .hbm, ⟨11, _⟩ => ⟨S1x1024x706, .bf16⟩
  | .hbm, ⟨12, _⟩ => ⟨S1024x706, .bf16⟩
  | .hbm, ⟨13, _⟩ => ⟨S1x1024x706, .bf16⟩
  | .hbm, ⟨14, _⟩ => ⟨S1024x706, .bf16⟩
  | .hbm, ⟨15, _⟩ => ⟨S1x1024x706, .bf16⟩
  | .hbm, ⟨16, _⟩ => ⟨S1024x706, .bf16⟩
  | .hbm, ⟨17, _⟩ => ⟨S1024x5648, .bf16⟩
  | .hbm, ⟨18, _⟩ => ⟨S1024x3584, .bf16⟩
  | .hbm, ⟨19, _⟩ => ⟨S1024x2048, .bf16⟩
  | .hbm, ⟨20, _⟩ => ⟨S1024x8, .bf16⟩
  | .hbm, ⟨21, _⟩ => ⟨S1024x8, .bf16⟩
  | .hbm, ⟨22, _⟩ => ⟨S_, .bf16⟩
  | .hbm, ⟨23, _⟩ => ⟨S1024x112, .bf16⟩
  | .hbm, ⟨24, _⟩ => ⟨S1024x5760, .bf16⟩
  | _, _ => ⟨S8x1024x706, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_cst : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Slots.lean ====
abbrev S1024x1024 : Shape := ⟨2, ![1024, 1024]⟩
abbrev S1024x2560 : Shape := ⟨2, ![1024, 2560]⟩
abbrev S1024x2048 : Shape := ⟨2, ![1024, 2048]⟩
abbrev S1024x128 : Shape := ⟨2, ![1024, 128]⟩
abbrev S8x1024x706 : Shape := ⟨3, ![8, 1024, 706]⟩
abbrev S256x1024 : Shape := ⟨2, ![256, 1024]⟩
abbrev S256x2560 : Shape := ⟨2, ![256, 2560]⟩
abbrev S256x2048 : Shape := ⟨2, ![256, 2048]⟩
abbrev S256x128 : Shape := ⟨2, ![256, 128]⟩
abbrev S8x256x706 : Shape := ⟨3, ![8, 256, 706]⟩
abbrev S256x8 : Shape := ⟨2, ![256, 8]⟩
abbrev S256x5648 : Shape := ⟨2, ![256, 5648]⟩
abbrev S256x706 : Shape := ⟨2, ![256, 706]⟩
abbrev S1x256x706 : Shape := ⟨3, ![1, 256, 706]⟩

abbrev nBuf : Space → Nat
  | .hbm => 5
  | .vmem => 10
  | .smem => 0
  | _ => 0

abbrev bufTy : (tb : Table) → Fin (tcTables nBuf tb) → BufTy
  | .hbm, ⟨0, _⟩ => ⟨S1024x1024, .bf16⟩
  | .hbm, ⟨1, _⟩ => ⟨S1024x2560, .bf16⟩
  | .hbm, ⟨2, _⟩ => ⟨S1024x2048, .bf16⟩
  | .hbm, ⟨3, _⟩ => ⟨S1024x128, .bf16⟩
  | .hbm, ⟨4, _⟩ => ⟨S8x1024x706, .bf16⟩
  | .local _ .vmem, ⟨0, _⟩ => ⟨S256x1024, .bf16⟩
  | .local _ .vmem, ⟨1, _⟩ => ⟨S256x1024, .bf16⟩
  | .local _ .vmem, ⟨2, _⟩ => ⟨S256x2560, .bf16⟩
  | .local _ .vmem, ⟨3, _⟩ => ⟨S256x2560, .bf16⟩
  | .local _ .vmem, ⟨4, _⟩ => ⟨S256x2048, .bf16⟩
  | .local _ .vmem, ⟨5, _⟩ => ⟨S256x2048, .bf16⟩
  | .local _ .vmem, ⟨6, _⟩ => ⟨S256x128, .bf16⟩
  | .local _ .vmem, ⟨7, _⟩ => ⟨S256x128, .bf16⟩
  | .local _ .vmem, ⟨8, _⟩ => ⟨S8x256x706, .bf16⟩
  | .local _ .vmem, ⟨9, _⟩ => ⟨S8x256x706, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x706 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SlotsRefIdeal.lean ====
abbrev S1024x1024 : Shape := ⟨2, ![1024, 1024]⟩
abbrev S1024x2560 : Shape := ⟨2, ![1024, 2560]⟩
abbrev S1024x2048 : Shape := ⟨2, ![1024, 2048]⟩
abbrev S1024x128 : Shape := ⟨2, ![1024, 128]⟩
abbrev S1024x8 : Shape := ⟨2, ![1024, 8]⟩
abbrev S1024x5648 : Shape := ⟨2, ![1024, 5648]⟩
abbrev S1024x706 : Shape := ⟨2, ![1024, 706]⟩
abbrev S1x1024x706 : Shape := ⟨3, ![1, 1024, 706]⟩
abbrev S8x1024x706 : Shape := ⟨3, ![8, 1024, 706]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2560, .bf16⟩
  | .hbm, ⟨2, _⟩ => ⟨S1024x2048, .bf16⟩
  | .hbm, ⟨3, _⟩ => ⟨S1024x128, .bf16⟩
  | .hbm, ⟨4, _⟩ => ⟨S1024x8, .bf16⟩
  | .hbm, ⟨5, _⟩ => ⟨S1024x8, .bf16⟩
  | .hbm, ⟨6, _⟩ => ⟨S1024x5648, .bf16⟩
  | .hbm, ⟨7, _⟩ => ⟨S1024x706, .bf16⟩
  | .hbm, ⟨8, _⟩ => ⟨S1024x706, .bf16⟩
  | .hbm, ⟨9, _⟩ => ⟨S1024x706, .bf16⟩
  | .hbm, ⟨10, _⟩ => ⟨S1024x706, .bf16⟩
  | .hbm, ⟨11, _⟩ => ⟨S1024x706, .bf16⟩
  | .hbm, ⟨12, _⟩ => ⟨S1024x706, .bf16⟩
  | .hbm, ⟨13, _⟩ => ⟨S1024x706, .bf16⟩
  | .hbm, ⟨14, _⟩ => ⟨S1024x706, .bf16⟩
  | .hbm, ⟨15, _⟩ => ⟨S1x1024x706, .bf16⟩
  | .hbm, ⟨16, _⟩ => ⟨S1x1024x706, .bf16⟩
  | .hbm, ⟨17, _⟩ => ⟨S1x1024x706, .bf16⟩
  | .hbm, ⟨18, _⟩ => ⟨S1x1024x706, .bf16⟩
  | .hbm, ⟨19, _⟩ => ⟨S1x1024x706, .bf16⟩
  | .hbm, ⟨20, _⟩ => ⟨S1x1024x706, .bf16⟩
  | .hbm, ⟨21, _⟩ => ⟨S1x1024x706, .bf16⟩
  | .hbm, ⟨22, _⟩ => ⟨S1x1024x706, .bf16⟩
  | .hbm, ⟨23, _⟩ => ⟨S8x1024x706, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.Layout.lean ====
/-
  Columns joined side by side, read at an index: for the calls that only move columns.
-/
module

public import Idealize.ShloMosaic.Lib.Pipeline.Value
public import Idealize.ShloMosaic.Lib.ValueLayout
public import Idealize.ShloMosaic.Lib.Pointwise

@[expose] public section

noncomputable section

open Idealize.ShloMosaic Idealize.ShloMosaic.TcCoe Idealize.SL.Sem

namespace Cert.Layout

/-- Pieces joined along the columns, read inside piece `k`, which starts at column `pre`. -/
theorem cat_at {α : Type} {R N : Nat} (xs : List ((s : Shape) × (s.Idx → α))) (h : Shape.Concatenates (xs.map (·.1)) (⟨2, ![R, N]⟩ : Shape) 1)
    (j : (⟨2, ![R, N]⟩ : Shape).Idx) (k : Nat) (hk : k < xs.length) (w : Nat) (x₁ : (⟨2, ![R, w]⟩ : Shape).Idx → α)
    (hxk : xs[k] = ⟨(⟨2, ![R, w]⟩ : Shape), x₁⟩) (pre : Nat)
    (hpre : (((xs.take k).map (·.1)).map fun s => if h : s.rank = (⟨2, ![R, N]⟩ : Shape).rank then s.size ((1 : Fin 2).cast h.symm) else 0).sum = pre)
    (lo : pre ≤ (j 1).val) (hi : (j 1).val < pre + w) :
    concatenate (⟨2, ![R, N]⟩ : Shape) 1 xs h j = x₁ (ix2 (j 0) ⟨(j 1).val - pre, by omega⟩) := by
  refine concatenate_apply_piece (t := (⟨2, ![R, N]⟩ : Shape)) 1 xs h j k hk _ x₁ hxk rfl pre hpre _ (fun b hb => ?_) ?_
  · match b with
    | ⟨0, _⟩ => rfl
    | ⟨1, _⟩ => exact absurd rfl hb
  · show pre + ((j 1).val - pre) = (j 1).val
    omega

/-- Matrices stacked along a new leading axis, read in the `k`-th. -/
theorem stack_at {α : Type} {K R C : Nat} (xs : List ((s : Shape) × (s.Idx → α))) (h : Shape.Concatenates (xs.map (·.1)) (⟨3, ![K, R, C]⟩ : Shape) 0)
    (i : (⟨3, ![K, R, C]⟩ : Shape).Idx) (k : Nat) (hk : k < xs.length) (x₁ : (⟨3, ![1, R, C]⟩ : Shape).Idx → α)
    (hxk : xs[k] = ⟨(⟨3, ![1, R, C]⟩ : Shape), x₁⟩)
    (hpre : (((xs.take k).map (·.1)).map fun s => if h : s.rank = (⟨3, ![K, R, C]⟩ : Shape).rank then s.size ((0 : Fin 3).cast h.symm) else 0).sum = k)
    (hi : (i 0).val = k) :
    concatenate (⟨3, ![K, R, C]⟩ : Shape) 0 xs h i = x₁ (ix3 0 (i 1) (i 2)) := by
  refine concatenate_apply_piece (t := (⟨3, ![K, R, C]⟩ : Shape)) 0 xs h i k hk _ x₁ hxk rfl k hpre _ (fun b hb => ?_) ?_
  · match b with
    | ⟨0, _⟩ => exact absurd rfl hb
    | ⟨1, _⟩ => rfl
    | ⟨2, _⟩ => rfl
  · show k + 0 = (i 0).val
    omega

/-- Two indices of a matrix with the same coordinates. -/
theorem idx2_ext {A B : Nat} {i j : (⟨2, ![A, B]⟩ : Shape).Idx} (h0 : (i 0).val = (j 0).val) (h1 : (i 1).val = (j 1).val) : i = j := by
  funext a
  match a with
  | ⟨0, _⟩ => exact Fin.ext h0
  | ⟨1, _⟩ => exact Fin.ext h1

/-- Two indices of a stack of matrices with the same coordinates. -/
theorem idx3_ext {A B C : Nat} {i j : (⟨3, ![A, B, C]⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

end Cert.Layout

end
-- ==== Proof.RegroupVal.lean ====
/-
  The call `regroup_w_in`: the eight devices' slices of the input projection's weight, joined and brought into the step's order of
  columns with zeros behind them. Column `p` of the result is column `col p` of the joined weight.
-/
module

public import proofs.«01_k».proof.Defs
public import proofs.«01_k».proof.Proof.Gen.Regroup.Frame
public import proofs.«01_k».proof.Proof.Gen.RegroupIdeal.Value
public import proofs.«01_k».proof.Proof.Gen.RegroupRefIdeal.Run
public import proofs.«01_k».proof.Proof.Gen.RegroupRefIdeal.Read
public import proofs.«01_k».proof.Proof.Layout
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RegroupIdeal.Product

open Cert.RegroupIdeal Cert.RegroupIdeal.Gen Cert.Layout

/-- The column of the joined weight that becomes column `p`. -/
def col (p : Nat) : Nat := if p < 3584 then p else if p < 5632 then p + 8 else if p < 5640 then p - 2048 else p

theorem col_first {p : Nat} (h : p < 3584) : col p = p := if_pos h

theorem col_second {p : Nat} (h : ¬p < 3584) (h' : p < 5632) : col p = p + 8 := (if_neg h).trans (if_pos h')

theorem col_third {p : Nat} (h : ¬p < 5632) (h' : p < 5640) : col p = p - 2048 :=
  (if_neg (by omega)).trans ((if_neg h).trans (if_pos h'))

theorem col_last {p : Nat} (h : ¬p < 5640) : col p = p := (if_neg (by omega)).trans ((if_neg (by omega)).trans (if_neg h))

theorem col_lt {p : Nat} (h : p < 5648) : col p < 5648 := by unfold col; split_ifs <;> omega

/-- The weight in the step's layout, from the devices' slices of `R` rows. -/
def G {R : Nat} (x : (⟨3, ![8, R, 706]⟩ : Shape).Idx → EReal) : (⟨2, ![R, 5760]⟩ : Shape).Idx → EReal := fun i =>
  if h : (i 1).val < 5648 then
    x (ix3 ⟨col (i 1).val / 706, by have := col_lt h; omega⟩ (i 0) ⟨col (i 1).val % 706, Nat.mod_lt _ (by decide)⟩)
  else 0

theorem G_of_lt {R : Nat} (x : (⟨3, ![8, R, 706]⟩ : Shape).Idx → EReal) (i : (⟨2, ![R, 5760]⟩ : Shape).Idx) (j : (⟨3, ![8, R, 706]⟩ : Shape).Idx)
    (h : (i 1).val < 5648) (h1 : (j 1).val = (i 0).val) (h2 : (j 0).val * 706 + (j 2).val = col (i 1).val) : x j = G x i := by
  have hj : (j 2).val < 706 := (j 2).isLt
  unfold G
  rw [dif_pos h]
  refine congrArg x (idx3_ext ?_ h1 ?_)
  · show (j 0).val = col (i 1).val / 706
    omega
  · show (j 2).val = col (i 1).val % 706
    omega

set_option maxHeartbeats 1000000 in
/-- Twelve pieces joined: if each piece is its columns of `g`, the whole is `g`. -/
theorem join_eq (g : S256x5760.Idx → EReal)
    (x0 : (⟨2, ![256, 706]⟩ : Shape).Idx → EReal) (x1 : (⟨2, ![256, 706]⟩ : Shape).Idx → EReal) (x2 : (⟨2, ![256, 706]⟩ : Shape).Idx → EReal) (x3 : (⟨2, ![256, 706]⟩ : Shape).Idx → EReal)
    (x4 : (⟨2, ![256, 706]⟩ : Shape).Idx → EReal) (x5 : (⟨2, ![256, 54]⟩ : Shape).Idx → EReal) (x6 : (⟨2, ![256, 644]⟩ : Shape).Idx → EReal) (x7 : (⟨2, ![256, 706]⟩ : Shape).Idx → EReal)
    (x8 : (⟨2, ![256, 698]⟩ : Shape).Idx → EReal) (x9 : (⟨2, ![256, 8]⟩ : Shape).Idx → EReal) (x10 : (⟨2, ![256, 8]⟩ : Shape).Idx → EReal) (x11 : (⟨2, ![256, 112]⟩ : Shape).Idx → EReal)
    (h : Shape.Concatenates [(⟨2, ![256, 706]⟩ : Shape), (⟨2, ![256, 706]⟩ : Shape), (⟨2, ![256, 706]⟩ : Shape), (⟨2, ![256, 706]⟩ : Shape), (⟨2, ![256, 706]⟩ : Shape), (⟨2, ![256, 54]⟩ : Shape), (⟨2, ![256, 644]⟩ : Shape), (⟨2, ![256, 706]⟩ : Shape), (⟨2, ![256, 698]⟩ : Shape), (⟨2, ![256, 8]⟩ : Shape), (⟨2, ![256, 8]⟩ : Shape), (⟨2, ![256, 112]⟩ : Shape)] (⟨2, ![256, 5760]⟩ : Shape) 1)
    (h0 : ∀ (q : Fin 256) (c : Fin 706), x0 (ix2 q c) = g (ix2 q ⟨0 + c.val, by omega⟩))
    (h1 : ∀ (q : Fin 256) (c : Fin 706), x1 (ix2 q c) = g (ix2 q ⟨706 + c.val, by omega⟩))
    (h2 : ∀ (q : Fin 256) (c : Fin 706), x2 (ix2 q c) = g (ix2 q ⟨1412 + c.val, by omega⟩))
    (h3 : ∀ (q : Fin 256) (c : Fin 706), x3 (ix2 q c) = g (ix2 q ⟨2118 + c.val, by omega⟩))
    (h4 : ∀ (q : Fin 256) (c : Fin 706), x4 (ix2 q c) = g (ix2 q ⟨2824 + c.val, by omega⟩))
    (h5 : ∀ (q : Fin 256) (c : Fin 54), x5 (ix2 q c) = g (ix2 q ⟨3530 + c.val, by omega⟩))
    (h6 : ∀ (q : Fin 256) (c : Fin 644), x6 (ix2 q c) = g (ix2 q ⟨3584 + c.val, by omega⟩))
    (h7 : ∀ (q : Fin 256) (c : Fin 706), x7 (ix2 q c) = g (ix2 q ⟨4228 + c.val, by omega⟩))
    (h8 : ∀ (q : Fin 256) (c : Fin 698), x8 (ix2 q c) = g (ix2 q ⟨4934 + c.val, by omega⟩))
    (h9 : ∀ (q : Fin 256) (c : Fin 8), x9 (ix2 q c) = g (ix2 q ⟨5632 + c.val, by omega⟩))
    (h10 : ∀ (q : Fin 256) (c : Fin 8), x10 (ix2 q c) = g (ix2 q ⟨5640 + c.val, by omega⟩))
    (h11 : ∀ (q : Fin 256) (c : Fin 112), x11 (ix2 q c) = g (ix2 q ⟨5648 + c.val, by omega⟩))
    (i : S256x5760.Idx) : concatenate (⟨2, ![256, 5760]⟩ : Shape) 1 [⟨(⟨2, ![256, 706]⟩ : Shape), x0⟩, ⟨(⟨2, ![256, 706]⟩ : Shape), x1⟩, ⟨(⟨2, ![256, 706]⟩ : Shape), x2⟩, ⟨(⟨2, ![256, 706]⟩ : Shape), x3⟩, ⟨(⟨2, ![256, 706]⟩ : Shape), x4⟩, ⟨(⟨2, ![256, 54]⟩ : Shape), x5⟩, ⟨(⟨2, ![256, 644]⟩ : Shape), x6⟩, ⟨(⟨2, ![256, 706]⟩ : Shape), x7⟩, ⟨(⟨2, ![256, 698]⟩ : Shape), x8⟩, ⟨(⟨2, ![256, 8]⟩ : Shape), x9⟩, ⟨(⟨2, ![256, 8]⟩ : Shape), x10⟩, ⟨(⟨2, ![256, 112]⟩ : Shape), x11⟩] h i = g i := by
  have hi : (i 1).val < 5760 := (i 1).isLt
  have key : ∀ (k w pre : Nat) (hw : (i 1).val - pre < w) (x : (⟨2, ![256, w]⟩ : Shape).Idx → EReal) (hp : ∀ c : Fin w, pre + c.val < 5760),
      pre ≤ (i 1).val → (∀ (q : Fin 256) (c : Fin w), x (ix2 q c) = g (ix2 q ⟨pre + c.val, hp c⟩)) → x (ix2 (i 0) ⟨(i 1).val - pre, hw⟩) = g i :=
    fun k w pre hw x hp hle hx => (hx _ _).trans (congrArg g (idx2_ext rfl (by show pre + ((i 1).val - pre) = _; omega)))
  by_cases c0 : (i 1).val < 706
  · exact Eq.trans (cat_at _ _ i 0 (by simp) 706 x0 (by rfl) 0 (by rfl) (by omega) (by omega)) (key 0 706 0 _ x0 _ (by omega) h0)
  by_cases c1 : (i 1).val < 1412
  · exact Eq.trans (cat_at _ _ i 1 (by simp) 706 x1 (by rfl) 706 (by rfl) (by omega) (by omega)) (key 1 706 706 _ x1 _ (by omega) h1)
  by_cases c2 : (i 1).val < 2118
  · exact Eq.trans (cat_at _ _ i 2 (by simp) 706 x2 (by rfl) 1412 (by rfl) (by omega) (by omega)) (key 2 706 1412 _ x2 _ (by omega) h2)
  by_cases c3 : (i 1).val < 2824
  · exact Eq.trans (cat_at _ _ i 3 (by simp) 706 x3 (by rfl) 2118 (by rfl) (by omega) (by omega)) (key 3 706 2118 _ x3 _ (by omega) h3)
  by_cases c4 : (i 1).val < 3530
  · exact Eq.trans (cat_at _ _ i 4 (by simp) 706 x4 (by rfl) 2824 (by rfl) (by omega) (by omega)) (key 4 706 2824 _ x4 _ (by omega) h4)
  by_cases c5 : (i 1).val < 3584
  · exact Eq.trans (cat_at _ _ i 5 (by simp) 54 x5 (by rfl) 3530 (by rfl) (by omega) (by omega)) (key 5 54 3530 _ x5 _ (by omega) h5)
  by_cases c6 : (i 1).val < 4228
  · exact Eq.trans (cat_at _ _ i 6 (by simp) 644 x6 (by rfl) 3584 (by rfl) (by omega) (by omega)) (key 6 644 3584 _ x6 _ (by omega) h6)
  by_cases c7 : (i 1).val < 4934
  · exact Eq.trans (cat_at _ _ i 7 (by simp) 706 x7 (by rfl) 4228 (by rfl) (by omega) (by omega)) (key 7 706 4228 _ x7 _ (by omega) h7)
  by_cases c8 : (i 1).val < 5632
  · exact Eq.trans (cat_at _ _ i 8 (by simp) 698 x8 (by rfl) 4934 (by rfl) (by omega) (by omega)) (key 8 698 4934 _ x8 _ (by omega) h8)
  by_cases c9 : (i 1).val < 5640
  · exact Eq.trans (cat_at _ _ i 9 (by simp) 8 x9 (by rfl) 5632 (by rfl) (by omega) (by omega)) (key 9 8 5632 _ x9 _ (by omega) h9)
  by_cases c10 : (i 1).val < 5648
  · exact Eq.trans (cat_at _ _ i 10 (by simp) 8 x10 (by rfl) 5640 (by rfl) (by omega) (by omega)) (key 10 8 5640 _ x10 _ (by omega) h10)
  exact Eq.trans (cat_at _ _ i 11 (by simp) 112 x11 (by rfl) 5648 (by rfl) (by omega) (by omega)) (key 11 112 5648 _ x11 _ (by omega) h11)

/-- A part of one slice, as a matrix: its columns of the layout. -/
theorem ld_at (x : Vec Ideal S8x256x706 .bf16) (k off w pre : Nat)
    (inb : ∀ a, (![k, 0, off] : Fin 3 → Nat) a + (⟨3, ![1, 256, w]⟩ : Shape).size a ≤ S8x256x706.size a)
    (hc : (⟨3, ![1, 256, w]⟩ : Shape).ShapeCasts ⟨2, ![256, w]⟩) (q : Fin 256) (c : Fin w) (h : pre + c.val < 5648) (h' : pre + c.val < 5760)
    (he : k * 706 + (off + c.val) = col (pre + c.val)) :
    shapeCast (⟨2, ![256, w]⟩ : Shape) (View.ld x (Rect.unit (s := S8x256x706) ![k, 0, off] (⟨3, ![1, 256, w]⟩ : Shape).size inb)) hc
      (ix2 q c) = G (R := 256) x (ix2 q ⟨pre + c.val, h'⟩) := by
  refine (ValueIdx.shapeCast_1ab_ab_apply _ hc q c).trans ?_
  refine G_of_lt x _ _ h ?_ ?_
  · show 0 + 1 * q.val = q.val
    omega
  · show (k + 1 * 0) * 706 + (off + 1 * c.val) = col (pre + c.val)
    omega

/-- What a grid point stores, read at an index: the layout of its rows of the slices. -/
theorem pay_apply (x : Vec Ideal S8x256x706 .bf16) (i : S256x5760.Idx) :
    k0_pay1 (View.ld x r0_0) (View.ld x r0_1) (View.ld x r0_2) (View.ld x r0_3) (View.ld x r0_4) (View.ld x r0_5) (View.ld x r0_6)
      (View.ld x r0_7) (View.ld x r0_8) (View.ld x r0_9) (View.ld x r0_10) i = G (R := 256) x i := by
  unfold k0_pay1
  refine join_eq (G (R := 256) x) _ _ _ _ _ _ _ _ _ _ _ _ _ (fun q c => ?_) (fun q c => ?_) (fun q c => ?_) (fun q c => ?_) (fun q c => ?_)
    (fun q c => ?_) (fun q c => ?_) (fun q c => ?_) (fun q c => ?_) (fun q c => ?_) (fun q c => ?_) (fun q c => ?_) i
  · exact ld_at x 0 0 706 0 _ _ q c (by omega) _ (by rw [col_first (by omega)]; omega)
  · exact ld_at x 1 0 706 706 _ _ q c (by omega) _ (by rw [col_first (by omega)]; omega)
  · exact ld_at x 2 0 706 1412 _ _ q c (by omega) _ (by rw [col_first (by omega)]; omega)
  · exact ld_at x 3 0 706 2118 _ _ q c (by omega) _ (by rw [col_first (by omega)]; omega)
  · exact ld_at x 4 0 706 2824 _ _ q c (by omega) _ (by rw [col_first (by omega)]; omega)
  · exact ld_at x 5 0 54 3530 _ _ q c (by omega) _ (by rw [col_first (by omega)]; omega)
  · exact ld_at x 5 62 644 3584 _ _ q c (by omega) _ (by rw [col_second (by omega) (by omega)]; omega)
  · exact ld_at x 6 0 706 4228 _ _ q c (by omega) _ (by rw [col_second (by omega) (by omega)]; omega)
  · exact ld_at x 7 0 698 4934 _ _ q c (by omega) _ (by rw [col_second (by omega) (by omega)]; omega)
  · exact ld_at x 5 54 8 5632 _ _ q c (by omega) _ (by rw [col_third (by omega) (by omega)]; omega)
  · exact ld_at x 7 698 8 5640 _ _ q c (by omega) _ (by rw [col_last (by omega)]; omega)
  · unfold G
    rw [dif_neg (by show ¬(5648 + c.val < 5648); omega)]
    exact Ideal.ofBits_zero_bf16

/-- Where each window's block lies: every slice's rows and the result's rows moving together. -/
theorem idx_facts : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, _)

variable (m : (ℓ : Loc nD τ sig) → Buf (Elt Ideal) ℓ) (ρ : Dev nD → PrngReg)

/-- Each point writes its block of the whole layout. -/
theorem flushed_eq (c : Dev nD) (t : Fin cfg0.N) :
    (dats m 0 c).flushed 1 t = ((cfg0.win 1).blk t).view.read (Elt Ideal) (G (V m c main_arg0)) := by
  rw [Value.flushed1]
  unfold out0_1
  rw [View.canon_unit_zero (by funext a; fin_cases a <;> rfl)]
  obtain ⟨a0, a1, a2, b0, b1⟩ := idx_facts t
  funext j
  refine (pay_apply _ j).trans ?_
  show _ = G (V m c main_arg0) (((cfg0.win 1).blk t).view.emb j)
  have e1 : ((((cfg0.win 1).blk t).view.emb j) 1).val = (j 1).val := by
    show win0_1.index t (1 : Fin 2) * 5760 + 1 * (j 1).val = (j 1).val
    omega
  have e0 : ((((cfg0.win 1).blk t).view.emb j) 0).val = t.val * 256 + (j 0).val := by
    show win0_1.index t (0 : Fin 2) * 256 + 1 * (j 0).val = _
    rw [b0]; omega
  by_cases h : (j 1).val < 5648
  · unfold G
    rw [dif_pos h, dif_pos (by rw [e1]; exact h)]
    refine congrArg (V m c main_arg0) (idx3_ext ?_ ?_ ?_)
    · show win0_0.index t (0 : Fin 3) * 8 + 1 * (col (j 1).val / 706) = col ((((cfg0.win 1).blk t).view.emb j) 1).val / 706
      rw [e1]; omega
    · show win0_0.index t (1 : Fin 3) * 256 + 1 * (j 0).val = ((((cfg0.win 1).blk t).view.emb j) 0).val
      rw [e0, a1]; omega
    · show win0_0.index t (2 : Fin 3) * 706 + 1 * (col (j 1).val % 706) = col ((((cfg0.win 1).blk t).view.emb j) 1).val % 706
      rw [e1]; omega
  · unfold G
    rw [dif_neg h, dif_neg (by rw [e1]; exact h)]

/-- The block that holds an index of the result. -/
theorem cover (i : S1024x5760.Idx) : ∃ t : Fin cfg0.N, (cfg0.win 1).flush t = true ∧ i ∈ ((cfg0.win 1).blk t).view.set := by
  have h0 : (i 0).val < 1024 := (i 0).isLt
  have h1 : (i 1).val < 5760 := (i 1).isLt
  have hN : cfg0.N = 4 := by decide +kernel
  obtain ⟨t, ht⟩ : ∃ t : Fin cfg0.N, t.val = (i 0).val / 256 := ⟨⟨(i 0).val / 256, by rw [hN]; omega⟩, rfl⟩
  refine ⟨t, flush0_1 _, ?_⟩
  obtain ⟨-, -, -, c0, c1⟩ := idx_facts t
  show i ∈ ((View.whole main_v0).slice (win0_1.rect t)).set
  rw [View.set_slice_whole, Rect.mem_set_unit]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 5760 ≤ (i 1).val ∧ (i 1).val < win0_1.index t (1 : Fin 2) * 5760 + 5760
    omega

/-- The result array after the run is the layout of the slices as launched. -/
theorem final (c : Dev nD) : (dats m 0 c).arrAt 1 cfg0.N = G (R := 1024) (m ((c : Thread nD τ).loc main_arg0)) :=
  ((dats m 0 c).arrAt_eq_of_cover 1 (G (R := 1024) (V m c main_arg0)) (fun t _ => flushed_eq m c t) cover).trans
    (by rw [V_main_arg0])

open Cert.RegroupRefIdeal.Read in
/-- The reference's joined weight. -/
theorem joined_eq (x : S8x1024x706.Idx → EReal) (j : Cert.RegroupRefIdeal.S1024x5648.Idx) (i : S1024x5760.Idx) (hi : (i 1).val < 5648)
    (h0 : (j 0).val = (i 0).val) (h1 : (j 1).val = col (i 1).val) : val_main_v16 (F := Ideal) x j = G (R := 1024) x i := by
  have hj : (j 1).val < 5648 := (j 1).isLt
  have hj0 : (j 0).val < 1024 := (j 0).isLt
  unfold val_main_v16
  by_cases c0 : (j 1).val < 706
  · refine (cat_at _ _ j 0 (by simp) 706 _ (by rfl) 0 (by rfl) (by omega) (by omega)).trans ?_
    rw [val_main_v1_apply, val_main_v0_apply]
    exact G_of_lt x i _ hi (by show ((j 0).val * 706 + ((j 1).val - 0)) / 706 % 1024 = _; omega)
      (by show (0 + 0) * 706 + ((j 0).val * 706 + ((j 1).val - 0)) % 706 = _; omega)
  by_cases c1 : (j 1).val < 1412
  · refine (cat_at _ _ j 1 (by simp) 706 _ (by rfl) 706 (by rfl) (by omega) (by omega)).trans ?_
    rw [val_main_v3_apply, val_main_v2_apply]
    exact G_of_lt x i _ hi (by show ((j 0).val * 706 + ((j 1).val - 706)) / 706 % 1024 = _; omega)
      (by show (1 + 0) * 706 + ((j 0).val * 706 + ((j 1).val - 706)) % 706 = _; omega)
  by_cases c2 : (j 1).val < 2118
  · refine (cat_at _ _ j 2 (by simp) 706 _ (by rfl) 1412 (by rfl) (by omega) (by omega)).trans ?_
    rw [val_main_v5_apply, val_main_v4_apply]
    exact G_of_lt x i _ hi (by show ((j 0).val * 706 + ((j 1).val - 1412)) / 706 % 1024 = _; omega)
      (by show (2 + 0) * 706 + ((j 0).val * 706 + ((j 1).val - 1412)) % 706 = _; omega)
  by_cases c3 : (j 1).val < 2824
  · refine (cat_at _ _ j 3 (by simp) 706 _ (by rfl) 2118 (by rfl) (by omega) (by omega)).trans ?_
    rw [val_main_v7_apply, val_main_v6_apply]
    exact G_of_lt x i _ hi (by show ((j 0).val * 706 + ((j 1).val - 2118)) / 706 % 1024 = _; omega)
      (by show (3 + 0) * 706 + ((j 0).val * 706 + ((j 1).val - 2118)) % 706 = _; omega)
  by_cases c4 : (j 1).val < 3530
  · refine (cat_at _ _ j 4 (by simp) 706 _ (by rfl) 2824 (by rfl) (by omega) (by omega)).trans ?_
    rw [val_main_v9_apply, val_main_v8_apply]
    exact G_of_lt x i _ hi (by show ((j 0).val * 706 + ((j 1).val - 2824)) / 706 % 1024 = _; omega)
      (by show (4 + 0) * 706 + ((j 0).val * 706 + ((j 1).val - 2824)) % 706 = _; omega)
  by_cases c5 : (j 1).val < 4236
  · refine (cat_at _ _ j 5 (by simp) 706 _ (by rfl) 3530 (by rfl) (by omega) (by omega)).trans ?_
    rw [val_main_v11_apply, val_main_v10_apply]
    exact G_of_lt x i _ hi (by show ((j 0).val * 706 + ((j 1).val - 3530)) / 706 % 1024 = _; omega)
      (by show (5 + 0) * 706 + ((j 0).val * 706 + ((j 1).val - 3530)) % 706 = _; omega)
  by_cases c6 : (j 1).val < 4942
  · refine (cat_at _ _ j 6 (by simp) 706 _ (by rfl) 4236 (by rfl) (by omega) (by omega)).trans ?_
    rw [val_main_v13_apply, val_main_v12_apply]
    exact G_of_lt x i _ hi (by show ((j 0).val * 706 + ((j 1).val - 4236)) / 706 % 1024 = _; omega)
      (by show (6 + 0) * 706 + ((j 0).val * 706 + ((j 1).val - 4236)) % 706 = _; omega)
  refine (cat_at _ _ j 7 (by simp) 706 _ (by rfl) 4942 (by rfl) (by omega) (by omega)).trans ?_
  rw [val_main_v15_apply, val_main_v14_apply]
  exact G_of_lt x i _ hi (by show ((j 0).val * 706 + ((j 1).val - 4942)) / 706 % 1024 = _; omega)
    (by show (7 + 0) * 706 + ((j 0).val * 706 + ((j 1).val - 4942)) % 706 = _; omega)

open Cert.RegroupRefIdeal.Read in
/-- The reference's result is the same layout. -/
theorem reference_eq (x : S8x1024x706.Idx → EReal) : val_main_v22 (F := Ideal) x = G (R := 1024) x := by
  funext i
  have hi : (i 1).val < 5760 := (i 1).isLt
  unfold val_main_v22
  by_cases c0 : (i 1).val < 3584
  · refine (cat_at _ _ i 0 (by simp) 3584 _ (by rfl) 0 (by rfl) (by omega) (by omega)).trans ?_
    rw [val_main_v17_apply]
    exact joined_eq x _ i (by omega) rfl (by show (i 1).val - 0 = _; unfold col; split_ifs <;> omega)
  by_cases c1 : (i 1).val < 5632
  · refine (cat_at _ _ i 1 (by simp) 2048 _ (by rfl) 3584 (by rfl) (by omega) (by omega)).trans ?_
    rw [val_main_v18_apply]
    exact joined_eq x _ i (by omega) rfl (by show 3592 + ((i 1).val - 3584) = _; unfold col; split_ifs <;> omega)
  by_cases c2 : (i 1).val < 5640
  · refine (cat_at _ _ i 2 (by simp) 8 _ (by rfl) 5632 (by rfl) (by omega) (by omega)).trans ?_
    rw [val_main_v19_apply]
    exact joined_eq x _ i (by omega) rfl (by show 3584 + ((i 1).val - 5632) = _; unfold col; split_ifs <;> omega)
  by_cases c3 : (i 1).val < 5648
  · refine (cat_at _ _ i 3 (by simp) 8 _ (by rfl) 5640 (by rfl) (by omega) (by omega)).trans ?_
    rw [val_main_v20_apply]
    exact joined_eq x _ i (by omega) rfl (by show 5640 + ((i 1).val - 5640) = _; unfold col; split_ifs <;> omega)
  refine (cat_at _ _ i 4 (by simp) 112 _ (by rfl) 5648 (by rfl) (by omega) (by omega)).trans ?_
  rw [val_main_v21_apply, val_main_cst_apply]
  unfold G
  rw [dif_neg c3]
  exact Ideal.ofBits_zero_bf16

end Cert.RegroupIdeal.Product

namespace Cert.Proof

/-- `Regroup` and its reference end with the same layout. -/
theorem algebraic_Regroup : Cert.algebraic_RegroupIdeal_RegroupRefIdeal := fun m g m' g' _ hagree =>
  ⟨fun c => Cert.RegroupIdeal.Product.G (R := 1024) (m ((c.tc : Thread Cert.RegroupIdeal.nD Cert.RegroupIdeal.τ).loc Cert.RegroupIdeal.main_arg0)),
    (θ_run _ _ _).mono (fun _ h c => ⟨(h c).1.trans (Cert.RegroupIdeal.Product.final m c), (h c).2⟩) (Cert.RegroupIdeal.Value.run_blocks m g),
    (θ_run _ _ _).mono (fun _ h c => ⟨((h c).1.trans (Cert.RegroupRefIdeal.Read.val_main_v22_eq _ _)).trans
      ((Cert.RegroupIdeal.Product.reference_eq _).trans (by rw [hagree c])), (h c).2⟩) (Cert.RegroupRefIdeal.Value.run m' g')⟩

end Cert.Proof

end
-- ==== Proof.SlotsVal.lean ====
/-
  The call `slots_of_w_in_grad`: the four groups of columns of the input projection's weight gradient, brought into the order of the
  weight's own columns and cut into the eight devices' slices.
-/
module

public import proofs.«01_k».proof.Defs
public import proofs.«01_k».proof.Proof.Gen.Slots.Frame
public import proofs.«01_k».proof.Proof.Gen.SlotsIdeal.Value
public import proofs.«01_k».proof.Proof.Gen.SlotsRefIdeal.Run
public import proofs.«01_k».proof.Proof.Gen.SlotsRefIdeal.Read
public import proofs.«01_k».proof.Proof.Layout
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SlotsIdeal.Product

open Cert.SlotsIdeal Cert.SlotsIdeal.Gen Cert.Layout

/-- Row `q`, column `p` of the gradient in the weight's own order of columns, from the groups' `R` rows: the first group, the second,
    eight small columns, the third group, the other eight small columns. -/
def W {R : Nat} (a : (⟨2, ![R, 1024]⟩ : Shape).Idx → EReal) (b : (⟨2, ![R, 2560]⟩ : Shape).Idx → EReal) (d : (⟨2, ![R, 2048]⟩ : Shape).Idx → EReal)
    (e : (⟨2, ![R, 128]⟩ : Shape).Idx → EReal) (q : Fin R) (p : Nat) : EReal :=
  if h0 : p < 1024 then a (ix2 q ⟨p, h0⟩)
  else if h1 : p < 3584 then b (ix2 q ⟨p - 1024, by omega⟩)
  else if h2 : p < 3592 then e (ix2 q ⟨p - 3584, by omega⟩)
  else if h3 : p < 5640 then d (ix2 q ⟨p - 3592, by omega⟩)
  else if h4 : p < 5648 then e (ix2 q ⟨p - 5632, by omega⟩)
  else 0

/-- It depends only on row `q` of each group. -/
theorem W_row {R R' : Nat} {a : (⟨2, ![R, 1024]⟩ : Shape).Idx → EReal} {b : (⟨2, ![R, 2560]⟩ : Shape).Idx → EReal} {d : (⟨2, ![R, 2048]⟩ : Shape).Idx → EReal}
    {e : (⟨2, ![R, 128]⟩ : Shape).Idx → EReal} {q : Fin R} {a' : (⟨2, ![R', 1024]⟩ : Shape).Idx → EReal} {b' : (⟨2, ![R', 2560]⟩ : Shape).Idx → EReal}
    {d' : (⟨2, ![R', 2048]⟩ : Shape).Idx → EReal} {e' : (⟨2, ![R', 128]⟩ : Shape).Idx → EReal} {q' : Fin R'}
    (ha : ∀ k, a (ix2 q k) = a' (ix2 q' k)) (hb : ∀ k, b (ix2 q k) = b' (ix2 q' k)) (hd : ∀ k, d (ix2 q k) = d' (ix2 q' k))
    (he : ∀ k, e (ix2 q k) = e' (ix2 q' k)) (p : Nat) : W a b d e q p = W a' b' d' e' q' p := by
  unfold W
  split_ifs
  · exact ha _
  · exact hb _
  · exact he _
  · exact hd _
  · exact he _
  · rfl

/-- The five pieces joined, read at an index. -/
theorem joined_at {R : Nat} (a : (⟨2, ![R, 1024]⟩ : Shape).Idx → EReal) (b : (⟨2, ![R, 2560]⟩ : Shape).Idx → EReal) (d : (⟨2, ![R, 2048]⟩ : Shape).Idx → EReal)
    (e : (⟨2, ![R, 128]⟩ : Shape).Idx → EReal) (u w : (⟨2, ![R, 8]⟩ : Shape).Idx → EReal)
    (hu : ∀ (q : Fin R) (k : Fin 8), u (ix2 q k) = e (ix2 q ⟨k.val, by omega⟩)) (hw : ∀ (q : Fin R) (k : Fin 8), w (ix2 q k) = e (ix2 q ⟨8 + k.val, by omega⟩))
    (h : Shape.Concatenates [(⟨2, ![R, 1024]⟩ : Shape), (⟨2, ![R, 2560]⟩ : Shape), (⟨2, ![R, 8]⟩ : Shape), (⟨2, ![R, 2048]⟩ : Shape), (⟨2, ![R, 8]⟩ : Shape)] (⟨2, ![R, 5648]⟩ : Shape) 1)
    (j : (⟨2, ![R, 5648]⟩ : Shape).Idx) :
    concatenate (⟨2, ![R, 5648]⟩ : Shape) 1 [⟨(⟨2, ![R, 1024]⟩ : Shape), a⟩, ⟨(⟨2, ![R, 2560]⟩ : Shape), b⟩, ⟨(⟨2, ![R, 8]⟩ : Shape), u⟩, ⟨(⟨2, ![R, 2048]⟩ : Shape), d⟩, ⟨(⟨2, ![R, 8]⟩ : Shape), w⟩] h j
      = W a b d e (j 0) (j 1).val := by
  have hj : (j 1).val < 5648 := (j 1).isLt
  unfold W
  by_cases c0 : (j 1).val < 1024
  · rw [dif_pos c0]
    exact cat_at _ _ j 0 (by simp) 1024 a (by rfl) 0 (by rfl) (by omega) (by omega)
  rw [dif_neg c0]
  by_cases c1 : (j 1).val < 3584
  · rw [dif_pos c1]
    exact cat_at _ _ j 1 (by simp) 2560 b (by rfl) 1024 (by rfl) (by omega) (by omega)
  rw [dif_neg c1]
  by_cases c2 : (j 1).val < 3592
  · rw [dif_pos c2]
    exact Eq.trans (cat_at _ _ j 2 (by simp) 8 u (by rfl) 3584 (by rfl) (by omega) (by omega)) (hu _ _)
  rw [dif_neg c2]
  by_cases c3 : (j 1).val < 5640
  · rw [dif_pos c3]
    exact cat_at _ _ j 3 (by simp) 2048 d (by rfl) 3592 (by rfl) (by omega) (by omega)
  rw [dif_neg c3, dif_pos hj]
  refine Eq.trans (cat_at _ _ j 4 (by simp) 8 w (by rfl) 5640 (by rfl) (by omega) (by omega)) ?_
  refine Eq.trans (hw (j 0) ⟨(j 1).val - 5640, by omega⟩) (congrArg e (idx2_ext ?_ ?_))
  · show (j 0).val = (j 0).val
    exact Eq.refl _
  show 8 + ((j 1).val - 5640) = (j 1).val - 5632
  omega

/-- The slices: device `k` holds columns `706 k` to `706 k + 705`. -/
def G {R : Nat} (a : (⟨2, ![R, 1024]⟩ : Shape).Idx → EReal) (b : (⟨2, ![R, 2560]⟩ : Shape).Idx → EReal) (d : (⟨2, ![R, 2048]⟩ : Shape).Idx → EReal)
    (e : (⟨2, ![R, 128]⟩ : Shape).Idx → EReal) : (⟨3, ![8, R, 706]⟩ : Shape).Idx → EReal := fun i => W a b d e (i 1) ((i 0).val * 706 + (i 2).val)

/-- The joined columns of a grid point. -/
theorem joined_pay (x3 : Vec Ideal S256x128 .bf16) (x0 : Vec Ideal S256x1024 .bf16) (x1 : Vec Ideal S256x2560 .bf16) (x2 : Vec Ideal S256x2048 .bf16)
    (j : S256x5648.Idx) : k0_pay4 x3 x0 x1 x2 j = W x0 x1 x2 x3 (j 0) (j 1).val := by
  unfold k0_pay4
  exact joined_at x0 x1 x2 x3 _ _
    (fun q k => extractStridedSlice_apply ![0, 0] x3 _ (ix2 q k) (ix2 q ⟨k.val, by omega⟩) (fun a => match a with
      | ⟨0, _⟩ => (Nat.zero_add _).symm
      | ⟨1, _⟩ => (Nat.zero_add _).symm))
    (fun q k => extractStridedSlice_apply ![0, 8] x3 _ (ix2 q k) (ix2 q ⟨8 + k.val, by omega⟩) (fun a => match a with
      | ⟨0, _⟩ => (Nat.zero_add _).symm
      | ⟨1, _⟩ => rfl)) _ j

/-- One slice cut from the joined columns, with its leading axis. -/
theorem slice_at (v : S256x5648.Idx → EReal) (k off : Nat) (hoff : off = k * 706) (hk : k < 8) (h : S256x5648.Slices ![0, off] S256x706)
    (hc : S256x706.ShapeCasts S1x256x706) (x : S1x256x706.Idx) :
    shapeCast S1x256x706 (extractStridedSlice S256x706 ![0, off] v h) hc x
      = v (ix2 (x 1) ⟨k * 706 + (x 2).val, by have h2 : (x 2).val < 706 := (x 2).isLt; omega⟩) := by
  have hx : x = ix3 (0 : Fin 1) (x 1) (x 2) := idx3_ext (by have h0 : (x 0).val < 1 := (x 0).isLt; show (x 0).val = 0; omega) rfl rfl
  rw [hx]
  refine (ValueIdx.shapeCast_ab_1ab_apply _ hc 0 (x 1) (x 2)).trans (extractStridedSlice_apply ![0, off] v h _ _ (fun a => match a with
    | ⟨0, _⟩ => (Nat.zero_add _).symm
    | ⟨1, _⟩ => ?_))
  show k * 706 + (x 2).val = off + (x 2).val
  rw [hoff]

/-- A piece written at slice `k` is that slice. -/
theorem piece_at (x3 : Vec Ideal S256x128 .bf16) (x0 : Vec Ideal S256x1024 .bf16) (x1 : Vec Ideal S256x2560 .bf16) (x2 : Vec Ideal S256x2048 .bf16)
    (k off : Nat) (hoff : off = k * 706) (hk : k < 8) (h : S256x5648.Slices ![0, off] S256x706) (hc : S256x706.ShapeCasts S1x256x706)
    (inb : ∀ a, (![k, 0, 0] : Fin 3 → Nat) a + S1x256x706.size a ≤ S8x256x706.size a) (x : S1x256x706.Idx) :
    shapeCast S1x256x706 (extractStridedSlice S256x706 ![0, off] (k0_pay4 x3 x0 x1 x2) h) hc x
      = G x0 x1 x2 x3 ((Rect.unit (s := S8x256x706) ![k, 0, 0] S1x256x706.size inb).emb x) := by
  have h0 : (x 0).val < 1 := (x 0).isLt
  refine (slice_at _ k off hoff hk h hc x).trans ((joined_pay x3 x0 x1 x2 _).trans ?_)
  have e1 : ((Rect.unit (s := S8x256x706) ![k, 0, 0] S1x256x706.size inb).emb x) 1 = x 1 := Fin.ext (by show 0 + 1 * (x 1).val = (x 1).val; omega)
  show W x0 x1 x2 x3 (x 1) (k * 706 + (x 2).val) = W x0 x1 x2 x3 (((Rect.unit (s := S8x256x706) ![k, 0, 0] S1x256x706.size inb).emb x) 1) ((k + 1 * (x 0).val) * 706 + (0 + 1 * (x 2).val))
  rw [e1]
  exact congrArg (W x0 x1 x2 x3 (x 1)) (by omega)

/-- What a grid point leaves: the slices of its rows. -/
theorem out_eq (x0 : Vec Ideal S256x1024 .bf16) (x1 : Vec Ideal S256x2560 .bf16) (x2 : Vec Ideal S256x2048 .bf16) (x3 : Vec Ideal S256x128 .bf16) :
    out0_4 x0 x1 x2 x3 = G x0 x1 x2 x3 := by
  have hz : (![0, 0] : Fin 2 → Nat) = fun _ => 0 := by funext a; fin_cases a <;> rfl
  unfold out0_4 k0_pay11
  rw [View.ld_unit_zero (S := S256x128) hz, View.ld_unit_zero (S := S256x1024) hz, View.ld_unit_zero (S := S256x2560) hz, View.ld_unit_zero (S := S256x2048) hz]
  funext y
  refine View.canon_apply_of_pieces (Val := Elt Ideal) (S := S8x256x706) (e := .bf16) (G x0 x1 x2 x3) _ (fun pc hpc => ?_) y (cover0_4 _ _ _ _ _ _ _ _ y)
  rcases List.mem_cons.mp hpc with rfl | hpc
  · exact piece_at x3 x0 x1 x2 7 4942 rfl (by decide) slices_S256x5648_o0_4942_S256x706 shapeCasts_S256x706_S1x256x706 inb_S8x256x706_S1x256x706_7_0_0
  rcases List.mem_cons.mp hpc with rfl | hpc
  · exact piece_at x3 x0 x1 x2 6 4236 rfl (by decide) slices_S256x5648_o0_4236_S256x706 shapeCasts_S256x706_S1x256x706 inb_S8x256x706_S1x256x706_6_0_0
  rcases List.mem_cons.mp hpc with rfl | hpc
  · exact piece_at x3 x0 x1 x2 5 3530 rfl (by decide) slices_S256x5648_o0_3530_S256x706 shapeCasts_S256x706_S1x256x706 inb_S8x256x706_S1x256x706_5_0_0
  rcases List.mem_cons.mp hpc with rfl | hpc
  · exact piece_at x3 x0 x1 x2 4 2824 rfl (by decide) slices_S256x5648_o0_2824_S256x706 shapeCasts_S256x706_S1x256x706 inb_S8x256x706_S1x256x706_4_0_0
  rcases List.mem_cons.mp hpc with rfl | hpc
  · exact piece_at x3 x0 x1 x2 3 2118 rfl (by decide) slices_S256x5648_o0_2118_S256x706 shapeCasts_S256x706_S1x256x706 inb_S8x256x706_S1x256x706_3_0_0
  rcases List.mem_cons.mp hpc with rfl | hpc
  · exact piece_at x3 x0 x1 x2 2 1412 rfl (by decide) slices_S256x5648_o0_1412_S256x706 shapeCasts_S256x706_S1x256x706 inb_S8x256x706_S1x256x706_2_0_0
  rcases List.mem_cons.mp hpc with rfl | hpc
  · exact piece_at x3 x0 x1 x2 1 706 rfl (by decide) slices_S256x5648_o0_706_S256x706 shapeCasts_S256x706_S1x256x706 inb_S8x256x706_S1x256x706_1_0_0
  rcases List.mem_cons.mp hpc with rfl | hpc
  · exact piece_at x3 x0 x1 x2 0 0 rfl (by decide) slices_S256x5648_o0_0_S256x706 shapeCasts_S256x706_S1x256x706 inb_S8x256x706_S1x256x706_0_0_0
  nomatch hpc

/-- Where each window's block lies: the rows of all five move together. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0)
    ∧ win0_4.index t (0 : Fin 3) = 0 ∧ win0_4.index t (1 : Fin 3) = t.val ∧ win0_4.index t (2 : Fin 3) = 0 :=
  (by decide +kernel : ∀ t : Fin grid0.N, _)

variable (m : (ℓ : Loc nD τ sig) → Buf (Elt Ideal) ℓ) (ρ : Dev nD → PrngReg)

/-- Each point writes its block of the slices. -/
theorem flushed_eq (c : Dev nD) (t : Fin cfg0.N) :
    (dats m 0 c).flushed 4 t = ((cfg0.win 4).blk t).view.read (Elt Ideal) (G (R := 1024) (V m c main_arg0) (V m c main_arg1) (V m c main_arg2) (V m c main_arg3)) := by
  rw [Value.flushed4, out_eq]
  obtain ⟨⟨a0, a1⟩, ⟨b0, b1⟩, ⟨d0, d1⟩, ⟨e0, e1⟩, f0, f1, f2⟩ := idx_facts t
  funext j
  show W _ _ _ _ (j 1) ((j 0).val * 706 + (j 2).val)
    = W _ _ _ _ ((((cfg0.win 4).blk t).view.emb j) 1) ((win0_4.index t (0 : Fin 3) * 8 + 1 * (j 0).val) * 706 + (win0_4.index t (2 : Fin 3) * 706 + 1 * (j 2).val))
  rw [f0, f2, show (0 * 8 + 1 * (j 0).val) * 706 + (0 * 706 + 1 * (j 2).val) = (j 0).val * 706 + (j 2).val by omega]
  have hr : ((((cfg0.win 4).blk t).view.emb j) 1).val = t.val * 256 + (j 1).val := by
    show win0_4.index t (1 : Fin 3) * 256 + 1 * (j 1).val = _
    rw [f1]; omega
  refine W_row (fun k => ?_) (fun k => ?_) (fun k => ?_) (fun k => ?_) _
  · refine congrArg (V m c main_arg0) (idx2_ext (Eq.trans ?_ hr.symm) ?_)
    · show win0_0.index t (0 : Fin 2) * 256 + 1 * (j 1).val = _
      omega
    · show win0_0.index t (1 : Fin 2) * 1024 + 1 * k.val = k.val
      omega
  · refine congrArg (V m c main_arg1) (idx2_ext (Eq.trans ?_ hr.symm) ?_)
    · show win0_1.index t (0 : Fin 2) * 256 + 1 * (j 1).val = _
      omega
    · show win0_1.index t (1 : Fin 2) * 2560 + 1 * k.val = k.val
      omega
  · refine congrArg (V m c main_arg2) (idx2_ext (Eq.trans ?_ hr.symm) ?_)
    · show win0_2.index t (0 : Fin 2) * 256 + 1 * (j 1).val = _
      omega
    · show win0_2.index t (1 : Fin 2) * 2048 + 1 * k.val = k.val
      omega
  · refine congrArg (V m c main_arg3) (idx2_ext (Eq.trans ?_ hr.symm) ?_)
    · show win0_3.index t (0 : Fin 2) * 256 + 1 * (j 1).val = _
      omega
    · show win0_3.index t (1 : Fin 2) * 128 + 1 * k.val = k.val
      omega

/-- The block that holds an index of the result. -/
theorem cover (i : S8x1024x706.Idx) : ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 706 := (i 2).isLt
  have hN : cfg0.N = 4 := by decide +kernel
  obtain ⟨t, ht⟩ : ∃ t : Fin cfg0.N, t.val = (i 1).val / 256 := ⟨⟨(i 1).val / 256, by rw [hN]; omega⟩, rfl⟩
  refine ⟨t, flush0_4 _, ?_⟩
  obtain ⟨-, -, -, -, f0, f1, f2⟩ := idx_facts t
  show i ∈ ((View.whole main_v0).slice (win0_4.rect t)).set
  rw [View.set_slice_whole, Rect.mem_set_unit]
  intro a
  match a with
  | ⟨0, _⟩ =>
    show win0_4.index t (0 : Fin 3) * 8 ≤ (i 0).val ∧ (i 0).val < win0_4.index t (0 : Fin 3) * 8 + 8
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 706 ≤ (i 2).val ∧ (i 2).val < win0_4.index t (2 : Fin 3) * 706 + 706
    omega

/-- The result array after the run is the slices of the gradient as launched. -/
theorem final (c : Dev nD) : (dats m 0 c).arrAt 4 cfg0.N = G (R := 1024) (m ((c : Thread nD τ).loc main_arg0)) (m ((c : Thread nD τ).loc main_arg1))
    (m ((c : Thread nD τ).loc main_arg2)) (m ((c : Thread nD τ).loc main_arg3)) :=
  ((dats m 0 c).arrAt_eq_of_cover 4 (G (R := 1024) (V m c main_arg0) (V m c main_arg1) (V m c main_arg2) (V m c main_arg3)) (fun t _ => flushed_eq m c t) cover).trans
    (by rw [V_main_arg0, V_main_arg1, V_main_arg2, V_main_arg3])

open Cert.SlotsRefIdeal.Read in
/-- The reference's joined columns. -/
theorem reference_joined (a : S1024x1024.Idx → EReal) (b : S1024x2560.Idx → EReal) (d : S1024x2048.Idx → EReal) (e : S1024x128.Idx → EReal)
    (j : Cert.SlotsRefIdeal.S1024x5648.Idx) : val_main_v2 (F := Ideal) a b d e j = W (R := 1024) a b d e (j 0) (j 1).val :=
  joined_at (R := 1024) a b d e _ _
    (fun q k => (val_main_v0_apply (F := Ideal) e (ix2 q k)).trans (congrArg e (idx2_ext rfl rfl)))
    (fun q k => (val_main_v1_apply (F := Ideal) e (ix2 q k)).trans (congrArg e (idx2_ext rfl rfl))) _ j

open Cert.SlotsRefIdeal.Read in
/-- The reference's result is the same slices. -/
theorem reference_eq (a : S1024x1024.Idx → EReal) (b : S1024x2560.Idx → EReal) (d : S1024x2048.Idx → EReal) (e : S1024x128.Idx → EReal) :
    val_main_v19 (F := Ideal) a b d e = G (R := 1024) a b d e := by
  funext i
  have h0 : (i 0).val < 8 := (i 0).isLt
  unfold val_main_v19
  show _ = W (R := 1024) a b d e (i 1) ((i 0).val * 706 + (i 2).val)
  obtain c | c | c | c | c | c | c | c : (i 0).val = 0 ∨ (i 0).val = 1 ∨ (i 0).val = 2 ∨ (i 0).val = 3 ∨ (i 0).val = 4 ∨ (i 0).val = 5
    ∨ (i 0).val = 6 ∨ (i 0).val = 7 := by omega
  · refine (stack_at _ _ i 0 (by simp) _ (by rfl) (by rfl) c).trans ?_
    rw [val_main_v11_apply, val_main_v3_apply, reference_joined, c]
    exact congrArg (W (R := 1024) a b d e (i 1)) (by show (i 2).val = _; omega)
  · refine (stack_at _ _ i 1 (by simp) _ (by rfl) (by rfl) c).trans ?_
    rw [val_main_v12_apply, val_main_v4_apply, reference_joined, c]
    exact congrArg (W (R := 1024) a b d e (i 1)) (by show 706 + (i 2).val = _; omega)
  · refine (stack_at _ _ i 2 (by simp) _ (by rfl) (by rfl) c).trans ?_
    rw [val_main_v13_apply, val_main_v5_apply, reference_joined, c]
    exact congrArg (W (R := 1024) a b d e (i 1)) (by show 1412 + (i 2).val = _; omega)
  · refine (stack_at _ _ i 3 (by simp) _ (by rfl) (by rfl) c).trans ?_
    rw [val_main_v14_apply, val_main_v6_apply, reference_joined, c]
    exact congrArg (W (R := 1024) a b d e (i 1)) (by show 2118 + (i 2).val = _; omega)
  · refine (stack_at _ _ i 4 (by simp) _ (by rfl) (by rfl) c).trans ?_
    rw [val_main_v15_apply, val_main_v7_apply, reference_joined, c]
    exact congrArg (W (R := 1024) a b d e (i 1)) (by show 2824 + (i 2).val = _; omega)
  · refine (stack_at _ _ i 5 (by simp) _ (by rfl) (by rfl) c).trans ?_
    rw [val_main_v16_apply, val_main_v8_apply, reference_joined, c]
    exact congrArg (W (R := 1024) a b d e (i 1)) (by show 3530 + (i 2).val = _; omega)
  · refine (stack_at _ _ i 6 (by simp) _ (by rfl) (by rfl) c).trans ?_
    rw [val_main_v17_apply, val_main_v9_apply, reference_joined, c]
    exact congrArg (W (R := 1024) a b d e (i 1)) (by show 4236 + (i 2).val = _; omega)
  · refine (stack_at _ _ i 7 (by simp) _ (by rfl) (by rfl) c).trans ?_
    rw [val_main_v18_apply, val_main_v10_apply, reference_joined, c]
    exact congrArg (W (R := 1024) a b d e (i 1)) (by show 4942 + (i 2).val = _; omega)

end Cert.SlotsIdeal.Product

namespace Cert.Proof

/-- `Slots` and its reference end with the same slices. -/
theorem algebraic_Slots : Cert.algebraic_SlotsIdeal_SlotsRefIdeal := fun m g m' g' _ hagree =>
  ⟨fun c => Cert.SlotsIdeal.Product.G (R := 1024) (m ((c.tc : Thread Cert.SlotsIdeal.nD Cert.SlotsIdeal.τ).loc Cert.SlotsIdeal.main_arg0))
      (m ((c.tc : Thread Cert.SlotsIdeal.nD Cert.SlotsIdeal.τ).loc Cert.SlotsIdeal.main_arg1)) (m ((c.tc : Thread Cert.SlotsIdeal.nD Cert.SlotsIdeal.τ).loc Cert.SlotsIdeal.main_arg2))
      (m ((c.tc : Thread Cert.SlotsIdeal.nD Cert.SlotsIdeal.τ).loc Cert.SlotsIdeal.main_arg3)),
    (θ_run _ _ _).mono (fun _ h c => ⟨(h c).1.trans (Cert.SlotsIdeal.Product.final m c), (h c).2⟩) (Cert.SlotsIdeal.Value.run_blocks m g),
    (θ_run _ _ _).mono (fun _ h c => ⟨((h c).1.trans (Cert.SlotsRefIdeal.Read.val_main_v19_eq _ _)).trans
      ((Cert.SlotsIdeal.Product.reference_eq _ _ _ _).trans (by rw [(hagree c).1, (hagree c).2.1, (hagree c).2.2.1, (hagree c).2.2.2])), (h c).2⟩) (Cert.SlotsRefIdeal.Value.run m' g')⟩

end Cert.Proof

end
-- ==== Proof.AdamStep.lean ====
/-
  One AdamW step on one entry, over the extended reals: the two moments and the change of the weight.
-/
module

public import Idealize.ShloMosaic.Lib.Pipeline.Value
public import Idealize.ShloMosaic.Lib.Pointwise

@[expose] public section

noncomputable section

open Idealize.ShloMosaic

namespace Cert.AdamStep

/-- The first moment after the step. -/
def mom (m g : EReal) : EReal := Ideal.ofBits FTy.f32 0x3F666666#32 * m + Ideal.ofBits FTy.f32 0x3DCCCCCD#32 * g

/-- The second moment after the step. -/
def vel (v g : EReal) : EReal := Ideal.ofBits FTy.f32 0x3F7FBE77#32 * v + Ideal.ofBits FTy.f32 0x3A83126F#32 * (g * g)

/-- The change of the weight, from the weight, its gradient and the two moments before the step. -/
def delta (w g m v : EReal) : EReal := Ideal.ofBits FTy.f32 0xBA83126F#32 *
  (Ideal.div (Ideal.div (mom m g) (Ideal.ofBits FTy.f32 0x3F26BD02#32))
    (Ideal.sqrt (Ideal.div (vel v g) (Ideal.ofBits FTy.f32 0x3C231ACC#32)) + Ideal.ofBits FTy.f32 0x322BCC77#32)
    + Ideal.ofBits FTy.f32 0x3C23D70A#32 * w)

/-- The eight parts added one after another are their sum. -/
theorem sum_eight (f : Fin 8 → EReal) (s0 s1 s2 s3 s4 s5 s6 s7 : EReal) (h0 : s0 = f 0) (h1 : s1 = f 1) (h2 : s2 = f 2) (h3 : s3 = f 3)
    (h4 : s4 = f 4) (h5 : s5 = f 5) (h6 : s6 = f 6) (h7 : s7 = f 7) : s0 + s1 + s2 + s3 + s4 + s5 + s6 + s7 = ∑ k, f k := by
  rw [h0, h1, h2, h3, h4, h5, h6, h7, Fin.sum_univ_eight]

end Cert.AdamStep

end
-- ==== Proof.AdamInVal.lean ====
/-
  AdamW on the input projections: the eight devices' parts of the gradient added up, then one step, block by block.
-/
module

public import proofs.«01_k».proof.Defs
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.AdamStep
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamInIdeal.Product

open Cert.AdamInIdeal Cert.AdamInIdeal.Gen Cert.AdamStep

/-- The gradient: the sum of the eight parts. -/
def GR (s : S8x4x1024x706.Idx → EReal) : S4x1024x706.Idx → EReal := fun i => ∑ k : Fin 8, s (ix4 k (i 0) (i 1) (i 2))

/-- The change of the weight. -/
def DE (s : S8x4x1024x706.Idx → EReal) (w m v : S4x1024x706.Idx → EReal) : S4x1024x706.Idx → EReal := fun i => delta (w i) (GR s i) (m i) (v i)

/-- The first moment. -/
def M1 (s : S8x4x1024x706.Idx → EReal) (m : S4x1024x706.Idx → EReal) : S4x1024x706.Idx → EReal := fun i => mom (m i) (GR s i)

/-- The second moment. -/
def M2 (s : S8x4x1024x706.Idx → EReal) (v : S4x1024x706.Idx → EReal) : S4x1024x706.Idx → EReal := fun i => vel (v i) (GR s i)

/-- Where each window's block lies: the arrays' blocks move together. -/
theorem idx_facts : ∀ t : Fin cfg0.N, (win0_0.index t (0 : Fin 4) = 0 ∧ win0_0.index t (1 : Fin 4) = t.val / 4 ∧ win0_0.index t (2 : Fin 4) = t.val % 4 ∧ win0_0.index t (3 : Fin 4) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

theorem hN : cfg0.N = 16 := by decide +kernel

variable (m : (ℓ : Loc nD τ sig) → Buf (Elt Ideal) ℓ) (ρ : Dev nD → PrngReg)

/-- The array index under an index of point `t`'s block. -/
def at3 (t : Fin cfg0.N) (y : S1x256x706.Idx) : S4x1024x706.Idx := ((cfg0.win 4).blk t).view.emb y

/-- One part's block, read under an index of the result's block. -/
theorem part (c : Dev nD) (t : Fin cfg0.N) (y : S1x256x706.Idx) (k : Fin 8)
    (inb : ∀ a : Fin 4, (![k.val, 0, 0, 0] : Fin 4 → Nat) a + S1x1x256x706.size a ≤ S8x1x256x706.size a) :
    View.ld (iblk m c 0 t) (Rect.unit (s := S8x1x256x706) ![k.val, 0, 0, 0] S1x1x256x706.size inb) (Value.ix4_0 y)
      = V m c main_arg0 (ix4 k (at3 t y 0) (at3 t y 1) (at3 t y 2)) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg0) (funext fun a => Fin.ext ?_)
  match a with
  | ⟨0, _⟩ => show win0_0.index t (0 : Fin 4) * 8 + 1 * (k.val + 1 * 0) = k.val; omega
  | ⟨1, _⟩ => show win0_0.index t (1 : Fin 4) * 1 + 1 * (0 + 1 * 0) = win0_4.index t (0 : Fin 3) * 1 + 1 * (y 0).val; omega
  | ⟨2, _⟩ => show win0_0.index t (2 : Fin 4) * 256 + 1 * (0 + 1 * (y 1).val) = win0_4.index t (1 : Fin 3) * 256 + 1 * (y 1).val; omega
  | ⟨3, _⟩ => show win0_0.index t (3 : Fin 4) * 706 + 1 * (0 + 1 * (y 2).val) = win0_4.index t (2 : Fin 3) * 706 + 1 * (y 2).val; omega

/-- The weight's block, read under an index of the result's block. -/
theorem blk1 (c : Dev nD) (t : Fin cfg0.N) (y : S1x256x706.Idx) :
    View.ld (iblk m c 1 t) r0_8 (Value.ix5_26 y) = V m c main_arg1 (at3 t y) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg1) (funext fun a => Fin.ext ?_)
  match a with
  | ⟨0, _⟩ => show win0_1.index t (0 : Fin 3) * 1 + 1 * (0 + 1 * 0) = win0_4.index t (0 : Fin 3) * 1 + 1 * (y 0).val; omega
  | ⟨1, _⟩ => show win0_1.index t (1 : Fin 3) * 256 + 1 * (0 + 1 * (y 1).val) = win0_4.index t (1 : Fin 3) * 256 + 1 * (y 1).val; omega
  | ⟨2, _⟩ => show win0_1.index t (2 : Fin 3) * 706 + 1 * (0 + 1 * (y 2).val) = win0_4.index t (2 : Fin 3) * 706 + 1 * (y 2).val; omega

/-- The first moment's block, read under an index of the result's block. -/
theorem blk2 (c : Dev nD) (t : Fin cfg0.N) (y : S1x256x706.Idx) :
    View.ld (iblk m c 2 t) r0_8 (Value.ix5_0 y) = V m c main_arg2 (at3 t y) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg2) (funext fun a => Fin.ext ?_)
  match a with
  | ⟨0, _⟩ => show win0_2.index t (0 : Fin 3) * 1 + 1 * (0 + 1 * 0) = win0_4.index t (0 : Fin 3) * 1 + 1 * (y 0).val; omega
  | ⟨1, _⟩ => show win0_2.index t (1 : Fin 3) * 256 + 1 * (0 + 1 * (y 1).val) = win0_4.index t (1 : Fin 3) * 256 + 1 * (y 1).val; omega
  | ⟨2, _⟩ => show win0_2.index t (2 : Fin 3) * 706 + 1 * (0 + 1 * (y 2).val) = win0_4.index t (2 : Fin 3) * 706 + 1 * (y 2).val; omega

/-- The second moment's block, read under an index of the result's block. -/
theorem blk3 (c : Dev nD) (t : Fin cfg0.N) (y : S1x256x706.Idx) :
    View.ld (iblk m c 3 t) r0_8 (Value.ix5_9 y) = V m c main_arg3 (at3 t y) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg3) (funext fun a => Fin.ext ?_)
  match a with
  | ⟨0, _⟩ => show win0_3.index t (0 : Fin 3) * 1 + 1 * (0 + 1 * 0) = win0_4.index t (0 : Fin 3) * 1 + 1 * (y 0).val; omega
  | ⟨1, _⟩ => show win0_3.index t (1 : Fin 3) * 256 + 1 * (0 + 1 * (y 1).val) = win0_4.index t (1 : Fin 3) * 256 + 1 * (y 1).val; omega
  | ⟨2, _⟩ => show win0_3.index t (2 : Fin 3) * 706 + 1 * (0 + 1 * (y 2).val) = win0_4.index t (2 : Fin 3) * 706 + 1 * (y 2).val; omega

/-- The sum over the parts' blocks. -/
theorem grad_at (c : Dev nD) (t : Fin cfg0.N) (y : S1x256x706.Idx) : Value.E4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y = GR (V m c main_arg0) (at3 t y) :=
  sum_eight (fun k => V m c main_arg0 (ix4 k (at3 t y 0) (at3 t y 1) (at3 t y 2))) _ _ _ _ _ _ _ _ (part m c t y 0 _) (part m c t y 1 _) (part m c t y 2 _) (part m c t y 3 _) (part m c t y 4 _) (part m c t y 5 _) (part m c t y 6 _) (part m c t y 7 _)

/-- Equal operands give the same step. -/
theorem step_at {w w' g g' m m' v v' : EReal} (hw : w = w') (hg : g = g') (hm : m = m') (hv : v = v') : delta w g m v = delta w' g' m' v' := by
  rw [hw, hg, hm, hv]

/-- What point `t` writes back of the gradient. -/
theorem flushed4 (c : Dev nD) (t : Fin cfg0.N) :
    (dats m 0 c).flushed 4 t = ((cfg0.win 4).blk t).view.read (Elt Ideal) (GR (V m c main_arg0)) := by
  rw [Value.flushed4]
  funext y
  show out0_4 (iblk m c 0 t) (iblk m c 1 t) (iblk m c 2 t) (iblk m c 3 t) y = (GR (V m c main_arg0)) (((cfg0.win 4).blk t).view.emb y)
  unfold out0_4 k0_pay10
  exact (Value.canon4_eq (F := Ideal) _ _ _ _ _ _ _ _ y).trans (grad_at m c t y)

/-- What point `t` writes back of the change of the weight. -/
theorem flushed5 (c : Dev nD) (t : Fin cfg0.N) :
    (dats m 0 c).flushed 5 t = ((cfg0.win 5).blk t).view.read (Elt Ideal) (DE (V m c main_arg0) (V m c main_arg1) (V m c main_arg2) (V m c main_arg3)) := by
  rw [Value.flushed5]
  funext y
  have hw : ((cfg0.win 5).blk t).view.emb y = at3 t y := by
    obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
    funext a; apply Fin.ext
    match a with
    | ⟨0, _⟩ => show win0_5.index t (0 : Fin 3) * 1 + 1 * (y 0).val = win0_4.index t (0 : Fin 3) * 1 + 1 * (y 0).val; omega
    | ⟨1, _⟩ => show win0_5.index t (1 : Fin 3) * 256 + 1 * (y 1).val = win0_4.index t (1 : Fin 3) * 256 + 1 * (y 1).val; omega
    | ⟨2, _⟩ => show win0_5.index t (2 : Fin 3) * 706 + 1 * (y 2).val = win0_4.index t (2 : Fin 3) * 706 + 1 * (y 2).val; omega
  show out0_5 (iblk m c 0 t) (iblk m c 1 t) (iblk m c 2 t) (iblk m c 3 t) y = (DE (V m c main_arg0) (V m c main_arg1) (V m c main_arg2) (V m c main_arg3)) (((cfg0.win 5).blk t).view.emb y)
  refine Eq.trans ?_ (congrArg (DE (V m c main_arg0) (V m c main_arg1) (V m c main_arg2) (V m c main_arg3)) hw.symm)
  unfold out0_5 k0_pay10
  exact (Value.canon5_eq (F := Ideal) _ _ _ _ _ _ _ _ _ _ _ y).trans (step_at (blk1 m c t y) (grad_at m c t y) (blk2 m c t y) (blk3 m c t y))

/-- What point `t` writes back of the first moment. -/
theorem flushed6 (c : Dev nD) (t : Fin cfg0.N) :
    (dats m 0 c).flushed 6 t = ((cfg0.win 6).blk t).view.read (Elt Ideal) (M1 (V m c main_arg0) (V m c main_arg2)) := by
  rw [Value.flushed6]
  funext y
  have hw : ((cfg0.win 6).blk t).view.emb y = at3 t y := by
    obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
    funext a; apply Fin.ext
    match a with
    | ⟨0, _⟩ => show win0_6.index t (0 : Fin 3) * 1 + 1 * (y 0).val = win0_4.index t (0 : Fin 3) * 1 + 1 * (y 0).val; omega
    | ⟨1, _⟩ => show win0_6.index t (1 : Fin 3) * 256 + 1 * (y 1).val = win0_4.index t (1 : Fin 3) * 256 + 1 * (y 1).val; omega
    | ⟨2, _⟩ => show win0_6.index t (2 : Fin 3) * 706 + 1 * (y 2).val = win0_4.index t (2 : Fin 3) * 706 + 1 * (y 2).val; omega
  show out0_6 (iblk m c 0 t) (iblk m c 1 t) (iblk m c 2 t) (iblk m c 3 t) y = (M1 (V m c main_arg0) (V m c main_arg2)) (((cfg0.win 6).blk t).view.emb y)
  refine Eq.trans ?_ (congrArg (M1 (V m c main_arg0) (V m c main_arg2)) hw.symm)
  unfold out0_6 k0_pay10
  exact (Value.canon6_eq (F := Ideal) _ _ _ _ _ _ _ _ _ y).trans (congrArg₂ mom (blk2 m c t y) (grad_at m c t y))

/-- What point `t` writes back of the second moment. -/
theorem flushed7 (c : Dev nD) (t : Fin cfg0.N) :
    (dats m 0 c).flushed 7 t = ((cfg0.win 7).blk t).view.read (Elt Ideal) (M2 (V m c main_arg0) (V m c main_arg3)) := by
  rw [Value.flushed7]
  funext y
  have hw : ((cfg0.win 7).blk t).view.emb y = at3 t y := by
    obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
    funext a; apply Fin.ext
    match a with
    | ⟨0, _⟩ => show win0_7.index t (0 : Fin 3) * 1 + 1 * (y 0).val = win0_4.index t (0 : Fin 3) * 1 + 1 * (y 0).val; omega
    | ⟨1, _⟩ => show win0_7.index t (1 : Fin 3) * 256 + 1 * (y 1).val = win0_4.index t (1 : Fin 3) * 256 + 1 * (y 1).val; omega
    | ⟨2, _⟩ => show win0_7.index t (2 : Fin 3) * 706 + 1 * (y 2).val = win0_4.index t (2 : Fin 3) * 706 + 1 * (y 2).val; omega
  show out0_7 (iblk m c 0 t) (iblk m c 1 t) (iblk m c 2 t) (iblk m c 3 t) y = (M2 (V m c main_arg0) (V m c main_arg3)) (((cfg0.win 7).blk t).view.emb y)
  refine Eq.trans ?_ (congrArg (M2 (V m c main_arg0) (V m c main_arg3)) hw.symm)
  unfold out0_7 k0_pay10
  exact (Value.canon7_eq (F := Ideal) _ _ _ _ _ _ _ _ _ y).trans (congrArg₂ vel (blk3 m c t y) (grad_at m c t y))

/-- The block that holds an index of the gradient. -/
theorem cover4 (i : S4x1024x706.Idx) : ∃ t : Fin cfg0.N, (cfg0.win 4).flush t = true ∧ i ∈ ((cfg0.win 4).blk t).view.set := by
  have h0 : (i 0).val < 4 := (i 0).isLt
  have h1 : (i 1).val < 1024 := (i 1).isLt
  have h2 : (i 2).val < 706 := (i 2).isLt
  obtain ⟨t, ht⟩ : ∃ t : Fin cfg0.N, t.val = (i 0).val * 4 + (i 1).val / 256 := ⟨⟨(i 0).val * 4 + (i 1).val / 256, by rw [hN]; omega⟩, rfl⟩
  refine ⟨t, flush0_4 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 706 ≤ (i 2).val ∧ (i 2).val < win0_4.index t (2 : Fin 3) * 706 + 706; omega

/-- The gradient after the run. -/
theorem final4 (c : Dev nD) : (dats m 0 c).arrAt 4 cfg0.N = GR (m ((c : Thread nD τ).loc main_arg0)) :=
  ((dats m 0 c).arrAt_eq_of_cover 4 _ (fun t _ => flushed4 m c t) cover4).trans (by rw [V_main_arg0])

/-- The block that holds an index of the change of the weight. -/
theorem cover5 (i : S4x1024x706.Idx) : ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 706 := (i 2).isLt
  obtain ⟨t, ht⟩ : ∃ t : Fin cfg0.N, t.val = (i 0).val * 4 + (i 1).val / 256 := ⟨⟨(i 0).val * 4 + (i 1).val / 256, by rw [hN]; omega⟩, rfl⟩
  refine ⟨t, flush0_5 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 706 ≤ (i 2).val ∧ (i 2).val < win0_5.index t (2 : Fin 3) * 706 + 706; omega

/-- The change of the weight after the run. -/
theorem final5 (c : Dev nD) : (dats m 0 c).arrAt 5 cfg0.N = DE (m ((c : Thread nD τ).loc main_arg0)) (m ((c : Thread nD τ).loc main_arg1)) (m ((c : Thread nD τ).loc main_arg2)) (m ((c : Thread nD τ).loc main_arg3)) :=
  ((dats m 0 c).arrAt_eq_of_cover 5 _ (fun t _ => flushed5 m c t) cover5).trans (by rw [V_main_arg0, V_main_arg1, V_main_arg2, V_main_arg3])

/-- The block that holds an index of the first moment. -/
theorem cover6 (i : S4x1024x706.Idx) : ∃ t : Fin cfg0.N, (cfg0.win 6).flush t = true ∧ i ∈ ((cfg0.win 6).blk t).view.set := by
  have h0 : (i 0).val < 4 := (i 0).isLt
  have h1 : (i 1).val < 1024 := (i 1).isLt
  have h2 : (i 2).val < 706 := (i 2).isLt
  obtain ⟨t, ht⟩ : ∃ t : Fin cfg0.N, t.val = (i 0).val * 4 + (i 1).val / 256 := ⟨⟨(i 0).val * 4 + (i 1).val / 256, by rw [hN]; omega⟩, rfl⟩
  refine ⟨t, flush0_6 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_2).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 706 ≤ (i 2).val ∧ (i 2).val < win0_6.index t (2 : Fin 3) * 706 + 706; omega

/-- The first moment after the run. -/
theorem final6 (c : Dev nD) : (dats m 0 c).arrAt 6 cfg0.N = M1 (m ((c : Thread nD τ).loc main_arg0)) (m ((c : Thread nD τ).loc main_arg2)) :=
  ((dats m 0 c).arrAt_eq_of_cover 6 _ (fun t _ => flushed6 m c t) cover6).trans (by rw [V_main_arg0, V_main_arg2])

/-- The block that holds an index of the second moment. -/
theorem cover7 (i : S4x1024x706.Idx) : ∃ t : Fin cfg0.N, (cfg0.win 7).flush t = true ∧ i ∈ ((cfg0.win 7).blk t).view.set := by
  have h0 : (i 0).val < 4 := (i 0).isLt
  have h1 : (i 1).val < 1024 := (i 1).isLt
  have h2 : (i 2).val < 706 := (i 2).isLt
  obtain ⟨t, ht⟩ : ∃ t : Fin cfg0.N, t.val = (i 0).val * 4 + (i 1).val / 256 := ⟨⟨(i 0).val * 4 + (i 1).val / 256, by rw [hN]; omega⟩, rfl⟩
  refine ⟨t, flush0_7 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_3).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 706 ≤ (i 2).val ∧ (i 2).val < win0_7.index t (2 : Fin 3) * 706 + 706; omega

/-- The second moment after the run. -/
theorem final7 (c : Dev nD) : (dats m 0 c).arrAt 7 cfg0.N = M2 (m ((c : Thread nD τ).loc main_arg0)) (m ((c : Thread nD τ).loc main_arg3)) :=
  ((dats m 0 c).arrAt_eq_of_cover 7 _ (fun t _ => flushed7 m c t) cover7).trans (by rw [V_main_arg0, V_main_arg3])

open Cert.AdamInRefIdeal.Read in
/-- The reference's sum of the parts. -/
theorem ref_grad (s : S8x4x1024x706.Idx → EReal) : val_main_v1 (F := Ideal) s = GR s := by
  funext i
  rw [val_main_v1_apply]
  show Ideal.ofBits FTy.f32 0x00000000#32 + _ = _
  rw [Ideal.ofBits_zero_f32]
  refine (zero_add _).trans (Finset.sum_congr rfl fun k _ => ?_)
  show s _ = s _
  refine congrArg s (funext fun a => ?_)
  match a with
  | ⟨0, _⟩ => rfl
  | ⟨1, _⟩ => rfl
  | ⟨2, _⟩ => rfl
  | ⟨3, _⟩ => rfl

open Cert.AdamInRefIdeal.Read in
/-- The reference's first moment. -/
theorem ref_mom (s : S8x4x1024x706.Idx → EReal) (x2 : S4x1024x706.Idx → EReal) : val_main_v6 (F := Ideal) s x2 = M1 s x2 := by
  funext i
  rw [val_main_v6_apply, val_main_v3_apply, val_main_v5_apply, ref_grad, val_main_v2_apply, val_main_v4_apply]
  rfl

open Cert.AdamInRefIdeal.Read in
/-- The reference's second moment. -/
theorem ref_vel (s : S8x4x1024x706.Idx → EReal) (x3 : S4x1024x706.Idx → EReal) : val_main_v12 (F := Ideal) s x3 = M2 s x3 := by
  funext i
  rw [val_main_v12_apply, val_main_v8_apply, val_main_v11_apply, val_main_v9_apply, ref_grad, val_main_v7_apply, val_main_v10_apply]
  rfl

open Cert.AdamInRefIdeal.Read in
/-- The reference's change of the weight. -/
theorem ref_delta (s : S8x4x1024x706.Idx → EReal) (x1 x2 x3 : S4x1024x706.Idx → EReal) : val_main_v25 (F := Ideal) s x1 x2 x3 = DE s x1 x2 x3 := by
  funext i
  rw [val_main_v25_apply, val_main_v23_apply, val_main_v20_apply, val_main_v14_apply, val_main_v19_apply, val_main_v17_apply, val_main_v16_apply,
    val_main_v22_apply, ref_mom, ref_vel, val_main_v24_apply, val_main_v13_apply, val_main_v15_apply, val_main_v18_apply, val_main_v21_apply]
  rfl

end Cert.AdamInIdeal.Product

namespace Cert.Proof

open Cert.AdamInIdeal.Product Cert.AdamInIdeal

/-- `AdamIn` and its reference end with the same gradient, change of the weight and moments. -/
theorem algebraic_AdamIn : Cert.algebraic_AdamInIdeal_AdamInRefIdeal := fun m g m' g' _ hagree =>
  ⟨fun c => GR (m ((c.tc : Thread nD τ).loc main_arg0)),
    fun c => DE (m ((c.tc : Thread nD τ).loc main_arg0)) (m ((c.tc : Thread nD τ).loc main_arg1)) (m ((c.tc : Thread nD τ).loc main_arg2)) (m ((c.tc : Thread nD τ).loc main_arg3)),
    fun c => M1 (m ((c.tc : Thread nD τ).loc main_arg0)) (m ((c.tc : Thread nD τ).loc main_arg2)),
    fun c => M2 (m ((c.tc : Thread nD τ).loc main_arg0)) (m ((c.tc : Thread nD τ).loc main_arg3)),
    (θ_run _ _ _).mono (fun _ h c => ⟨(h c).1.trans (final4 m c), (h c).2.1.trans (final5 m c), (h c).2.2.1.trans (final6 m c),
      (h c).2.2.2.1.trans (final7 m c), (h c).2.2.2.2⟩) (Cert.AdamInIdeal.Value.run_blocks m g),
    (θ_run _ _ _).mono (fun _ h c => ⟨((h c).1.trans (Cert.AdamInRefIdeal.Read.val_main_v1_eq _)).trans
        ((ref_grad _).trans (by rw [(hagree c).1])),
      ((h c).2.1.trans (Cert.AdamInRefIdeal.Read.val_main_v25_eq _ _ _ _)).trans
        ((ref_delta _ _ _ _).trans (by rw [(hagree c).1, (hagree c).2.1, (hagree c).2.2.1, (hagree c).2.2.2])),
      ((h c).2.2.1.trans (Cert.AdamInRefIdeal.Read.val_main_v6_eq _ _)).trans
        ((ref_mom _ _).trans (by rw [(hagree c).1, (hagree c).2.2.1])),
      ((h c).2.2.2.1.trans (Cert.AdamInRefIdeal.Read.val_main_v12_eq _ _)).trans
        ((ref_vel _ _).trans (by rw [(hagree c).1, (hagree c).2.2.2])), (h c).2.2.2.2⟩) (Cert.AdamInRefIdeal.Value.run m' g')⟩

end Cert.Proof

end
-- ==== Proof.AdamOutVal.lean ====
/-
  AdamW on the output projections: the eight devices' parts of the gradient added up, then one step, block by block.
-/
module

public import proofs.«01_k».proof.Defs
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.AdamStep
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamOutIdeal.Product

open Cert.AdamOutIdeal Cert.AdamOutIdeal.Gen Cert.AdamStep

/-- The gradient: the sum of the eight parts. -/
def GR (s : S8x4x192x1024.Idx → EReal) : S4x192x1024.Idx → EReal := fun i => ∑ k : Fin 8, s (ix4 k (i 0) (i 1) (i 2))

/-- The change of the weight. -/
def DE (s : S8x4x192x1024.Idx → EReal) (w m v : S4x192x1024.Idx → EReal) : S4x192x1024.Idx → EReal := fun i => delta (w i) (GR s i) (m i) (v i)

/-- The first moment. -/
def M1 (s : S8x4x192x1024.Idx → EReal) (m : S4x192x1024.Idx → EReal) : S4x192x1024.Idx → EReal := fun i => mom (m i) (GR s i)

/-- The second moment. -/
def M2 (s : S8x4x192x1024.Idx → EReal) (v : S4x192x1024.Idx → EReal) : S4x192x1024.Idx → EReal := fun i => vel (v i) (GR s i)

/-- Where each window's block lies: the arrays' blocks move together. -/
theorem idx_facts : ∀ t : Fin cfg0.N, (win0_0.index t (0 : Fin 4) = 0 ∧ win0_0.index t (1 : Fin 4) = t.val / 1 ∧ win0_0.index t (2 : Fin 4) = t.val % 1 ∧ win0_0.index t (3 : Fin 4) = 0)
    ∧ (win0_1.index t (0 : Fin 3) = t.val / 1 ∧ win0_1.index t (1 : Fin 3) = t.val % 1 ∧ win0_1.index t (2 : Fin 3) = 0)
    ∧ (win0_2.index t (0 : Fin 3) = t.val / 1 ∧ win0_2.index t (1 : Fin 3) = t.val % 1 ∧ win0_2.index t (2 : Fin 3) = 0)
    ∧ (win0_3.index t (0 : Fin 3) = t.val / 1 ∧ win0_3.index t (1 : Fin 3) = t.val % 1 ∧ win0_3.index t (2 : Fin 3) = 0)
    ∧ (win0_4.index t (0 : Fin 3) = t.val / 1 ∧ win0_4.index t (1 : Fin 3) = t.val % 1 ∧ win0_4.index t (2 : Fin 3) = 0)
    ∧ (win0_5.index t (0 : Fin 3) = t.val / 1 ∧ win0_5.index t (1 : Fin 3) = t.val % 1 ∧ win0_5.index t (2 : Fin 3) = 0)
    ∧ (win0_6.index t (0 : Fin 3) = t.val / 1 ∧ win0_6.index t (1 : Fin 3) = t.val % 1 ∧ win0_6.index t (2 : Fin 3) = 0)
    ∧ (win0_7.index t (0 : Fin 3) = t.val / 1 ∧ win0_7.index t (1 : Fin 3) = t.val % 1 ∧ win0_7.index t (2 : Fin 3) = 0) :=
  (by decide +kernel : ∀ t : Fin grid0.N, _)

theorem hN : cfg0.N = 4 := by decide +kernel

variable (m : (ℓ : Loc nD τ sig) → Buf (Elt Ideal) ℓ) (ρ : Dev nD → PrngReg)

/-- The array index under an index of point `t`'s block. -/
def at3 (t : Fin cfg0.N) (y : S1x192x1024.Idx) : S4x192x1024.Idx := ((cfg0.win 4).blk t).view.emb y

/-- One part's block, read under an index of the result's block. -/
theorem part (c : Dev nD) (t : Fin cfg0.N) (y : S1x192x1024.Idx) (k : Fin 8)
    (inb : ∀ a : Fin 4, (![k.val, 0, 0, 0] : Fin 4 → Nat) a + S1x1x192x1024.size a ≤ S8x1x192x1024.size a) :
    View.ld (iblk m c 0 t) (Rect.unit (s := S8x1x192x1024) ![k.val, 0, 0, 0] S1x1x192x1024.size inb) (Value.ix4_0 y)
      = V m c main_arg0 (ix4 k (at3 t y 0) (at3 t y 1) (at3 t y 2)) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg0) (funext fun a => Fin.ext ?_)
  match a with
  | ⟨0, _⟩ => show win0_0.index t (0 : Fin 4) * 8 + 1 * (k.val + 1 * 0) = k.val; omega
  | ⟨1, _⟩ => show win0_0.index t (1 : Fin 4) * 1 + 1 * (0 + 1 * 0) = win0_4.index t (0 : Fin 3) * 1 + 1 * (y 0).val; omega
  | ⟨2, _⟩ => show win0_0.index t (2 : Fin 4) * 192 + 1 * (0 + 1 * (y 1).val) = win0_4.index t (1 : Fin 3) * 192 + 1 * (y 1).val; omega
  | ⟨3, _⟩ => show win0_0.index t (3 : Fin 4) * 1024 + 1 * (0 + 1 * (y 2).val) = win0_4.index t (2 : Fin 3) * 1024 + 1 * (y 2).val; omega

/-- The weight's block, read under an index of the result's block. -/
theorem blk1 (c : Dev nD) (t : Fin cfg0.N) (y : S1x192x1024.Idx) :
    View.ld (iblk m c 1 t) r0_8 (Value.ix5_26 y) = V m c main_arg1 (at3 t y) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg1) (funext fun a => Fin.ext ?_)
  match a with
  | ⟨0, _⟩ => show win0_1.index t (0 : Fin 3) * 1 + 1 * (0 + 1 * 0) = win0_4.index t (0 : Fin 3) * 1 + 1 * (y 0).val; omega
  | ⟨1, _⟩ => show win0_1.index t (1 : Fin 3) * 192 + 1 * (0 + 1 * (y 1).val) = win0_4.index t (1 : Fin 3) * 192 + 1 * (y 1).val; omega
  | ⟨2, _⟩ => show win0_1.index t (2 : Fin 3) * 1024 + 1 * (0 + 1 * (y 2).val) = win0_4.index t (2 : Fin 3) * 1024 + 1 * (y 2).val; omega

/-- The first moment's block, read under an index of the result's block. -/
theorem blk2 (c : Dev nD) (t : Fin cfg0.N) (y : S1x192x1024.Idx) :
    View.ld (iblk m c 2 t) r0_8 (Value.ix5_0 y) = V m c main_arg2 (at3 t y) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg2) (funext fun a => Fin.ext ?_)
  match a with
  | ⟨0, _⟩ => show win0_2.index t (0 : Fin 3) * 1 + 1 * (0 + 1 * 0) = win0_4.index t (0 : Fin 3) * 1 + 1 * (y 0).val; omega
  | ⟨1, _⟩ => show win0_2.index t (1 : Fin 3) * 192 + 1 * (0 + 1 * (y 1).val) = win0_4.index t (1 : Fin 3) * 192 + 1 * (y 1).val; omega
  | ⟨2, _⟩ => show win0_2.index t (2 : Fin 3) * 1024 + 1 * (0 + 1 * (y 2).val) = win0_4.index t (2 : Fin 3) * 1024 + 1 * (y 2).val; omega

/-- The second moment's block, read under an index of the result's block. -/
theorem blk3 (c : Dev nD) (t : Fin cfg0.N) (y : S1x192x1024.Idx) :
    View.ld (iblk m c 3 t) r0_8 (Value.ix5_9 y) = V m c main_arg3 (at3 t y) := by
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  have y0 : (y 0).val < 1 := (y 0).isLt
  refine congrArg (V m c main_arg3) (funext fun a => Fin.ext ?_)
  match a with
  | ⟨0, _⟩ => show win0_3.index t (0 : Fin 3) * 1 + 1 * (0 + 1 * 0) = win0_4.index t (0 : Fin 3) * 1 + 1 * (y 0).val; omega
  | ⟨1, _⟩ => show win0_3.index t (1 : Fin 3) * 192 + 1 * (0 + 1 * (y 1).val) = win0_4.index t (1 : Fin 3) * 192 + 1 * (y 1).val; omega
  | ⟨2, _⟩ => show win0_3.index t (2 : Fin 3) * 1024 + 1 * (0 + 1 * (y 2).val) = win0_4.index t (2 : Fin 3) * 1024 + 1 * (y 2).val; omega

/-- The sum over the parts' blocks. -/
theorem grad_at (c : Dev nD) (t : Fin cfg0.N) (y : S1x192x1024.Idx) : Value.E4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y = GR (V m c main_arg0) (at3 t y) :=
  sum_eight (fun k => V m c main_arg0 (ix4 k (at3 t y 0) (at3 t y 1) (at3 t y 2))) _ _ _ _ _ _ _ _ (part m c t y 0 _) (part m c t y 1 _) (part m c t y 2 _) (part m c t y 3 _) (part m c t y 4 _) (part m c t y 5 _) (part m c t y 6 _) (part m c t y 7 _)

/-- Equal operands give the same step. -/
theorem step_at {w w' g g' m m' v v' : EReal} (hw : w = w') (hg : g = g') (hm : m = m') (hv : v = v') : delta w g m v = delta w' g' m' v' := by
  rw [hw, hg, hm, hv]

/-- What point `t` writes back of the gradient. -/
theorem flushed4 (c : Dev nD) (t : Fin cfg0.N) :
    (dats m 0 c).flushed 4 t = ((cfg0.win 4).blk t).view.read (Elt Ideal) (GR (V m c main_arg0)) := by
  rw [Value.flushed4]
  funext y
  show out0_4 (iblk m c 0 t) (iblk m c 1 t) (iblk m c 2 t) (iblk m c 3 t) y = (GR (V m c main_arg0)) (((cfg0.win 4).blk t).view.emb y)
  unfold out0_4 k0_pay10
  exact (Value.canon4_eq (F := Ideal) _ _ _ _ _ _ _ _ y).trans (grad_at m c t y)

/-- What point `t` writes back of the change of the weight. -/
theorem flushed5 (c : Dev nD) (t : Fin cfg0.N) :
    (dats m 0 c).flushed 5 t = ((cfg0.win 5).blk t).view.read (Elt Ideal) (DE (V m c main_arg0) (V m c main_arg1) (V m c main_arg2) (V m c main_arg3)) := by
  rw [Value.flushed5]
  funext y
  have hw : ((cfg0.win 5).blk t).view.emb y = at3 t y := by
    obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
    funext a; apply Fin.ext
    match a with
    | ⟨0, _⟩ => show win0_5.index t (0 : Fin 3) * 1 + 1 * (y 0).val = win0_4.index t (0 : Fin 3) * 1 + 1 * (y 0).val; omega
    | ⟨1, _⟩ => show win0_5.index t (1 : Fin 3) * 192 + 1 * (y 1).val = win0_4.index t (1 : Fin 3) * 192 + 1 * (y 1).val; omega
    | ⟨2, _⟩ => show win0_5.index t (2 : Fin 3) * 1024 + 1 * (y 2).val = win0_4.index t (2 : Fin 3) * 1024 + 1 * (y 2).val; omega
  show out0_5 (iblk m c 0 t) (iblk m c 1 t) (iblk m c 2 t) (iblk m c 3 t) y = (DE (V m c main_arg0) (V m c main_arg1) (V m c main_arg2) (V m c main_arg3)) (((cfg0.win 5).blk t).view.emb y)
  refine Eq.trans ?_ (congrArg (DE (V m c main_arg0) (V m c main_arg1) (V m c main_arg2) (V m c main_arg3)) hw.symm)
  unfold out0_5 k0_pay10
  exact (Value.canon5_eq (F := Ideal) _ _ _ _ _ _ _ _ _ _ _ y).trans (step_at (blk1 m c t y) (grad_at m c t y) (blk2 m c t y) (blk3 m c t y))

/-- What point `t` writes back of the first moment. -/
theorem flushed6 (c : Dev nD) (t : Fin cfg0.N) :
    (dats m 0 c).flushed 6 t = ((cfg0.win 6).blk t).view.read (Elt Ideal) (M1 (V m c main_arg0) (V m c main_arg2)) := by
  rw [Value.flushed6]
  funext y
  have hw : ((cfg0.win 6).blk t).view.emb y = at3 t y := by
    obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
    funext a; apply Fin.ext
    match a with
    | ⟨0, _⟩ => show win0_6.index t (0 : Fin 3) * 1 + 1 * (y 0).val = win0_4.index t (0 : Fin 3) * 1 + 1 * (y 0).val; omega
    | ⟨1, _⟩ => show win0_6.index t (1 : Fin 3) * 192 + 1 * (y 1).val = win0_4.index t (1 : Fin 3) * 192 + 1 * (y 1).val; omega
    | ⟨2, _⟩ => show win0_6.index t (2 : Fin 3) * 1024 + 1 * (y 2).val = win0_4.index t (2 : Fin 3) * 1024 + 1 * (y 2).val; omega
  show out0_6 (iblk m c 0 t) (iblk m c 1 t) (iblk m c 2 t) (iblk m c 3 t) y = (M1 (V m c main_arg0) (V m c main_arg2)) (((cfg0.win 6).blk t).view.emb y)
  refine Eq.trans ?_ (congrArg (M1 (V m c main_arg0) (V m c main_arg2)) hw.symm)
  unfold out0_6 k0_pay10
  exact (Value.canon6_eq (F := Ideal) _ _ _ _ _ _ _ _ _ y).trans (congrArg₂ mom (blk2 m c t y) (grad_at m c t y))

/-- What point `t` writes back of the second moment. -/
theorem flushed7 (c : Dev nD) (t : Fin cfg0.N) :
    (dats m 0 c).flushed 7 t = ((cfg0.win 7).blk t).view.read (Elt Ideal) (M2 (V m c main_arg0) (V m c main_arg3)) := by
  rw [Value.flushed7]
  funext y
  have hw : ((cfg0.win 7).blk t).view.emb y = at3 t y := by
    obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
    funext a; apply Fin.ext
    match a with
    | ⟨0, _⟩ => show win0_7.index t (0 : Fin 3) * 1 + 1 * (y 0).val = win0_4.index t (0 : Fin 3) * 1 + 1 * (y 0).val; omega
    | ⟨1, _⟩ => show win0_7.index t (1 : Fin 3) * 192 + 1 * (y 1).val = win0_4.index t (1 : Fin 3) * 192 + 1 * (y 1).val; omega
    | ⟨2, _⟩ => show win0_7.index t (2 : Fin 3) * 1024 + 1 * (y 2).val = win0_4.index t (2 : Fin 3) * 1024 + 1 * (y 2).val; omega
  show out0_7 (iblk m c 0 t) (iblk m c 1 t) (iblk m c 2 t) (iblk m c 3 t) y = (M2 (V m c main_arg0) (V m c main_arg3)) (((cfg0.win 7).blk t).view.emb y)
  refine Eq.trans ?_ (congrArg (M2 (V m c main_arg0) (V m c main_arg3)) hw.symm)
  unfold out0_7 k0_pay10
  exact (Value.canon7_eq (F := Ideal) _ _ _ _ _ _ _ _ _ y).trans (congrArg₂ vel (blk3 m c t y) (grad_at m c t y))

/-- The block that holds an index of the gradient. -/
theorem cover4 (i : S4x192x1024.Idx) : ∃ t : Fin cfg0.N, (cfg0.win 4).flush t = true ∧ i ∈ ((cfg0.win 4).blk t).view.set := by
  have h0 : (i 0).val < 4 := (i 0).isLt
  have h1 : (i 1).val < 192 := (i 1).isLt
  have h2 : (i 2).val < 1024 := (i 2).isLt
  obtain ⟨t, ht⟩ : ∃ t : Fin cfg0.N, t.val = (i 0).val * 1 + (i 1).val / 192 := ⟨⟨(i 0).val * 1 + (i 1).val / 192, by rw [hN]; omega⟩, rfl⟩
  refine ⟨t, flush0_4 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 192 ≤ (i 1).val ∧ (i 1).val < win0_4.index t (1 : Fin 3) * 192 + 192; omega
  | ⟨2, _⟩ => show win0_4.index t (2 : Fin 3) * 1024 ≤ (i 2).val ∧ (i 2).val < win0_4.index t (2 : Fin 3) * 1024 + 1024; omega

/-- The gradient after the run. -/
theorem final4 (c : Dev nD) : (dats m 0 c).arrAt 4 cfg0.N = GR (m ((c : Thread nD τ).loc main_arg0)) :=
  ((dats m 0 c).arrAt_eq_of_cover 4 _ (fun t _ => flushed4 m c t) cover4).trans (by rw [V_main_arg0])

/-- The block that holds an index of the change of the weight. -/
theorem cover5 (i : S4x192x1024.Idx) : ∃ t : Fin cfg0.N, (cfg0.win 5).flush t = true ∧ i ∈ ((cfg0.win 5).blk t).view.set := by
  have h0 : (i 0).val < 4 := (i 0).isLt
  have h1 : (i 1).val < 192 := (i 1).isLt
  have h2 : (i 2).val < 1024 := (i 2).isLt
  obtain ⟨t, ht⟩ : ∃ t : Fin cfg0.N, t.val = (i 0).val * 1 + (i 1).val / 192 := ⟨⟨(i 0).val * 1 + (i 1).val / 192, by rw [hN]; omega⟩, rfl⟩
  refine ⟨t, flush0_5 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 192 ≤ (i 1).val ∧ (i 1).val < win0_5.index t (1 : Fin 3) * 192 + 192; omega
  | ⟨2, _⟩ => show win0_5.index t (2 : Fin 3) * 1024 ≤ (i 2).val ∧ (i 2).val < win0_5.index t (2 : Fin 3) * 1024 + 1024; omega

/-- The change of the weight after the run. -/
theorem final5 (c : Dev nD) : (dats m 0 c).arrAt 5 cfg0.N = DE (m ((c : Thread nD τ).loc main_arg0)) (m ((c : Thread nD τ).loc main_arg1)) (m ((c : Thread nD τ).loc main_arg2)) (m ((c : Thread nD τ).loc main_arg3)) :=
  ((dats m 0 c).arrAt_eq_of_cover 5 _ (fun t _ => flushed5 m c t) cover5).trans (by rw [V_main_arg0, V_main_arg1, V_main_arg2, V_main_arg3])

/-- The block that holds an index of the first moment. -/
theorem cover6 (i : S4x192x1024.Idx) : ∃ t : Fin cfg0.N, (cfg0.win 6).flush t = true ∧ i ∈ ((cfg0.win 6).blk t).view.set := by
  have h0 : (i 0).val < 4 := (i 0).isLt
  have h1 : (i 1).val < 192 := (i 1).isLt
  have h2 : (i 2).val < 1024 := (i 2).isLt
  obtain ⟨t, ht⟩ : ∃ t : Fin cfg0.N, t.val = (i 0).val * 1 + (i 1).val / 192 := ⟨⟨(i 0).val * 1 + (i 1).val / 192, by rw [hN]; omega⟩, rfl⟩
  refine ⟨t, flush0_6 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_2).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 192 ≤ (i 1).val ∧ (i 1).val < win0_6.index t (1 : Fin 3) * 192 + 192; omega
  | ⟨2, _⟩ => show win0_6.index t (2 : Fin 3) * 1024 ≤ (i 2).val ∧ (i 2).val < win0_6.index t (2 : Fin 3) * 1024 + 1024; omega

/-- The first moment after the run. -/
theorem final6 (c : Dev nD) : (dats m 0 c).arrAt 6 cfg0.N = M1 (m ((c : Thread nD τ).loc main_arg0)) (m ((c : Thread nD τ).loc main_arg2)) :=
  ((dats m 0 c).arrAt_eq_of_cover 6 _ (fun t _ => flushed6 m c t) cover6).trans (by rw [V_main_arg0, V_main_arg2])

/-- The block that holds an index of the second moment. -/
theorem cover7 (i : S4x192x1024.Idx) : ∃ t : Fin cfg0.N, (cfg0.win 7).flush t = true ∧ i ∈ ((cfg0.win 7).blk t).view.set := by
  have h0 : (i 0).val < 4 := (i 0).isLt
  have h1 : (i 1).val < 192 := (i 1).isLt
  have h2 : (i 2).val < 1024 := (i 2).isLt
  obtain ⟨t, ht⟩ : ∃ t : Fin cfg0.N, t.val = (i 0).val * 1 + (i 1).val / 192 := ⟨⟨(i 0).val * 1 + (i 1).val / 192, by rw [hN]; omega⟩, rfl⟩
  refine ⟨t, flush0_7 _, ?_⟩
  obtain ⟨⟨a0, a1, a2, a3⟩, ⟨b10, b11, b12⟩, ⟨b20, b21, b22⟩, ⟨b30, b31, b32⟩, ⟨b40, b41, b42⟩, ⟨b50, b51, b52⟩, ⟨b60, b61, b62⟩, ⟨b70, b71, b72⟩⟩ := idx_facts t
  show i ∈ ((View.whole main_v0_3).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 192 ≤ (i 1).val ∧ (i 1).val < win0_7.index t (1 : Fin 3) * 192 + 192; omega
  | ⟨2, _⟩ => show win0_7.index t (2 : Fin 3) * 1024 ≤ (i 2).val ∧ (i 2).val < win0_7.index t (2 : Fin 3) * 1024 + 1024; omega

/-- The second moment after the run. -/
theorem final7 (c : Dev nD) : (dats m 0 c).arrAt 7 cfg0.N = M2 (m ((c : Thread nD τ).loc main_arg0)) (m ((c : Thread nD τ).loc main_arg3)) :=
  ((dats m 0 c).arrAt_eq_of_cover 7 _ (fun t _ => flushed7 m c t) cover7).trans (by rw [V_main_arg0, V_main_arg3])

open Cert.AdamOutRefIdeal.Read in
/-- The reference's sum of the parts. -/
theorem ref_grad (s : S8x4x192x1024.Idx → EReal) : val_main_v1 (F := Ideal) s = GR s := by
  funext i
  rw [val_main_v1_apply]
  show Ideal.ofBits FTy.f32 0x00000000#32 + _ = _
  rw [Ideal.ofBits_zero_f32]
  refine (zero_add _).trans (Finset.sum_congr rfl fun k _ => ?_)
  show s _ = s _
  refine congrArg s (funext fun a => ?_)
  match a with
  | ⟨0, _⟩ => rfl
  | ⟨1, _⟩ => rfl
  | ⟨2, _⟩ => rfl
  | ⟨3, _⟩ => rfl

open Cert.AdamOutRefIdeal.Read in
/-- The reference's first moment. -/
theorem ref_mom (s : S8x4x192x1024.Idx → EReal) (x2 : S4x192x1024.Idx → EReal) : val_main_v6 (F := Ideal) s x2 = M1 s x2 := by
  funext i
  rw [val_main_v6_apply, val_main_v3_apply, val_main_v5_apply, ref_grad, val_main_v2_apply, val_main_v4_apply]
  rfl

open Cert.AdamOutRefIdeal.Read in
/-- The reference's second moment. -/
theorem ref_vel (s : S8x4x192x1024.Idx → EReal) (x3 : S4x192x1024.Idx → EReal) : val_main_v12 (F := Ideal) s x3 = M2 s x3 := by
  funext i
  rw [val_main_v12_apply, val_main_v8_apply, val_main_v11_apply, val_main_v9_apply, ref_grad, val_main_v7_apply, val_main_v10_apply]
  rfl

open Cert.AdamOutRefIdeal.Read in
/-- The reference's change of the weight. -/
theorem ref_delta (s : S8x4x192x1024.Idx → EReal) (x1 x2 x3 : S4x192x1024.Idx → EReal) : val_main_v25 (F := Ideal) s x1 x2 x3 = DE s x1 x2 x3 := by
  funext i
  rw [val_main_v25_apply, val_main_v23_apply, val_main_v20_apply, val_main_v14_apply, val_main_v19_apply, val_main_v17_apply, val_main_v16_apply,
    val_main_v22_apply, ref_mom, ref_vel, val_main_v24_apply, val_main_v13_apply, val_main_v15_apply, val_main_v18_apply, val_main_v21_apply]
  rfl

end Cert.AdamOutIdeal.Product

namespace Cert.Proof

open Cert.AdamOutIdeal.Product Cert.AdamOutIdeal

/-- `AdamOut` and its reference end with the same gradient, change of the weight and moments. -/
theorem algebraic_AdamOut : Cert.algebraic_AdamOutIdeal_AdamOutRefIdeal := fun m g m' g' _ hagree =>
  ⟨fun c => GR (m ((c.tc : Thread nD τ).loc main_arg0)),
    fun c => DE (m ((c.tc : Thread nD τ).loc main_arg0)) (m ((c.tc : Thread nD τ).loc main_arg1)) (m ((c.tc : Thread nD τ).loc main_arg2)) (m ((c.tc : Thread nD τ).loc main_arg3)),
    fun c => M1 (m ((c.tc : Thread nD τ).loc main_arg0)) (m ((c.tc : Thread nD τ).loc main_arg2)),
    fun c => M2 (m ((c.tc : Thread nD τ).loc main_arg0)) (m ((c.tc : Thread nD τ).loc main_arg3)),
    (θ_run _ _ _).mono (fun _ h c => ⟨(h c).1.trans (final4 m c), (h c).2.1.trans (final5 m c), (h c).2.2.1.trans (final6 m c),
      (h c).2.2.2.1.trans (final7 m c), (h c).2.2.2.2⟩) (Cert.AdamOutIdeal.Value.run_blocks m g),
    (θ_run _ _ _).mono (fun _ h c => ⟨((h c).1.trans (Cert.AdamOutRefIdeal.Read.val_main_v1_eq _)).trans
        ((ref_grad _).trans (by rw [(hagree c).1])),
      ((h c).2.1.trans (Cert.AdamOutRefIdeal.Read.val_main_v25_eq _ _ _ _)).trans
        ((ref_delta _ _ _ _).trans (by rw [(hagree c).1, (hagree c).2.1, (hagree c).2.2.1, (hagree c).2.2.2])),
      ((h c).2.2.1.trans (Cert.AdamOutRefIdeal.Read.val_main_v6_eq _ _)).trans
        ((ref_mom _ _).trans (by rw [(hagree c).1, (hagree c).2.2.1])),
      ((h c).2.2.2.1.trans (Cert.AdamOutRefIdeal.Read.val_main_v12_eq _ _)).trans
        ((ref_vel _ _).trans (by rw [(hagree c).1, (hagree c).2.2.2])), (h c).2.2.2.2⟩) (Cert.AdamOutRefIdeal.Value.run m' g')⟩

end Cert.Proof

end
-- ==== Proof.AdamSmallVal.lean ====
/-
  AdamW on the packed small parameters, one block, from their summed gradient.
-/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.AdamStep
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamSmallIdeal.Product

open Cert.AdamSmallIdeal Cert.AdamSmallIdeal.Gen Cert.AdamStep

/-- The change of the weights. -/
def DE (g w m v : S2208x128.Idx → EReal) : S2208x128.Idx → EReal := fun i => delta (w i) (g i) (m i) (v i)

/-- The first moments. -/
def M1 (g m : S2208x128.Idx → EReal) : S2208x128.Idx → EReal := fun i => mom (m i) (g i)

/-- The second moments. -/
def M2 (g v : S2208x128.Idx → EReal) : S2208x128.Idx → EReal := fun i => vel (v i) (g i)

open Cert.AdamSmallRefIdeal.Read in
/-- The reference's first moments. -/
theorem ref_mom (g x2 : S2208x128.Idx → EReal) : val_main_v4 (F := Ideal) g x2 = M1 g x2 := by
  funext i
  rw [val_main_v4_apply, val_main_v1_apply, val_main_v3_apply, val_main_v0_apply, val_main_v2_apply]
  rfl

open Cert.AdamSmallRefIdeal.Read in
/-- The reference's second moments. -/
theorem ref_vel (g x3 : S2208x128.Idx → EReal) : val_main_v10 (F := Ideal) g x3 = M2 g x3 := by
  funext i
  rw [val_main_v10_apply, val_main_v6_apply, val_main_v9_apply, val_main_v7_apply, val_main_v5_apply, val_main_v8_apply]
  rfl

open Cert.AdamSmallRefIdeal.Read in
/-- The reference's change of the weights. -/
theorem ref_delta (g x1 x2 x3 : S2208x128.Idx → EReal) : val_main_v23 (F := Ideal) g x1 x2 x3 = DE g x1 x2 x3 := by
  funext i
  rw [val_main_v23_apply, val_main_v21_apply, val_main_v18_apply, val_main_v12_apply, val_main_v17_apply, val_main_v15_apply, val_main_v14_apply,
    val_main_v20_apply, ref_mom, ref_vel, val_main_v22_apply, val_main_v11_apply, val_main_v13_apply, val_main_v16_apply, val_main_v19_apply]
  rfl

end Cert.AdamSmallIdeal.Product

namespace Cert.Proof

open Cert.AdamSmallIdeal.Product Cert.AdamSmallIdeal

/-- `AdamSmall` and its reference end with the same change of the weights and moments. -/
theorem algebraic_AdamSmall : Cert.algebraic_AdamSmallIdeal_AdamSmallRefIdeal := fun m g m' g' _ hagree =>
  ⟨fun c => DE (m ((c.tc : Thread nD τ).loc main_arg0)) (m ((c.tc : Thread nD τ).loc main_arg1)) (m ((c.tc : Thread nD τ).loc main_arg2)) (m ((c.tc : Thread nD τ).loc main_arg3)),
    fun c => M1 (m ((c.tc : Thread nD τ).loc main_arg0)) (m ((c.tc : Thread nD τ).loc main_arg2)),
    fun c => M2 (m ((c.tc : Thread nD τ).loc main_arg0)) (m ((c.tc : Thread nD τ).loc main_arg3)),
    (θ_run _ _ _).mono (fun _ h c => ⟨(h c).1.trans rfl, (h c).2.1.trans rfl, (h c).2.2.1.trans rfl, (h c).2.2.2⟩) (Cert.AdamSmallIdeal.Value.run m g),
    (θ_run _ _ _).mono (fun _ h c => ⟨((h c).1.trans (Cert.AdamSmallRefIdeal.Read.val_main_v23_eq _ _ _ _)).trans
        ((ref_delta _ _ _ _).trans (by rw [(hagree c).1, (hagree c).2.1, (hagree c).2.2.1, (hagree c).2.2.2])),
      ((h c).2.1.trans (Cert.AdamSmallRefIdeal.Read.val_main_v4_eq _ _)).trans
        ((ref_mom _ _).trans (by rw [(hagree c).1, (hagree c).2.2.1])),
      ((h c).2.2.1.trans (Cert.AdamSmallRefIdeal.Read.val_main_v10_eq _ _)).trans
        ((ref_vel _ _).trans (by rw [(hagree c).1, (hagree c).2.2.2])), (h c).2.2.2⟩) (Cert.AdamSmallRefIdeal.Value.run m' g')⟩

end Cert.Proof

end
-- ==== Proof.Sums.lean ====
/-
  Sums over one axis cut into the blocks the kernels cut it into.
-/
module

public import Idealize.ShloMosaic.Lib.Pipeline.Value
public import Idealize.ShloMosaic.Lib.Pointwise

@[expose] public section

noncomputable section

open Idealize.ShloMosaic

namespace Cert.Sums

/-- Row `k` of the block of 256 rows number `s`. -/
def rowAt (s : Nat) (k : Fin 256) : Fin 2048 := ⟨(s * 256 + k.val) % 2048, Nat.mod_lt _ (by decide)⟩

/-- A sum over the 2048 rows is the sum over the eight blocks of the sums over their 256 rows. -/
theorem sum_rows (f : Fin 2048 → EReal) : ∑ s ∈ Finset.range 8, ∑ k : Fin 256, f (rowAt s k) = ∑ q : Fin 2048, f q := by
  rw [Finset.sum_range (fun s => ∑ k : Fin 256, f (rowAt s k))]
  rw [← Fintype.sum_prod_type' (fun (s : Fin 8) (k : Fin 256) => f (rowAt s k))]
  refine Fintype.sum_equiv (finProdFinEquiv (m := 8) (n := 256)) _ _ fun p => ?_
  refine congrArg f (Fin.ext ?_)
  show (p.1.val * 256 + p.2.val) % 2048 = p.2.val + 256 * p.1.val
  have h1 := p.1.isLt
  have h2 := p.2.isLt
  rw [Nat.mod_eq_of_lt (by omega)]; omega

/-- Three lists of 512 columns laid side by side, read at a column of the 1536. -/
def cat3 {R : Nat} (a b d : (⟨2, ![R, 512]⟩ : Shape).Idx → EReal) (r : Fin R) (p : Fin 1536) : EReal :=
  if h : p.val < 512 then a (ix2 r ⟨p.val, h⟩)
  else if h' : p.val < 1024 then b (ix2 r ⟨p.val - 512, by omega⟩)
  else d (ix2 r ⟨p.val - 1024, by have := p.isLt; omega⟩)

theorem cat3_first {R : Nat} (a b d : (⟨2, ![R, 512]⟩ : Shape).Idx → EReal) (r : Fin R) (p : Fin 1536) (h : p.val < 512) :
    cat3 a b d r p = a (ix2 r ⟨p.val, h⟩) := dif_pos h

theorem cat3_second {R : Nat} (a b d : (⟨2, ![R, 512]⟩ : Shape).Idx → EReal) (r : Fin R) (p : Fin 1536) (h : ¬p.val < 512) (h' : p.val < 1024) :
    cat3 a b d r p = b (ix2 r ⟨p.val - 512, by omega⟩) := (dif_neg h).trans (dif_pos h')

theorem cat3_third {R : Nat} (a b d : (⟨2, ![R, 512]⟩ : Shape).Idx → EReal) (r : Fin R) (p : Fin 1536) (h' : ¬p.val < 1024) :
    cat3 a b d r p = d (ix2 r ⟨p.val - 1024, by have := p.isLt; omega⟩) := (dif_neg (by omega)).trans (dif_neg h')

/-- Four lists of columns laid side by side, the last one the sum of two, read at a column of the 5760. -/
def cat4 {R : Nat} (a : (⟨2, ![R, 1024]⟩ : Shape).Idx → EReal) (b : (⟨2, ![R, 2560]⟩ : Shape).Idx → EReal) (d : (⟨2, ![R, 2048]⟩ : Shape).Idx → EReal)
    (e h : (⟨2, ![R, 128]⟩ : Shape).Idx → EReal) (r : Fin R) (p : Fin 5760) : EReal :=
  if h1 : p.val < 1024 then a (ix2 r ⟨p.val, h1⟩)
  else if h2 : p.val < 3584 then b (ix2 r ⟨p.val - 1024, by omega⟩)
  else if h3 : p.val < 5632 then d (ix2 r ⟨p.val - 3584, by omega⟩)
  else e (ix2 r ⟨p.val - 5632, by have := p.isLt; omega⟩) + h (ix2 r ⟨p.val - 5632, by have := p.isLt; omega⟩)

/-- A sum over the 5760 columns is the sum over the four parts. -/
theorem sum_cols (F : Fin 5760 → EReal) : ∑ k : Fin 5760, F k = (∑ k : Fin 1024, F ⟨k.val, by omega⟩) + (∑ k : Fin 2560, F ⟨1024 + k.val, by omega⟩)
    + (∑ k : Fin 2048, F ⟨3584 + k.val, by omega⟩) + ∑ k : Fin 128, F ⟨5632 + k.val, by omega⟩ := by
  refine (Fin.sum_univ_add (a := 5632) (b := 128) F).trans (congrArg₂ (· + ·) ?_ rfl)
  refine (Fin.sum_univ_add (a := 3584) (b := 2048) _).trans (congrArg₂ (· + ·) ?_ rfl)
  exact Fin.sum_univ_add (a := 1024) (b := 2560) _

theorem cat4_first {R : Nat} (a : (⟨2, ![R, 1024]⟩ : Shape).Idx → EReal) (b : (⟨2, ![R, 2560]⟩ : Shape).Idx → EReal) (d : (⟨2, ![R, 2048]⟩ : Shape).Idx → EReal)
    (e h : (⟨2, ![R, 128]⟩ : Shape).Idx → EReal) (r : Fin R) (k : Fin 1024) : cat4 a b d e h r ⟨k.val, by omega⟩ = a (ix2 r k) := dif_pos k.isLt

theorem cat4_second {R : Nat} (a : (⟨2, ![R, 1024]⟩ : Shape).Idx → EReal) (b : (⟨2, ![R, 2560]⟩ : Shape).Idx → EReal) (d : (⟨2, ![R, 2048]⟩ : Shape).Idx → EReal)
    (e h : (⟨2, ![R, 128]⟩ : Shape).Idx → EReal) (r : Fin R) (k : Fin 2560) : cat4 a b d e h r ⟨1024 + k.val, by omega⟩ = b (ix2 r k) := by
  unfold cat4
  rw [dif_neg (by dsimp only; omega), dif_pos (by dsimp only; omega)]
  exact congrArg b (congrArg (ix2 r) (Fin.ext (by dsimp only; omega)))

theorem cat4_third {R : Nat} (a : (⟨2, ![R, 1024]⟩ : Shape).Idx → EReal) (b : (⟨2, ![R, 2560]⟩ : Shape).Idx → EReal) (d : (⟨2, ![R, 2048]⟩ : Shape).Idx → EReal)
    (e h : (⟨2, ![R, 128]⟩ : Shape).Idx → EReal) (r : Fin R) (k : Fin 2048) : cat4 a b d e h r ⟨3584 + k.val, by omega⟩ = d (ix2 r k) := by
  unfold cat4
  rw [dif_neg (by dsimp only; omega), dif_neg (by dsimp only; omega), dif_pos (by dsimp only; omega)]
  exact congrArg d (congrArg (ix2 r) (Fin.ext (by dsimp only; omega)))

theorem cat4_fourth {R : Nat} (a : (⟨2, ![R, 1024]⟩ : Shape).Idx → EReal) (b : (⟨2, ![R, 2560]⟩ : Shape).Idx → EReal) (d : (⟨2, ![R, 2048]⟩ : Shape).Idx → EReal)
    (e h : (⟨2, ![R, 128]⟩ : Shape).Idx → EReal) (r : Fin R) (k : Fin 128) : cat4 a b d e h r ⟨5632 + k.val, by omega⟩ = e (ix2 r k) + h (ix2 r k) := by
  unfold cat4
  rw [dif_neg (by dsimp only; omega), dif_neg (by dsimp only; omega), dif_neg (by dsimp only; omega)]
  exact congrArg₂ (· + ·) (congrArg e (congrArg (ix2 r) (Fin.ext (by dsimp only; omega)))) (congrArg h (congrArg (ix2 r) (Fin.ext (by dsimp only; omega))))

/-- Two indices with the same two coordinates are the same. -/
theorem ext2 {n0 n1 : Nat} {a b : (⟨2, ![n0, n1]⟩ : Shape).Idx} (h0 : (a 0).val = (b 0).val) (h1 : (a 1).val = (b 1).val) : a = b := by
  funext i; apply Fin.ext
  match i with
  | ⟨0, _⟩ => exact h0
  | ⟨1, _⟩ => exact h1

end Cert.Sums

end
-- ==== Proof.NormRow.lean ====
/-
  The normaliser of one row of 1024 entries over the extended reals, and the gradient of the norm: the kernel's form of it
  and the form of `jax.vjp` are the same for every row, finite or not.
-/
module

public import Idealize.ShloMosaic.Lib.Pipeline.Value
public import Idealize.ShloMosaic.Lib.Pointwise
public import Idealize.ShloMosaic.PureOps.Ideal.Laws

@[expose] public section

noncomputable section

open Idealize.ShloMosaic

namespace Cert.NormRow

/-- The mean square of a row plus the small constant of the norm. -/
def msq (f : Fin 1024 → EReal) : EReal :=
  Ideal.div (∑ k, f k * f k) (Ideal.ofBits FTy.f32 0x44800000#32) + Ideal.ofBits FTy.f32 0x358637BD#32

/-- The reciprocal root of that: what a row is multiplied by. -/
def rs (f : Fin 1024 → EReal) : EReal := Ideal.rsqrt (msq f)

/-- The constant 1024. -/
theorem c1024 : Ideal.ofBits FTy.f32 0x44800000#32 = ((1024 : ℝ) : EReal) := by
  simp [Ideal.ofBits, Ideal.ieee]; norm_cast; norm_num

/-- The constant minus one half. -/
theorem cNegHalf : Ideal.ofBits FTy.f32 0xBF000000#32 = ((-(1 / 2) : ℝ) : EReal) := by
  simp [Ideal.ofBits, Ideal.ieee]; norm_cast; norm_num

/-- The constant one half. -/
theorem cHalf : Ideal.ofBits FTy.f32 0x3F000000#32 = ((1 / 2 : ℝ) : EReal) := by
  simp [Ideal.ofBits, Ideal.ieee]; norm_cast; norm_num

/-- The constant two. -/
theorem cTwo : Ideal.ofBits FTy.f32 0x40000000#32 = ((2 : ℝ) : EReal) := by
  simp [Ideal.ofBits, Ideal.ieee]; norm_cast; norm_num

/-- The constant 1 / 1024. -/
theorem cInv : Ideal.ofBits FTy.f32 0x3A800000#32 = ((1 / 1024 : ℝ) : EReal) := by
  simp [Ideal.ofBits, Ideal.ieee]; norm_cast; norm_num

/-- The small constant is a positive real. -/
theorem cEps : ∃ e : ℝ, 0 < e ∧ Ideal.ofBits FTy.f32 0x358637BD#32 = (e : EReal) := by
  refine ⟨8796093 * (2 : ℝ) ^ (-43 : ℤ), by positivity, ?_⟩
  simp [Ideal.ofBits, Ideal.ieee]

/-- Dividing by 1024 multiplies by its reciprocal. -/
theorem div1024 (x : EReal) : Ideal.div x (Ideal.ofBits FTy.f32 0x44800000#32) = x * ((1 / 1024 : ℝ) : EReal) := by
  rw [c1024, Ideal.div_coe (by norm_num)]

/-- A nonnegative real factor goes into a sum. -/
theorem mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A square is at least zero. -/
theorem sq_nonneg (x : EReal) : 0 ≤ x * x := by
  induction x with
  | bot => simp
  | top => simp
  | coe r => exact_mod_cast mul_self_nonneg r

/-- A square below the top comes from a real number. -/
theorem real_of_sq (x : EReal) (h : x * x ≠ ⊤) : ∃ r : ℝ, x = r := by
  induction x with
  | bot => exact absurd (by simp) h
  | top => exact absurd (by simp) h
  | coe r => exact ⟨r, rfl⟩

/-- A row's normaliser: either the mean square is a positive real and so is the normaliser, whose square is its reciprocal, or the mean
    square is infinite and the normaliser zero. -/
theorem cases_row (f : Fin 1024 → EReal) : (∃ v r : ℝ, 0 < v ∧ 0 < r ∧ r * r * v = 1 ∧ msq f = v ∧ rs f = r ∧ ∀ k, ∃ x : ℝ, f k = x)
    ∨ (msq f = ⊤ ∧ rs f = 0) := by
  obtain ⟨e, he, hE⟩ := cEps
  have hs : 0 ≤ ∑ k, f k * f k := Finset.sum_nonneg fun k _ => sq_nonneg (f k)
  by_cases ht : (∑ k, f k * f k) = ⊤
  · right
    have hm : msq f = ⊤ := by
      unfold msq
      rw [div1024, hE, ht, EReal.top_mul_coe_of_pos (by norm_num)]
      exact EReal.top_add_coe e
    exact ⟨hm, by unfold rs; rw [hm]; rfl⟩
  · left
    have hk : ∀ k, ∃ x : ℝ, f k = x := fun k => by
      refine real_of_sq _ fun h => ht ?_
      refine top_le_iff.mp ?_
      rw [← h]
      exact Finset.single_le_sum (f := fun k => f k * f k) (fun k _ => sq_nonneg (f k)) (Finset.mem_univ k)
    obtain ⟨S, hS⟩ : ∃ S : ℝ, (∑ k, f k * f k) = S := by
      refine ⟨(∑ k, f k * f k).toReal, (EReal.coe_toReal ht ?_).symm⟩
      intro hb; rw [hb] at hs; exact absurd hs (by simp)
    have hS0 : 0 ≤ S := by rw [hS] at hs; exact_mod_cast hs
    have hv : 0 < S * (1 / 1024) + e := by positivity
    have hm : msq f = ((S * (1 / 1024) + e : ℝ) : EReal) := by
      unfold msq
      rw [div1024, hE, hS]; norm_cast
    refine ⟨S * (1 / 1024) + e, (Real.sqrt (S * (1 / 1024) + e))⁻¹, hv, inv_pos.mpr (Real.sqrt_pos.mpr hv), ?_, hm, ?_, hk⟩
    · rw [← mul_inv, Real.mul_self_sqrt hv.le]; exact inv_mul_cancel₀ hv.ne'
    · unfold rs; rw [hm]
      show (if _ then _ else if _ then _ else _) = _
      rw [if_neg (not_lt.mpr hv.le), if_neg hv.ne']

/-- Adding an extended real to itself after two products with reals. -/
theorem twice (x a : ℝ) (S : EReal) (ha : 0 < a) :
    -((x : EReal) * ((a : EReal) * S)) = (x : EReal) * (S * ((-(a / 2) : ℝ) : EReal)) + S * ((-(a / 2) : ℝ) : EReal) * (x : EReal) := by
  have hn : -(a / 2) < 0 := by linarith
  induction S with
  | coe s => norm_cast; ring
  | top =>
    rw [EReal.coe_mul_top_of_pos ha, EReal.top_mul_coe_of_neg hn]
    rcases lt_trichotomy x 0 with hx | rfl | hx
    · rw [EReal.coe_mul_top_of_neg hx, EReal.coe_mul_bot_of_neg hx, EReal.bot_mul_coe_of_neg hx]; rfl
    · simp
    · rw [EReal.coe_mul_top_of_pos hx, EReal.coe_mul_bot_of_pos hx, EReal.bot_mul_coe_of_pos hx]; rfl
  | bot =>
    rw [EReal.coe_mul_bot_of_pos ha, EReal.bot_mul_coe_of_neg hn]
    rcases lt_trichotomy x 0 with hx | rfl | hx
    · rw [EReal.coe_mul_bot_of_neg hx, EReal.coe_mul_top_of_neg hx, EReal.top_mul_coe_of_neg hx]; rfl
    · simp
    · rw [EReal.coe_mul_bot_of_pos hx, EReal.coe_mul_top_of_pos hx, EReal.top_mul_coe_of_pos hx]; rfl

/-- What `jax.vjp` multiplies a row by for the part of the gradient that goes through the normaliser. -/
def coef (f g : Fin 1024 → EReal) : EReal :=
  Ideal.div ((∑ k, f k * g k) * (Ideal.ofBits FTy.f32 0xBF000000#32 * Ideal.div (rs f) (msq f))) (Ideal.ofBits FTy.f32 0x44800000#32)

/-- The gradient of the norm of a row `f` at the cotangent `g`: the kernel's form is that of `jax.vjp`. -/
theorem grad (f g : Fin 1024 → EReal) (j : Fin 1024) :
    rs f * (g j - f j * rs f * Ideal.div (∑ k, g k * (f k * rs f)) (Ideal.ofBits FTy.f32 0x44800000#32))
      = g j * rs f + f j * coef f g + coef f g * f j := by
  rcases cases_row f with ⟨v, r, hv, hr, hrv, hm, hrs, hf⟩ | ⟨hm, hrs⟩
  · obtain ⟨x, hx⟩ := hf j
    have hsum : (∑ k, g k * (f k * (r : EReal))) = (r : EReal) * ∑ k, f k * g k := by
      rw [mul_sum _ _ hr.le]
      exact Finset.sum_congr rfl fun k _ => by rw [← mul_assoc, mul_comm, mul_comm (g k)]
    have hc : coef f g = (∑ k, f k * g k) * ((-(r * r * r * (1 / 1024) / 2) : ℝ) : EReal) := by
      unfold coef
      rw [div1024, cNegHalf, hrs, hm, Ideal.div_coe hv.ne', mul_assoc]
      congr 1
      norm_cast
      have : 1 / v = r * r := by field_simp; linarith
      rw [this]; ring
    rw [hc, hrs, div1024, hsum, hx, sub_eq_add_neg, EReal.left_distrib_of_nonneg_of_ne_top (by exact_mod_cast hr.le) (EReal.coe_ne_top r), add_assoc,
      ← twice x (r * r * r * (1 / 1024)) _ (by positivity), mul_comm (r : EReal) (g j), mul_neg]
    congr 2
    rw [EReal.coe_mul, EReal.coe_mul, EReal.coe_mul]
    ac_rfl
  · have hc : coef f g = 0 := by
      unfold coef
      rw [hm, hrs, div1024]
      have : Ideal.div 0 ⊤ = 0 := by unfold Ideal.div; rw [if_neg (by simp)]; simp
      rw [this]; simp
    rw [hc, hrs]; simp

end Cert.NormRow

end
-- ==== Proof.InBwdVal.lean ====
/-
  The gradient of the input projection and of the norm before it: 256 rows per grid point, and the norm's weight's gradient
  accumulated over the grid, against `jax.vjp` of the plain norm and projection.
-/
module

public import proofs.«01_k».proof.Defs
public import proofs.«01_k».proof.Proof.Gen.InBwd.Frame
public import proofs.«01_k».proof.Proof.Gen.InBwdIdeal.Value
public import proofs.«01_k».proof.Proof.Gen.InBwdRefIdeal.Read
public import proofs.«01_k».proof.Proof.Sums
public import proofs.«01_k».proof.Proof.NormRow
public import Idealize.ShloMosaic.Lib.WritesUnit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InBwdIdeal.Product

open Cert.InBwdIdeal Cert.InBwdIdeal.Gen Cert.Sums Cert.NormRow

theorem hz : (![0, 0] : Fin 2 → Nat) = fun _ => 0 := funext fun a => by fin_cases a <;> rfl

/-- The gradient of the projection's input: the four outputs' gradients side by side against the weight's rows. -/
def dh {R : Nat} (w : S1024x5760.Idx → EReal) (a : (⟨2, ![R, 1024]⟩ : Shape).Idx → EReal) (b : (⟨2, ![R, 2560]⟩ : Shape).Idx → EReal)
    (d : (⟨2, ![R, 2048]⟩ : Shape).Idx → EReal) (e h : (⟨2, ![R, 128]⟩ : Shape).Idx → EReal) (r : Fin R) (j : Fin 1024) : EReal :=
  ∑ k : Fin 5760, cat4 a b d e h r k * w (ix2 j k)

/-- One entry of the gradient of the norm: of the row `f`, at the cotangent `g`, on top of `o`. -/
def dxRow (f g : Fin 1024 → EReal) (o : EReal) (j : Fin 1024) : EReal :=
  o + rs f * (g j - f j * rs f * Ideal.div (∑ k, g k * (f k * rs f)) (Ideal.ofBits FTy.f32 0x44800000#32))

/-- What one row adds to the gradient of the norm's weight. -/
def dwRow (f : Fin 1024 → EReal) (d : EReal) (j : Fin 1024) : EReal := d * (f j * rs f)

/-- The gradient of the layer's input. -/
def DX (x : S2048x1024.Idx → EReal) (nw : S1x1024.Idx → EReal) (w : S1024x5760.Idx → EReal) (o : S2048x1024.Idx → EReal) (a : S2048x1024.Idx → EReal)
    (b : S2048x2560.Idx → EReal) (d : S2048x2048.Idx → EReal) (e h : S2048x128.Idx → EReal) : S2048x1024.Idx → EReal := fun i =>
  dxRow (fun k => x (ix2 (i 0) k)) (fun k => dh (R := 2048) w a b d e h (i 0) k * nw (ix2 0 k)) (o (ix2 (i 0) (i 1))) (i 1)

/-- The gradient of the norm's weight, in the first of eight rows. -/
def DW (x : S2048x1024.Idx → EReal) (w : S1024x5760.Idx → EReal) (a : S2048x1024.Idx → EReal)
    (b : S2048x2560.Idx → EReal) (d : S2048x2048.Idx → EReal) (e h : S2048x128.Idx → EReal) : S8x1024.Idx → EReal := fun i =>
  if (i 0).val = 0 then ∑ q : Fin 2048, dwRow (fun k => x (ix2 q k)) (dh (R := 2048) w a b d e h q (i 1)) (i 1) else 0

/-- The normaliser of a row of the block. -/
theorem pay5_apply (x : Vec Ideal S256x1024 .f32) (p : Fin 256) : k0_pay5 x (ix2 p 0) = rs (fun q => x (ix2 p q)) := by
  unfold_payloads
  unfold rs msq
  pointwise

/-- The normed rows of the block. -/
theorem pay6_apply (x : Vec Ideal S256x1024 .f32) (p : Fin 256) (j : Fin 1024) : k0_pay6 x (ix2 p j) = x (ix2 p j) * rs (fun q => x (ix2 p q)) := by
  unfold_payloads
  unfold rs msq
  pointwise

/-- The gradient of the projection's input in the block, from the weight's four column ranges. -/
theorem pay1_apply (a : Vec Ideal S256x1024 .bf16) (b : Vec Ideal S256x2560 .bf16) (d : Vec Ideal S256x2048 .bf16) (e h : Vec Ideal S256x128 .f32)
    (wa : Vec Ideal S1024x1024 .bf16) (wb : Vec Ideal S1024x2560 .bf16) (wd : Vec Ideal S1024x2048 .bf16) (we : Vec Ideal S1024x128 .bf16) (j : S256x1024.Idx) :
    k0_pay1 (k0_pay7 a b d wa wb wd) (k0_pay8 e h) we j = (∑ k : Fin 1024, a (ix2 (j 0) k) * wa (ix2 (j 1) k)) + (∑ k : Fin 2560, b (ix2 (j 0) k) * wb (ix2 (j 1) k))
      + (∑ k : Fin 2048, d (ix2 (j 0) k) * wd (ix2 (j 1) k)) + ∑ k : Fin 128, (e (ix2 (j 0) k) + h (ix2 (j 0) k)) * we (ix2 (j 1) k) := by
  unfold_payloads
  pointwise

/-- The rows' sum into the accumulator's row. -/
theorem pay2_apply (v13 v29 : FVec Ideal S256x1024 .f32) (v30 : FVec Ideal S256x128 .bf16) (v31 : Vec Ideal S1024x128 .bf16) (v34 : Vec Ideal S1x1024 .f32) (j : S1x1024.Idx) :
    k0_pay2 v13 v29 v30 v31 v34 j = v34 j + ∑ k : Fin 256, k0_pay1 v29 v30 v31 (ix2 k (j 1)) * v13 (ix2 k (j 1)) := by
  unfold k0_pay2
  generalize k0_pay1 v29 v30 v31 = y
  pointwise

/-- The gradient of the norm in the block. -/
theorem pay3_apply (v11 : FVec Ideal S256x1 .f32) (v13 v29 : FVec Ideal S256x1024 .f32) (v30 : FVec Ideal S256x128 .bf16) (v31 : Vec Ideal S1024x128 .bf16)
    (nw : Vec Ideal S1x1024 .f32) (o : Vec Ideal S256x1024 .f32) (j : S256x1024.Idx) :
    k0_pay3 v11 v13 v29 v30 v31 nw o j = o j + v11 (ix2 (j 0) 0) * (k0_pay1 v29 v30 v31 j * nw (ix2 0 (j 1)) - v13 j *
      Ideal.div (∑ k : Fin 1024, k0_pay1 v29 v30 v31 (ix2 (j 0) k) * nw (ix2 0 k) * v13 (ix2 (j 0) k)) (Ideal.ofBits FTy.f32 0x44800000#32)) := by
  unfold k0_pay3
  generalize k0_pay1 v29 v30 v31 = y
  pointwise

/-- The accumulator's starting contents are zero. -/
theorem pay4_apply (j : S8x1024.Idx) : (k0_pay4 (F := Ideal)) j = 0 := by
  unfold_payloads
  pointwise

/-- The weight's columns from `o` on. -/
theorem ld_cols (n o : Nat) (w : Vec Ideal S1024x5760 .bf16) (inb : ∀ a : Fin 2, (![0, o] : Fin 2 → Nat) a + (![1024, n] : Fin 2 → Nat) a ≤ S1024x5760.size a)
    (j : Fin 1024) (k : Fin n) (h : o + k.val < 5760) :
    View.ld (Val := Elt Ideal) (e' := .bf16) w (Rect.unit (s := S1024x5760) ![0, o] ![1024, n] inb) (ix2 j k) = w (ix2 j ⟨o + k.val, h⟩) := by
  refine congrArg w (ext2 ?_ ?_)
  · show 0 + 1 * j.val = j.val; omega
  · show o + 1 * k.val = o + k.val; omega

/-- The gradient of the projection's input in the block, from the weight. -/
theorem pay1_eq (a : Vec Ideal S256x1024 .bf16) (b : Vec Ideal S256x2560 .bf16) (d : Vec Ideal S256x2048 .bf16) (e h : Vec Ideal S256x128 .f32) (w : Vec Ideal S1024x5760 .bf16)
    (wa : Vec Ideal S1024x1024 .bf16) (wb : Vec Ideal S1024x2560 .bf16) (wd : Vec Ideal S1024x2048 .bf16) (we : Vec Ideal S1024x128 .bf16)
    (ha : ∀ (j : Fin 1024) (k : Fin 1024), wa (ix2 j k) = w (ix2 j ⟨k.val, by omega⟩)) (hb : ∀ (j : Fin 1024) (k : Fin 2560), wb (ix2 j k) = w (ix2 j ⟨1024 + k.val, by omega⟩))
    (hd : ∀ (j : Fin 1024) (k : Fin 2048), wd (ix2 j k) = w (ix2 j ⟨3584 + k.val, by omega⟩)) (he : ∀ (j : Fin 1024) (k : Fin 128), we (ix2 j k) = w (ix2 j ⟨5632 + k.val, by omega⟩))
    (p : Fin 256) (q : Fin 1024) :
    k0_pay1 (k0_pay7 a b d wa wb wd) (k0_pay8 e h) we (ix2 p q) = dh (R := 256) w a b d e h p q := by
  rw [pay1_apply]
  unfold dh
  rw [sum_cols]
  refine congrArg₂ (· + ·) (congrArg₂ (· + ·) (congrArg₂ (· + ·) ?_ ?_) ?_) ?_
  · exact Finset.sum_congr rfl fun k _ => congrArg₂ (· * ·) (cat4_first a b d e h p k).symm (ha q k)
  · exact Finset.sum_congr rfl fun k _ => congrArg₂ (· * ·) (cat4_second a b d e h p k).symm (hb q k)
  · exact Finset.sum_congr rfl fun k _ => congrArg₂ (· * ·) (cat4_third a b d e h p k).symm (hd q k)
  · exact Finset.sum_congr rfl fun k _ => congrArg₂ (· * ·) (cat4_fourth a b d e h p k).symm (he q k)

/-- The gradient of the projection's input in the block, from the weight's four column ranges as the kernel loads them. -/
theorem dh_pay (a : Vec Ideal S256x1024 .bf16) (b : Vec Ideal S256x2560 .bf16) (d : Vec Ideal S256x2048 .bf16) (e h : Vec Ideal S256x128 .f32) (w : Vec Ideal S1024x5760 .bf16)
    (p : Fin 256) (q : Fin 1024) :
    k0_pay1 (k0_pay7 a b d (View.ld (Val := Elt Ideal) (e' := .bf16) w (Rect.unit (s := S1024x5760) ![0, 0] ![1024, 1024] inb_S1024x5760_S1024x1024_0_0))
        (View.ld (Val := Elt Ideal) (e' := .bf16) w (Rect.unit (s := S1024x5760) ![0, 1024] ![1024, 2560] inb_S1024x5760_S1024x2560_0_1024))
        (View.ld (Val := Elt Ideal) (e' := .bf16) w (Rect.unit (s := S1024x5760) ![0, 3584] ![1024, 2048] inb_S1024x5760_S1024x2048_0_3584)))
      (k0_pay8 e h) (View.ld (Val := Elt Ideal) (e' := .bf16) w (Rect.unit (s := S1024x5760) ![0, 5632] ![1024, 128] inb_S1024x5760_S1024x128_0_5632)) (ix2 p q)
      = dh (R := 256) w a b d e h p q :=
  pay1_eq a b d e h w _ _ _ _ (fun j k => (ld_cols 1024 0 w _ j k (by omega)).trans (congrArg (fun z => w (ix2 j z)) (Fin.ext (Nat.zero_add _))))
    (fun j k => ld_cols 2560 1024 w _ j k (by omega)) (fun j k => ld_cols 2048 3584 w _ j k (by omega)) (fun j k => ld_cols 128 5632 w _ j k (by omega)) p q

/-- The first row of the accumulator read through a list of writes. -/
theorem readCov_apply (v : View sig .tc .vmem S8x1024 .f32) (L : List (View.Piece (Elt Ideal) S8x1024 .f32))
    (inb : ∀ a : Fin 2, (![0, 0] : Fin 2 → Nat) a + (![1, 1024] : Fin 2 → Nat) a ≤ S8x1024.size a) (j : S1x1024.Idx) (y : S8x1024.Idx)
    (h0 : (y 0).val = 0) (h1 : (y 1).val = (j 1).val) :
    v.readCov L (Rect.unit (s := S8x1024) ![0, 0] ![1, 1024] inb).toLoadRect j = v.read (Elt Ideal) (v.writes (Elt Ideal) v.junk L) y := by
  refine congrArg (v.read (Elt Ideal) (v.writes (Elt Ideal) v.junk L)) (ext2 ?_ ?_)
  · have : (j 0).val < 1 := (j 0).isLt
    show 0 + 1 * (j 0).val = (y 0).val; omega
  · show 0 + 1 * (j 1).val = (y 1).val; omega

/-- What a point of case A leaves of the input's gradient, read at an index. -/
theorem out9_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5760 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x2560 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S8x1024 .f32) (harg11 : arg11.IsWhole) (hc0 : cond0_0 i)
    (x0 : Vec Ideal S256x1024 .f32) (x1 : Vec Ideal S1x1024 .f32) (x2 : Vec Ideal S1024x5760 .bf16) (x3 : Vec Ideal S256x1024 .f32) (x4 : Vec Ideal S256x1024 .bf16) (x5 : Vec Ideal S256x2560 .bf16) (x6 : Vec Ideal S256x2048 .bf16) (x7 : Vec Ideal S256x128 .f32) (x8 : Vec Ideal S256x128 .f32) (j : S256x1024.Idx) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 j = dxRow (fun k => x0 (ix2 (j 0) k)) (fun k => dh (R := 256) x2 x4 x5 x6 x7 x8 (j 0) k * x1 (ix2 0 k)) (x3 (ix2 (j 0) (j 1))) (j 1) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S1x1024) hz, View.ld_unit_zero (S := S256x2560) hz, View.ld_unit_zero (S := S256x2048) hz, View.ld_unit_zero (S := S256x128) hz]
  have hp := fun (p : Fin 256) (q : Fin 1024) => dh_pay x4 x5 x6 x7 x8 x2 p q
  obtain ⟨p, q, rfl⟩ : ∃ (p : Fin 256) (q : Fin 1024), j = ix2 p q := ⟨j 0, j 1, (ix2_eta j).symm⟩
  refine (pay3_apply _ _ _ _ _ _ _ _).trans ?_
  unfold dxRow
  refine congrArg₂ (· + ·) rfl (congrArg₂ (· * ·) (pay5_apply x0 p) (congrArg₂ (· - ·) (congrArg₂ (· * ·) (hp p q) rfl)
    (congrArg₂ (· * ·) (pay6_apply x0 p q) (congrArg₂ Ideal.div (Finset.sum_congr rfl fun k _ => congrArg₂ (· * ·) (congrArg₂ (· * ·) (hp p k) rfl) (pay6_apply x0 p k)) rfl))))

/-- What a point of case B leaves of the input's gradient, read at an index. -/
theorem out9_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5760 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x2560 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i)
    (x0 : Vec Ideal S256x1024 .f32) (x1 : Vec Ideal S1x1024 .f32) (x2 : Vec Ideal S1024x5760 .bf16) (x3 : Vec Ideal S256x1024 .f32) (x4 : Vec Ideal S256x1024 .bf16) (x5 : Vec Ideal S256x2560 .bf16) (x6 : Vec Ideal S256x2048 .bf16) (x7 : Vec Ideal S256x128 .f32) (x8 : Vec Ideal S256x128 .f32) (xo10 : Vec Ideal S8x1024 .f32) (j : S256x1024.Idx) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 j = dxRow (fun k => x0 (ix2 (j 0) k)) (fun k => dh (R := 256) x2 x4 x5 x6 x7 x8 (j 0) k * x1 (ix2 0 k)) (x3 (ix2 (j 0) (j 1))) (j 1) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S1x1024) hz, View.ld_unit_zero (S := S256x2560) hz, View.ld_unit_zero (S := S256x2048) hz, View.ld_unit_zero (S := S256x128) hz]
  have hp := fun (p : Fin 256) (q : Fin 1024) => dh_pay x4 x5 x6 x7 x8 x2 p q
  obtain ⟨p, q, rfl⟩ : ∃ (p : Fin 256) (q : Fin 1024), j = ix2 p q := ⟨j 0, j 1, (ix2_eta j).symm⟩
  refine (pay3_apply _ _ _ _ _ _ _ _).trans ?_
  unfold dxRow
  refine congrArg₂ (· + ·) rfl (congrArg₂ (· * ·) (pay5_apply x0 p) (congrArg₂ (· - ·) (congrArg₂ (· * ·) (hp p q) rfl)
    (congrArg₂ (· * ·) (pay6_apply x0 p q) (congrArg₂ Ideal.div (Finset.sum_congr rfl fun k _ => congrArg₂ (· * ·) (congrArg₂ (· * ·) (hp p k) rfl) (pay6_apply x0 p k)) rfl))))

/-- What a point of case A leaves in the accumulator, read at an index. -/
theorem out10_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5760 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x2560 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S8x1024 .f32) (harg11 : arg11.IsWhole) (hc0 : cond0_0 i)
    (x0 : Vec Ideal S256x1024 .f32) (x1 : Vec Ideal S1x1024 .f32) (x2 : Vec Ideal S1024x5760 .bf16) (x3 : Vec Ideal S256x1024 .f32) (x4 : Vec Ideal S256x1024 .bf16) (x5 : Vec Ideal S256x2560 .bf16) (x6 : Vec Ideal S256x2048 .bf16) (x7 : Vec Ideal S256x128 .f32) (x8 : Vec Ideal S256x128 .f32) (y : S8x1024.Idx) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 y = if (y 0).val = 0 then 0 + ∑ k : Fin 256, dwRow (fun q => x0 (ix2 k q)) (dh (R := 256) x2 x4 x5 x6 x7 x8 k (y 1)) (y 1) else 0 := by
  unfold out0_A_10 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S1x1024) hz, View.ld_unit_zero (S := S256x2560) hz, View.ld_unit_zero (S := S256x2048) hz, View.ld_unit_zero (S := S256x128) hz]
  have hp := fun (p : Fin 256) (q : Fin 1024) => dh_pay x4 x5 x6 x7 x8 x2 p q
  by_cases h0 : (y 0).val = 0
  · rw [if_pos h0]
    refine (View.read_writes_cons_rows_of_mem _ _ _ _ _ y (ix2 (n0 := 1) (n1 := 1024) 0 (y 1)) rfl (show (y 0).val = 0 + 0 by omega) rfl).trans ?_
    refine (pay2_apply _ _ _ _ _ _).trans ?_
    refine congrArg₂ (· + ·) ?_ (Finset.sum_congr rfl fun k _ => congrArg₂ (· * ·) (hp k (y 1)) (pay6_apply x0 k (y 1)))
    refine (readCov_apply _ _ _ _ y h0 rfl).trans ?_
    refine (View.read_writes_cons_rows_of_mem _ _ _ _ _ y y rfl (Nat.zero_add _).symm rfl).trans ?_
    exact pay4_apply y
  · rw [if_neg h0]
    refine (View.read_writes_cons_rows_of_not_mem _ _ _ _ _ y rfl rfl (Or.inr (show 0 + 1 ≤ (y 0).val by omega))).trans ?_
    refine (View.read_writes_cons_rows_of_mem _ _ _ _ _ y y rfl (Nat.zero_add _).symm rfl).trans ?_
    exact pay4_apply y

/-- What a point of case B leaves in the accumulator, read at an index. -/
theorem out10_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5760 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x2560 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i)
    (x0 : Vec Ideal S256x1024 .f32) (x1 : Vec Ideal S1x1024 .f32) (x2 : Vec Ideal S1024x5760 .bf16) (x3 : Vec Ideal S256x1024 .f32) (x4 : Vec Ideal S256x1024 .bf16) (x5 : Vec Ideal S256x2560 .bf16) (x6 : Vec Ideal S256x2048 .bf16) (x7 : Vec Ideal S256x128 .f32) (x8 : Vec Ideal S256x128 .f32) (xo10 : Vec Ideal S8x1024 .f32) (y : S8x1024.Idx) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 y = if (y 0).val = 0 then xo10 y + ∑ k : Fin 256, dwRow (fun q => x0 (ix2 k q)) (dh (R := 256) x2 x4 x5 x6 x7 x8 k (y 1)) (y 1) else xo10 y := by
  unfold out0_B_10 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x1024) hz, View.ld_unit_zero (S := S1x1024) hz, View.ld_unit_zero (S := S256x2560) hz, View.ld_unit_zero (S := S256x2048) hz, View.ld_unit_zero (S := S256x128) hz]
  have hp := fun (p : Fin 256) (q : Fin 1024) => dh_pay x4 x5 x6 x7 x8 x2 p q
  by_cases h0 : (y 0).val = 0
  · rw [if_pos h0]
    refine (View.read_writes_cons_rows_of_mem _ _ _ _ _ y (ix2 (n0 := 1) (n1 := 1024) 0 (y 1)) rfl (show (y 0).val = 0 + 0 by omega) rfl).trans ?_
    refine (pay2_apply _ _ _ _ _ _).trans ?_
    refine congrArg₂ (· + ·) ?_ (Finset.sum_congr rfl fun k _ => congrArg₂ (· * ·) (hp k (y 1)) (pay6_apply x0 k (y 1)))
    refine congrArg xo10 (ext2 ?_ ?_)
    · show 0 + 1 * 0 = (y 0).val; omega
    · show 0 + 1 * (y 1).val = (y 1).val; omega
  · rw [if_neg h0]
    refine (View.read_writes_cons_rows_of_not_mem _ _ _ _ _ y rfl rfl (Or.inr (show 0 + 1 ≤ (y 0).val by omega))).trans ?_
    exact congrFun (harg11.read_unread xo10) y

/-- Where each window's block lies. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0) :=
  (by decide +kernel : ∀ t : Fin grid0.N, _)

theorem hN : cfg0.N = 8 := by decide +kernel

theorem rowAt_val (n : Nat) (h : n < cfg0.N) (k : Fin 256) : (rowAt n k).val = n * 256 + k.val := by
  rw [hN] at h; exact Nat.mod_eq_of_lt (by omega)

variable (m : (ℓ : Loc nD τ sig) → Buf (Elt Ideal) ℓ) (ρ : Dev nD → PrngReg)

/-- Window 0's block, read at an index. -/
theorem blk0 (c : Dev nD) (t : Fin cfg0.N) (p : Fin 256) (q : Fin 1024) :
    iblk m c 0 t (ix2 p q) = V m c main_arg0 (ix2 (rowAt t.val p) q) := by
  have hr := rowAt_val t.val t.isLt p
  obtain ⟨⟨a0, a1⟩, -⟩ := idx_facts t
  refine congrArg (V m c main_arg0) (ext2 ?_ ?_)
  · show win0_0.index t (0 : Fin 2) * 256 + 1 * p.val = (rowAt t.val p).val; omega
  · show win0_0.index t (1 : Fin 2) * 1024 + 1 * q.val = q.val; omega

/-- Window 1's block, read at an index. -/
theorem blk1 (c : Dev nD) (t : Fin cfg0.N) (p : Fin 1) (q : Fin 1024) : iblk m c 1 t (ix2 p q) = V m c main_arg1 (ix2 p q) := by
  obtain ⟨-, ⟨a0, a1⟩, -⟩ := idx_facts t
  refine congrArg (V m c main_arg1) (ext2 ?_ ?_)
  · show win0_1.index t (0 : Fin 2) * 1 + 1 * p.val = p.val; omega
  · show win0_1.index t (1 : Fin 2) * 1024 + 1 * q.val = q.val; omega

/-- Window 2's block, read at an index. -/
theorem blk2 (c : Dev nD) (t : Fin cfg0.N) (p : Fin 1024) (q : Fin 5760) : iblk m c 2 t (ix2 p q) = V m c main_arg2 (ix2 p q) := by
  obtain ⟨-, -, ⟨a0, a1⟩, -⟩ := idx_facts t
  refine congrArg (V m c main_arg2) (ext2 ?_ ?_)
  · show win0_2.index t (0 : Fin 2) * 1024 + 1 * p.val = p.val; omega
  · show win0_2.index t (1 : Fin 2) * 5760 + 1 * q.val = q.val; omega

/-- Window 3's block, read at an index. -/
theorem blk3 (c : Dev nD) (t : Fin cfg0.N) (p : Fin 256) (q : Fin 1024) :
    iblk m c 3 t (ix2 p q) = V m c main_arg3 (ix2 (rowAt t.val p) q) := by
  have hr := rowAt_val t.val t.isLt p
  obtain ⟨-, -, -, ⟨a0, a1⟩, -⟩ := idx_facts t
  refine congrArg (V m c main_arg3) (ext2 ?_ ?_)
  · show win0_3.index t (0 : Fin 2) * 256 + 1 * p.val = (rowAt t.val p).val; omega
  · show win0_3.index t (1 : Fin 2) * 1024 + 1 * q.val = q.val; omega

/-- Window 4's block, read at an index. -/
theorem blk4 (c : Dev nD) (t : Fin cfg0.N) (p : Fin 256) (q : Fin 1024) :
    iblk m c 4 t (ix2 p q) = V m c main_arg4 (ix2 (rowAt t.val p) q) := by
  have hr := rowAt_val t.val t.isLt p
  obtain ⟨-, -, -, -, ⟨a0, a1⟩, -⟩ := idx_facts t
  refine congrArg (V m c main_arg4) (ext2 ?_ ?_)
  · show win0_4.index t (0 : Fin 2) * 256 + 1 * p.val = (rowAt t.val p).val; omega
  · show win0_4.index t (1 : Fin 2) * 1024 + 1 * q.val = q.val; omega

/-- Window 5's block, read at an index. -/
theorem blk5 (c : Dev nD) (t : Fin cfg0.N) (p : Fin 256) (q : Fin 2560) :
    iblk m c 5 t (ix2 p q) = V m c main_arg5 (ix2 (rowAt t.val p) q) := by
  have hr := rowAt_val t.val t.isLt p
  obtain ⟨-, -, -, -, -, ⟨a0, a1⟩, -⟩ := idx_facts t
  refine congrArg (V m c main_arg5) (ext2 ?_ ?_)
  · show win0_5.index t (0 : Fin 2) * 256 + 1 * p.val = (rowAt t.val p).val; omega
  · show win0_5.index t (1 : Fin 2) * 2560 + 1 * q.val = q.val; omega

/-- Window 6's block, read at an index. -/
theorem blk6 (c : Dev nD) (t : Fin cfg0.N) (p : Fin 256) (q : Fin 2048) :
    iblk m c 6 t (ix2 p q) = V m c main_arg6 (ix2 (rowAt t.val p) q) := by
  have hr := rowAt_val t.val t.isLt p
  obtain ⟨-, -, -, -, -, -, ⟨a0, a1⟩, -⟩ := idx_facts t
  refine congrArg (V m c main_arg6) (ext2 ?_ ?_)
  · show win0_6.index t (0 : Fin 2) * 256 + 1 * p.val = (rowAt t.val p).val; omega
  · show win0_6.index t (1 : Fin 2) * 2048 + 1 * q.val = q.val; omega

/-- Window 7's block, read at an index. -/
theorem blk7 (c : Dev nD) (t : Fin cfg0.N) (p : Fin 256) (q : Fin 128) :
    iblk m c 7 t (ix2 p q) = V m c main_arg7 (ix2 (rowAt t.val p) q) := by
  have hr := rowAt_val t.val t.isLt p
  obtain ⟨-, -, -, -, -, -, -, ⟨a0, a1⟩, -⟩ := idx_facts t
  refine congrArg (V m c main_arg7) (ext2 ?_ ?_)
  · show win0_7.index t (0 : Fin 2) * 256 + 1 * p.val = (rowAt t.val p).val; omega
  · show win0_7.index t (1 : Fin 2) * 128 + 1 * q.val = q.val; omega

/-- Window 8's block, read at an index. -/
theorem blk8 (c : Dev nD) (t : Fin cfg0.N) (p : Fin 256) (q : Fin 128) :
    iblk m c 8 t (ix2 p q) = V m c main_arg8 (ix2 (rowAt t.val p) q) := by
  have hr := rowAt_val t.val t.isLt p
  obtain ⟨-, -, -, -, -, -, -, -, ⟨a0, a1⟩, -⟩ := idx_facts t
  refine congrArg (V m c main_arg8) (ext2 ?_ ?_)
  · show win0_8.index t (0 : Fin 2) * 256 + 1 * p.val = (rowAt t.val p).val; omega
  · show win0_8.index t (1 : Fin 2) * 128 + 1 * q.val = q.val; omega

/-- The blocks' columns side by side are the arrays' columns side by side, at the block's row. -/
theorem blk_cat (c : Dev nD) (t : Fin cfg0.N) (p : Fin 256) (k : Fin 5760) :
    cat4 (R := 256) (iblk m c 4 t) (iblk m c 5 t) (iblk m c 6 t) (iblk m c 7 t) (iblk m c 8 t) p k
      = cat4 (R := 2048) (V m c main_arg4) (V m c main_arg5) (V m c main_arg6) (V m c main_arg7) (V m c main_arg8) (rowAt t.val p) k := by
  unfold cat4
  by_cases h1 : k.val < 1024
  · rw [dif_pos h1, dif_pos h1]; exact blk4 m c t p _
  rw [dif_neg h1, dif_neg h1]
  by_cases h2 : k.val < 3584
  · rw [dif_pos h2, dif_pos h2]; exact blk5 m c t p _
  rw [dif_neg h2, dif_neg h2]
  by_cases h3 : k.val < 5632
  · rw [dif_pos h3, dif_pos h3]; exact blk6 m c t p _
  rw [dif_neg h3, dif_neg h3]
  exact congrArg₂ (· + ·) (blk7 m c t p _) (blk8 m c t p _)

/-- So are the projection's input's gradients. -/
theorem blk_dh (c : Dev nD) (t : Fin cfg0.N) (p : Fin 256) (j : Fin 1024) :
    dh (R := 256) (iblk m c 2 t) (iblk m c 4 t) (iblk m c 5 t) (iblk m c 6 t) (iblk m c 7 t) (iblk m c 8 t) p j
      = dh (R := 2048) (V m c main_arg2) (V m c main_arg4) (V m c main_arg5) (V m c main_arg6) (V m c main_arg7) (V m c main_arg8) (rowAt t.val p) j :=
  Finset.sum_congr rfl fun k _ => congrArg₂ (· * ·) (blk_cat m c t p k) (blk2 m c t j k)

/-- What point `n` adds to the gradient of the norm's weight. -/
def part (x : S2048x1024.Idx → EReal) (w : S1024x5760.Idx → EReal) (a : S2048x1024.Idx → EReal)
    (b : S2048x2560.Idx → EReal) (d : S2048x2048.Idx → EReal) (e h : S2048x128.Idx → EReal) (y : S8x1024.Idx) (n : Nat) : EReal :=
  ∑ k : Fin 256, dwRow (fun q => x (ix2 (rowAt n k) q)) (dh (R := 2048) w a b d e h (rowAt n k) (y 1)) (y 1)

theorem blk_part (c : Dev nD) (t : Fin cfg0.N) (y : S8x1024.Idx) :
    ∑ k : Fin 256, dwRow (fun q => iblk m c 0 t (ix2 k q)) (dh (R := 256) (iblk m c 2 t) (iblk m c 4 t) (iblk m c 5 t) (iblk m c 6 t) (iblk m c 7 t) (iblk m c 8 t) k (y 1)) (y 1)
      = part (V m c main_arg0) (V m c main_arg2) (V m c main_arg4) (V m c main_arg5) (V m c main_arg6) (V m c main_arg7) (V m c main_arg8) y t.val :=
  Finset.sum_congr rfl fun k _ => congrArg₂ (fun f d => dwRow f d (y 1)) (funext fun q => blk0 m c t k q) (blk_dh m c t k (y 1))

/-- The accumulator after point `n`: the parts of the points so far, in the first row. -/
theorem acc_eq (c : Dev nD) : ∀ (n : Nat) (h : n < cfg0.N) (y : S8x1024.Idx), (outsAt0 m c n h).2 y
    = if (y 0).val = 0 then ∑ s ∈ Finset.range (n + 1), part (V m c main_arg0) (V m c main_arg2) (V m c main_arg4) (V m c main_arg5) (V m c main_arg6) (V m c main_arg7) (V m c main_arg8) y s else 0
  | 0, h, y => by
    have e : (outsAt0 m c 0 h).2 = _ := congrArg (fun p => p.2) (outsAt0_A m c ⟨0, h⟩ rfl)
    dsimp only at e
    rw [e, out10_A]
    rw [Finset.sum_range_one, zero_add]
    exact if_congr Iff.rfl (blk_part m c ⟨0, h⟩ y) rfl
  | n + 1, h, y => by
    have hB : ¬(⟨n + 1, h⟩ : Fin cfg0.N).val % 8 = 0 := by have := hN; dsimp only; omega
    have e : (outsAt0 m c (n + 1) h).2 = _ := congrArg (fun p => p.2) (outsAt0_B m c ⟨n + 1, h⟩ hB)
    dsimp only at e
    have ih : (outsAt0 m c (n + 1 - 1) (Nat.lt_of_le_of_lt (Nat.sub_le _ _) h)).2 y = _ := acc_eq c n (Nat.lt_of_succ_lt h) y
    rw [e, out10_B]
    by_cases h0 : (y 0).val = 0
    · rw [if_pos h0] at ih ⊢
      rw [if_pos h0, Finset.sum_range_succ]
      exact congrArg₂ (· + ·) ih (blk_part m c ⟨n + 1, h⟩ y)
    · rw [if_neg h0] at ih ⊢
      rw [if_neg h0]
      exact ih

/-- The last point writes the whole gradient of the norm's weight. -/
theorem flushed10_eq (c : Dev nD) (t : Fin cfg0.N) (hf : (cfg0.win 10).flush t = true) :
    (dats m 0 c).flushed 10 t = ((cfg0.win 10).blk t).view.read (Elt Ideal) (DW (V m c main_arg0) (V m c main_arg2) (V m c main_arg4) (V m c main_arg5) (V m c main_arg6) (V m c main_arg7) (V m c main_arg8)) := by
  have h7 : t.val = 7 := by have := (flush0_10 t).mp hf; have := t.isLt; have := hN; omega
  obtain ⟨-, -, -, -, -, -, -, -, -, -, ⟨a0, a1⟩⟩ := idx_facts t
  rw [Value.flushed10]
  funext j
  show (outsAt0 m c t.val t.isLt).2 j = DW (V m c main_arg0) (V m c main_arg2) (V m c main_arg4) (V m c main_arg5) (V m c main_arg6) (V m c main_arg7) (V m c main_arg8) (((cfg0.win 10).blk t).view.emb j)
  have hj : ((cfg0.win 10).blk t).view.emb j = j := by
    refine ext2 (n0 := 8) (n1 := 1024) ?_ ?_
    · show win0_10.index t (0 : Fin 2) * 8 + 1 * (j 0).val = (j 0).val; omega
    · show win0_10.index t (1 : Fin 2) * 1024 + 1 * (j 1).val = (j 1).val; omega
  rw [hj, acc_eq, h7]
  exact if_congr Iff.rfl (sum_rows fun q => dwRow (fun k => V m c main_arg0 (ix2 q k)) (dh (R := 2048) (V m c main_arg2) (V m c main_arg4) (V m c main_arg5) (V m c main_arg6) (V m c main_arg7) (V m c main_arg8) q (j 1)) (j 1)) rfl

theorem cover10 (i : S8x1024.Idx) : ∃ t : Fin cfg0.N, (cfg0.win 10).flush t = true ∧ i ∈ ((cfg0.win 10).blk t).view.set := by
  have h0 : (i 0).val < 8 := (i 0).isLt
  have h1 : (i 1).val < 1024 := (i 1).isLt
  obtain ⟨t, ht⟩ : ∃ t : Fin cfg0.N, t.val = 7 := ⟨⟨7, by rw [hN]; omega⟩, rfl⟩
  refine ⟨t, (flush0_10 t).mpr (by omega), ?_⟩
  obtain ⟨-, -, -, -, -, -, -, -, -, -, ⟨a0, a1⟩⟩ := idx_facts t
  show i ∈ ((View.whole main_v0_1).slice (win0_10.rect t)).set
  rw [View.set_slice_whole, Rect.mem_set_unit]
  intro a
  match a with
  | ⟨0, _⟩ =>
    show win0_10.index t (0 : Fin 2) * 8 ≤ (i 0).val ∧ (i 0).val < win0_10.index t (0 : Fin 2) * 8 + 8
    omega
  | ⟨1, _⟩ =>
    show win0_10.index t (1 : Fin 2) * 1024 ≤ (i 1).val ∧ (i 1).val < win0_10.index t (1 : Fin 2) * 1024 + 1024
    omega

theorem final10 (c : Dev nD) : (dats m 0 c).arrAt 10 cfg0.N = DW (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 10 _ (fun t hf => flushed10_eq m c t hf) cover10).trans (by rw [V_main_arg0, V_main_arg2, V_main_arg4, V_main_arg5, V_main_arg6, V_main_arg7, V_main_arg8])

/-- Each point writes its rows of the input's gradient. -/
theorem flushed9_eq (c : Dev nD) (t : Fin cfg0.N) :
    (dats m 0 c).flushed 9 t = ((cfg0.win 9).blk t).view.read (Elt Ideal) (DX (V m c main_arg0) (V m c main_arg1) (V m c main_arg2) (V m c main_arg3) (V m c main_arg4) (V m c main_arg5) (V m c main_arg6) (V m c main_arg7) (V m c main_arg8)) := by
  obtain ⟨-, -, -, -, -, -, -, -, -, ⟨a0, a1⟩, -⟩ := idx_facts t
  have key : ∀ j : S256x1024.Idx, dxRow (fun k => iblk m c 0 t (ix2 (j 0) k)) (fun k => dh (R := 256) (iblk m c 2 t) (iblk m c 4 t) (iblk m c 5 t) (iblk m c 6 t) (iblk m c 7 t) (iblk m c 8 t) (j 0) k * (iblk m c 1 t (ix2 0 k) : EReal)) (iblk m c 3 t (ix2 (j 0) (j 1))) (j 1)
      = DX (V m c main_arg0) (V m c main_arg1) (V m c main_arg2) (V m c main_arg3) (V m c main_arg4) (V m c main_arg5) (V m c main_arg6) (V m c main_arg7) (V m c main_arg8) (((cfg0.win 9).blk t).view.emb j) := by
    intro j
    have hr := rowAt_val t.val t.isLt (j 0)
    have hj : ((cfg0.win 9).blk t).view.emb j = ix2 (rowAt t.val (j 0)) (j 1) := by
      refine ext2 (n0 := 2048) (n1 := 1024) ?_ ?_
      · show win0_9.index t (0 : Fin 2) * 256 + 1 * (j 0).val = (rowAt t.val (j 0)).val; omega
      · show win0_9.index t (1 : Fin 2) * 1024 + 1 * (j 1).val = (j 1).val; omega
    rw [hj]
    have hf : (fun k : Fin 1024 => iblk m c 0 t (ix2 (j 0) k)) = fun k => V m c main_arg0 (ix2 (rowAt t.val (j 0)) k) := funext fun k => blk0 m c t (j 0) k
    have ho := blk3 m c t (j 0) (j 1)
    have hg : (fun k : Fin 1024 => dh (R := 256) (iblk m c 2 t) (iblk m c 4 t) (iblk m c 5 t) (iblk m c 6 t) (iblk m c 7 t) (iblk m c 8 t) (j 0) k * (iblk m c 1 t (ix2 0 k) : EReal))
        = fun k => dh (R := 2048) (V m c main_arg2) (V m c main_arg4) (V m c main_arg5) (V m c main_arg6) (V m c main_arg7) (V m c main_arg8) (rowAt t.val (j 0)) k * (V m c main_arg1 (ix2 0 k) : EReal) :=
      funext fun k => congrArg₂ (· * ·) (blk_dh m c t (j 0) k) (blk1 m c t 0 k)
    rw [hf, hg, ho]
    rfl
  by_cases h0 : t.val % 8 = 0
  · rw [Value.flushed9_A m c t h0]
    funext j
    exact (out9_A c _ _ _ _ _ _ _ _ _ _ _ _ _ _ _ _ _ _ _ _ _ _ _ _ _ _ _ _ _ _ _ _ _ j).trans (key j)
  · rw [Value.flushed9_B m c t h0]
    funext j
    exact (out9_B c _ _ _ _ _ _ _ _ _ _ _ _ _ _ _ _ _ _ _ _ _ _ _ _ _ _ _ _ _ _ _ _ _ _ j).trans (key j)

theorem cover9 (i : S2048x1024.Idx) : ∃ t : Fin cfg0.N, (cfg0.win 9).flush t = true ∧ i ∈ ((cfg0.win 9).blk t).view.set := by
  have h0 : (i 0).val < 2048 := (i 0).isLt
  have h1 : (i 1).val < 1024 := (i 1).isLt
  obtain ⟨t, ht⟩ : ∃ t : Fin cfg0.N, t.val = (i 0).val / 256 := ⟨⟨(i 0).val / 256, by rw [hN]; omega⟩, rfl⟩
  refine ⟨t, flush0_9 _, ?_⟩
  obtain ⟨-, -, -, -, -, -, -, -, -, ⟨a0, a1⟩, -⟩ := idx_facts t
  show i ∈ ((View.whole main_v0_0).slice (win0_9.rect t)).set
  rw [View.set_slice_whole, Rect.mem_set_unit]
  intro a
  match a with
  | ⟨0, _⟩ =>
    show win0_9.index t (0 : Fin 2) * 256 ≤ (i 0).val ∧ (i 0).val < win0_9.index t (0 : Fin 2) * 256 + 256
    omega
  | ⟨1, _⟩ =>
    show win0_9.index t (1 : Fin 2) * 1024 ≤ (i 1).val ∧ (i 1).val < win0_9.index t (1 : Fin 2) * 1024 + 1024
    omega

theorem final9 (c : Dev nD) : (dats m 0 c).arrAt 9 cfg0.N = DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 9 _ (fun t _ => flushed9_eq m c t) cover9).trans (by rw [V_main_arg0, V_main_arg1, V_main_arg2, V_main_arg3, V_main_arg4, V_main_arg5, V_main_arg6, V_main_arg7, V_main_arg8])

open Cert.InBwdRefIdeal.Read in
/-- The reference's joined gradients, read at an index. -/
theorem reference_cat (a : S2048x1024.Idx → EReal) (b : S2048x2560.Idx → EReal) (d : S2048x2048.Idx → EReal) (e h : S2048x128.Idx → EReal) (q : Fin 2048) (p : Fin 5760)
    (i : Cert.InBwdRefIdeal.S2048x5760.Idx) (h0 : (i 0).val = q.val) (h1 : (i 1).val = p.val) : val_main_v4 (F := Ideal) a b d e h i = cat4 (R := 2048) a b d e h q p := by
  unfold val_main_v4 cat4
  have hi : p.val < 5760 := p.isLt
  by_cases hp0 : p.val < 1024
  · rw [dif_pos hp0]
    refine concatenate_apply_piece (t := Cert.InBwdRefIdeal.S2048x5760) 1 _ _ _ 0 ?_ S2048x1024 a ?_ rfl 0 ?_ (ix2 q ⟨p.val - 0, by omega⟩) (fun b hb => ?_) ?_
    · exact (by decide : 0 < 4)
    · rfl
    · rfl
    · match b with
      | ⟨0, _⟩ => exact h0.symm
      | ⟨1, _⟩ => exact absurd rfl hb
    · show 0 + (p.val - 0) = (i 1).val; omega
  rw [dif_neg hp0]
  by_cases hp1 : p.val < 3584
  · rw [dif_pos hp1]
    refine concatenate_apply_piece (t := Cert.InBwdRefIdeal.S2048x5760) 1 _ _ _ 1 ?_ S2048x2560 b ?_ rfl 1024 ?_ (ix2 q ⟨p.val - 1024, by omega⟩) (fun b hb => ?_) ?_
    · exact (by decide : 1 < 4)
    · rfl
    · rfl
    · match b with
      | ⟨0, _⟩ => exact h0.symm
      | ⟨1, _⟩ => exact absurd rfl hb
    · show 1024 + (p.val - 1024) = (i 1).val; omega
  rw [dif_neg hp1]
  by_cases hp2 : p.val < 5632
  · rw [dif_pos hp2]
    refine concatenate_apply_piece (t := Cert.InBwdRefIdeal.S2048x5760) 1 _ _ _ 2 ?_ S2048x2048 d ?_ rfl 3584 ?_ (ix2 q ⟨p.val - 3584, by omega⟩) (fun b hb => ?_) ?_
    · exact (by decide : 2 < 4)
    · rfl
    · rfl
    · match b with
      | ⟨0, _⟩ => exact h0.symm
      | ⟨1, _⟩ => exact absurd rfl hb
    · show 3584 + (p.val - 3584) = (i 1).val; omega
  rw [dif_neg hp2]
  refine concatenate_apply_piece (t := Cert.InBwdRefIdeal.S2048x5760) 1 _ _ _ 3 ?_ S2048x128 (fun i => e i + h i) ?_ rfl 5632 ?_ (ix2 q ⟨p.val - 5632, by omega⟩) (fun b hb => ?_) ?_
  · exact (by decide : 3 < 4)
  · rfl
  · rfl
  · match b with
    | ⟨0, _⟩ => exact h0.symm
    | ⟨1, _⟩ => exact absurd rfl hb
  · show 5632 + (p.val - 5632) = (i 1).val; omega

theorem zero_bits : FloatOps.ofBits (F := Ideal) .f32 0x00000000#32 = (0 : EReal) := Ideal.ofBits_zero_f32

open Cert.InBwdRefIdeal.Read in
/-- The reference's mean square. -/
theorem reference_msq (x : S2048x1024.Idx → EReal) (i : Cert.InBwdRefIdeal.S2048x1.Idx) :
    val_main_v13 (F := Ideal) x i = msq (fun k => x (ix2 (i 0) k)) := by
  rw [val_main_v13_apply, val_main_v11_apply, val_main_v9_apply, val_main_v8_apply, val_main_v10_apply, val_main_v12_apply, val_main_cst_apply, val_main_cst_0_apply,
    val_main_cst_1_apply, zero_bits, zero_add]
  refine congrArg (fun s => Ideal.div s (Ideal.ofBits FTy.f32 0x44800000#32) + Ideal.ofBits FTy.f32 0x358637BD#32) ?_
  refine Finset.sum_congr rfl fun k _ => ?_
  rw [val_main_v7_apply]
  have e : ∀ a : S2048x1024.Idx, a = ix2 (i 0) k → FloatOps.mulf (F := Ideal) (φ := .f32) (x a) (x a) = x (ix2 (i 0) k) * x (ix2 (i 0) k) := by
    rintro _ rfl; rfl
  exact e _ (ext2 rfl rfl)

open Cert.InBwdRefIdeal.Read in
/-- The reference's normaliser. -/
theorem reference_rs (x : S2048x1024.Idx → EReal) (i : Cert.InBwdRefIdeal.S2048x1.Idx) :
    val_main_v14 (F := Ideal) x i = rs (fun k => x (ix2 (i 0) k)) := by
  rw [val_main_v14_apply, reference_msq]; rfl

open Cert.InBwdRefIdeal.Read in
/-- The reference's normed rows. -/
theorem reference_xn (x : S2048x1024.Idx → EReal) (i : S2048x1024.Idx) :
    val_main_v19 (F := Ideal) x i = x i * rs (fun k => x (ix2 (i 0) k)) := by
  rw [val_main_v19_apply, val_main_v18_apply, reference_rs]; rfl

open Cert.InBwdRefIdeal.Read in
/-- The reference's gradient of the projection's input. -/
theorem reference_dh (w : S1024x5760.Idx → EReal) (a : S2048x1024.Idx → EReal) (b : S2048x2560.Idx → EReal) (d : S2048x2048.Idx → EReal) (e h : S2048x128.Idx → EReal) (i : S2048x1024.Idx) :
    val_main_v24 (F := Ideal) w a b d e h i = dh (R := 2048) w a b d e h (i 0) (i 1) := by
  rw [val_main_v24_apply]
  refine Finset.sum_congr rfl fun k _ => ?_
  rw [reference_cat a b d e h (i 0) k _ rfl rfl, val_main_v5_apply]
  exact congrArg₂ (· * ·) rfl (congrArg w (ext2 rfl rfl))

open Cert.InBwdRefIdeal.Read in
/-- The reference's cotangent of the normed rows. -/
theorem reference_g (nw : S1x1024.Idx → EReal) (w : S1024x5760.Idx → EReal) (a : S2048x1024.Idx → EReal) (b : S2048x2560.Idx → EReal) (d : S2048x2048.Idx → EReal) (e h : S2048x128.Idx → EReal) (i : S2048x1024.Idx) :
    val_main_v29 (F := Ideal) nw w a b d e h i = dh (R := 2048) w a b d e h (i 0) (i 1) * nw (ix2 0 (i 1)) := by
  rw [val_main_v29_apply, reference_dh, val_main_v28_apply, val_main_v20_apply, val_main_v6_apply]
  refine congrArg₂ (· * ·) rfl (congrArg nw (ext2 ?_ ?_))
  · rfl
  · exact Nat.mod_eq_of_lt (i 1).isLt

open Cert.InBwdRefIdeal.Read in
/-- What the reference multiplies a row by for the part through the normaliser. -/
theorem reference_coef (x : S2048x1024.Idx → EReal) (nw : S1x1024.Idx → EReal) (w : S1024x5760.Idx → EReal) (a : S2048x1024.Idx → EReal) (b : S2048x2560.Idx → EReal) (d : S2048x2048.Idx → EReal)
    (e h : S2048x128.Idx → EReal) (i : S2048x1024.Idx) :
    val_main_v41 (F := Ideal) x nw w a b d e h i = coef (fun k => x (ix2 (i 0) k)) (fun k => dh (R := 2048) w a b d e h (i 0) k * nw (ix2 0 k)) := by
  rw [val_main_v41_apply, val_main_v40_apply, val_main_cst_7_apply, zero_bits, zero_add, Fintype.sum_unique]
  rw [val_main_v39_apply, val_main_v37_apply, val_main_v33_apply, val_main_v32_apply, val_main_v38_apply, val_main_v17_apply, val_main_v16_apply, val_main_v15_apply,
    reference_rs, reference_msq, val_main_cst_5_apply, val_main_cst_6_apply, val_main_cst_2_apply, zero_bits, zero_add]
  have hf : ∀ q : Fin 2048, q = i 0 → (fun k : Fin 1024 => x (ix2 q k)) = fun k => x (ix2 (i 0) k) := by rintro _ rfl; rfl
  unfold coef
  refine congrArg₂ Ideal.div (congrArg₂ (· * ·) ?_ (congrArg₂ (· * ·) rfl (congrArg₂ Ideal.div (congrArg rs (hf _ (Fin.ext rfl))) (congrArg msq (hf _ (Fin.ext rfl)))))) rfl
  refine Finset.sum_congr rfl fun k _ => ?_
  rw [val_main_v31_apply, reference_g]
  have e : ∀ z : S2048x1024.Idx, z = ix2 (i 0) k → FloatOps.mulf (F := Ideal) (φ := .f32) (x z) (dh (R := 2048) w a b d e h (z 0) (z 1) * nw (ix2 0 (z 1)))
      = x (ix2 (i 0) k) * (dh (R := 2048) w a b d e h (i 0) k * nw (ix2 0 k)) := by
    rintro _ rfl; rfl
  refine e _ (ext2 ?_ rfl)
  show (i 0).val * 1 + 0 = (i 0).val; omega

open Cert.InBwdRefIdeal.Read in
/-- The reference's gradient of the input. -/
theorem reference_DX (x : S2048x1024.Idx → EReal) (nw : S1x1024.Idx → EReal) (w : S1024x5760.Idx → EReal) (o a : S2048x1024.Idx → EReal) (b : S2048x2560.Idx → EReal) (d : S2048x2048.Idx → EReal)
    (e h : S2048x128.Idx → EReal) : val_main_v45 (F := Ideal) x nw w o a b d e h = DX x nw w o a b d e h := by
  funext i
  rw [val_main_v45_apply, val_main_v44_apply, val_main_v43_apply, val_main_v42_apply, val_main_v36_apply, val_main_v35_apply, val_main_v34_apply, reference_rs, reference_g, reference_coef]
  unfold DX dxRow
  refine Eq.trans ?_ (congrArg (fun z => o (ix2 (i 0) (i 1)) + z) (grad (fun k => x (ix2 (i 0) k)) (fun k => dh (R := 2048) w a b d e h (i 0) k * nw (ix2 0 k)) (i 1)).symm)
  have hi : ix2 (n0 := 2048) (n1 := 1024) (i 0) (i 1) = i := ix2_eta i
  dsimp only
  rw [hi, ← add_assoc, ← add_assoc]
  rfl

open Cert.InBwdRefIdeal.Read in
/-- The reference's gradient of the norm's weight. -/
theorem reference_DW (x : S2048x1024.Idx → EReal) (w : S1024x5760.Idx → EReal) (a : S2048x1024.Idx → EReal) (b : S2048x2560.Idx → EReal) (d : S2048x2048.Idx → EReal)
    (e h : S2048x128.Idx → EReal) : val_main_v48 (F := Ideal) x w a b d e h = DW x w a b d e h := by
  funext i
  unfold val_main_v48 DW
  by_cases h0 : (i 0).val = 0
  · rw [if_pos h0]
    refine (concatenate_apply_piece (t := Cert.InBwdRefIdeal.S8x1024) 0 _ _ _ 0 ?_ S1x1024 (val_main_v46 (F := Ideal) x w a b d e h) ?_ rfl 0 ?_ (ix2 0 (i 1)) (fun b hb => ?_) ?_).trans ?_
    · exact (by decide : 0 < 2)
    · rfl
    · rfl
    · match b with
      | ⟨0, _⟩ => exact absurd rfl hb
      | ⟨1, _⟩ => rfl
    · show 0 + 0 = (i 0).val; omega
    · rw [val_main_v46_apply, val_main_v30_apply, val_main_cst_4_apply, zero_bits, zero_add, Fintype.sum_unique, val_main_v27_apply, val_main_v26_apply, val_main_cst_3_apply, zero_bits, zero_add]
      refine Finset.sum_congr rfl fun k _ => ?_
      rw [val_main_v25_apply, reference_xn, reference_dh]
      unfold dwRow
      have e1 : ∀ z : S2048x1024.Idx, z = ix2 k (i 1) → FloatOps.mulf (F := Ideal) (φ := .f32) (x z * rs (fun k => x (ix2 (z 0) k))) (dh (R := 2048) w a b d e h (z 0) (z 1))
          = dh (R := 2048) w a b d e h k (i 1) * (x (ix2 k (i 1)) * rs (fun q => x (ix2 k q))) := by
        rintro _ rfl; exact mul_comm _ _
      refine e1 _ (ext2 rfl ?_)
      show 0 * 1024 + (0 * 1024 + (i 1).val) = (i 1).val; omega
  · rw [if_neg h0]
    have hi : (i 0).val < 8 := (i 0).isLt
    refine (concatenate_apply_piece (t := Cert.InBwdRefIdeal.S8x1024) 0 _ _ _ 1 ?_ Cert.InBwdRefIdeal.S7x1024 (val_main_v47 (F := Ideal)) ?_ rfl 1 ?_ (ix2 ⟨(i 0).val - 1, by omega⟩ (i 1)) (fun b hb => ?_) ?_).trans ?_
    · exact (by decide : 1 < 2)
    · rfl
    · rfl
    · match b with
      | ⟨0, _⟩ => exact absurd rfl hb
      | ⟨1, _⟩ => rfl
    · show 1 + ((i 0).val - 1) = (i 0).val; omega
    · rw [val_main_v47_apply, val_main_cst_8_apply, zero_bits]

end Cert.InBwdIdeal.Product

namespace Cert.Proof

open Cert.InBwdIdeal.Product in
/-- `InBwd` and its reference end with the same gradient of the layer's input and the same gradient of the norm's weight. -/
theorem algebraic_InBwd : Cert.algebraic_InBwdIdeal_InBwdRefIdeal := fun m g m' g' _ hagree =>
  ⟨fun c => DX (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)),
    fun c => DW (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)),
    (θ_run _ _ _).mono (fun _ h c => ⟨(h c).1.trans (final9 m c), (h c).2.1.trans (final10 m c), (h c).2.2⟩)
      (Cert.InBwdIdeal.Value.run_blocks m g),
    (θ_run _ _ _).mono (fun _ h c => ⟨((h c).1.trans (Cert.InBwdRefIdeal.Read.val_main_v45_eq m' c)).trans
      ((reference_DX _ _ _ _ _ _ _ _ _).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2])),
      ((h c).2.1.trans (Cert.InBwdRefIdeal.Read.val_main_v48_eq _ _ _ _ _ _ _)).trans
      ((reference_DW _ _ _ _ _ _ _).trans (by rw [(hagree c).1, (hagree c).2.2.1, (hagree c).2.2.2.2.1, (hagree c).2.2.2.2.2.1, (hagree c).2.2.2.2.2.2.1, (hagree c).2.2.2.2.2.2.2.1, (hagree c).2.2.2.2.2.2.2.2])),
      (h c).2.2⟩) (Cert.InBwdRefIdeal.Value.run m' g')⟩

end Cert.Proof

end
-- ==== Proof.OutBwdVal.lean ====
/-
  The gradient of the output projection: the three mixers' gradients, 256 rows per grid point, and the weight's gradient
  accumulated over the grid, against `jax.vjp` of the plain projection.
-/
module

public import proofs.«01_k».proof.Defs
public import proofs.«01_k».proof.Proof.Gen.OutBwd.Frame
public import proofs.«01_k».proof.Proof.Gen.OutBwdIdeal.Value
public import proofs.«01_k».proof.Proof.Gen.OutBwdRefIdeal.Read
public import proofs.«01_k».proof.Proof.Sums
public import Idealize.ShloMosaic.Lib.WritesUnit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutBwdIdeal.Product

open Cert.OutBwdIdeal Cert.OutBwdIdeal.Gen Cert.Sums

theorem hz : (![0, 0] : Fin 2 → Nat) = fun _ => 0 := funext fun a => by fin_cases a <;> rfl

/-- The gradient of one mixer's output, from the weight's rows from `o` on. -/
def G (o : Nat) (ho : o + 512 ≤ 1536) (dx : S2048x1024.Idx → EReal) (w : S1536x1024.Idx → EReal) : S2048x512.Idx → EReal :=
  fun i => ∑ k : Fin 1024, dx (ix2 (i 0) k) * w (ix2 ⟨o + (i 1).val, by have : (i 1).val < 512 := (i 1).isLt; omega⟩ k)

/-- The gradient of the weight. -/
def W (dx : S2048x1024.Idx → EReal) (r s u : S2048x512.Idx → EReal) : S1536x1024.Idx → EReal :=
  fun i => ∑ q : Fin 2048, cat3 (R := 2048) r s u q (i 0) * dx (ix2 q (i 1))

/-- One block of that gradient, from the blocks of its operands. -/
def P (o : Nat) (ho : o + 512 ≤ 1536) (x : S256x1024.Idx → EReal) (w : S1536x1024.Idx → EReal) (j : S256x512.Idx) : EReal :=
  ∑ k : Fin 1024, x (ix2 (j 0) k) * w (ix2 ⟨o + (j 1).val, by have : (j 1).val < 512 := (j 1).isLt; omega⟩ k)

/-- The three products against the weight's rows, each read at an index. -/
theorem pay5_apply (x : Vec Ideal S256x1024 .f32) (w : Vec Ideal S512x1024 .bf16) (j : S256x512.Idx) :
    k0_pay5 x w j = ∑ k : Fin 1024, x (ix2 (j 0) k) * w (ix2 (j 1) k) := by
  unfold_payloads
  pointwise

theorem pay7_apply (x : Vec Ideal S256x1024 .f32) (w : Vec Ideal S512x1024 .bf16) (j : S256x512.Idx) :
    k0_pay7 x w j = ∑ k : Fin 1024, x (ix2 (j 0) k) * w (ix2 (j 1) k) := by
  unfold_payloads
  pointwise

theorem pay1_apply (x : Vec Ideal S256x1024 .f32) (w : Vec Ideal S512x1024 .bf16) (j : S256x512.Idx) :
    k0_pay1 (k0_pay4 x) w j = ∑ k : Fin 1024, x (ix2 (j 0) k) * w (ix2 (j 1) k) := by
  unfold_payloads
  pointwise

/-- The three accumulated products, each read at an index. -/
theorem pay6_apply (x : Vec Ideal S256x1024 .f32) (a : Vec Ideal S512x1024 .f32) (y : Vec Ideal S256x512 .bf16) (j : S512x1024.Idx) :
    k0_pay6 x a y j = a j + ∑ k : Fin 256, y (ix2 k (j 0)) * x (ix2 k (j 1)) := by
  unfold_payloads
  pointwise

theorem pay8_apply (x : Vec Ideal S256x1024 .f32) (a : Vec Ideal S512x1024 .f32) (y : Vec Ideal S256x512 .bf16) (j : S512x1024.Idx) :
    k0_pay8 x a y j = a j + ∑ k : Fin 256, y (ix2 k (j 0)) * x (ix2 k (j 1)) := by
  unfold_payloads
  pointwise

theorem pay2_apply (x : Vec Ideal S256x1024 .f32) (a : Vec Ideal S512x1024 .f32) (y : Vec Ideal S256x512 .bf16) (j : S512x1024.Idx) :
    k0_pay2 (k0_pay4 x) a y j = a j + ∑ k : Fin 256, y (ix2 k (j 0)) * x (ix2 k (j 1)) := by
  unfold_payloads
  pointwise

/-- The accumulator's starting contents are zero. -/
theorem pay3_apply (j : S1536x1024.Idx) : (k0_pay3 (F := Ideal)) j = 0 := by
  unfold_payloads
  pointwise

/-- A block of 512 rows read through a list of writes. -/
theorem readCov_apply (v : View sig .tc .vmem S1536x1024 .f32) (L : List (View.Piece (Elt Ideal) S1536x1024 .f32)) (o : Nat)
    (inb : ∀ a : Fin 2, (![o, 0] : Fin 2 → Nat) a + (![512, 1024] : Fin 2 → Nat) a ≤ S1536x1024.size a) (j : S512x1024.Idx) (y : S1536x1024.Idx)
    (h0 : (y 0).val = o + (j 0).val) (h1 : (y 1).val = (j 1).val) :
    v.readCov L (Rect.unit (s := S1536x1024) ![o, 0] ![512, 1024] inb).toLoadRect j = v.read (Elt Ideal) (v.writes (Elt Ideal) v.junk L) y := by
  refine congrArg (v.read (Elt Ideal) (v.writes (Elt Ideal) v.junk L)) ?_
  funext a; apply Fin.ext
  match a with
  | ⟨0, _⟩ => show o + 1 * (j 0).val = (y 0).val; omega
  | ⟨1, _⟩ => show 0 + 1 * (j 1).val = (y 1).val; omega

/-- What a point of case A leaves in window 5's block, read at an index. -/
theorem out5_A (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : cond0_0 i)
    (x0 : Vec Ideal S256x1024 .f32) (x1 : Vec Ideal S256x512 .bf16) (x2 : Vec Ideal S256x512 .bf16) (x3 : Vec Ideal S256x512 .bf16) (x4 : Vec Ideal S1536x1024 .bf16) (j : S256x512.Idx) :
    out0_A_5 c i arg1 harg1 arg2 harg2 arg3 harg3 arg4 harg4 arg5 harg5 arg6 harg6 arg7 harg7 arg8 harg8 arg9 harg9 hc0 x0 x1 x2 x3 x4 j = P 0 (by decide) x0 x4 j := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S256x1024) hz]
  rw [pay5_apply]
  refine Finset.sum_congr rfl fun k _ => congrArg₂ (· * ·) rfl (congrArg x4 ?_)
  funext a; apply Fin.ext
  match a with
  | ⟨0, _⟩ => show 0 + 1 * (j 1).val = 0 + (j 1).val; omega
  | ⟨1, _⟩ => show 0 + 1 * k.val = k.val; omega

/-- What a point of case B leaves in window 5's block, read at an index. -/
theorem out5_B (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : ¬cond0_0 i)
    (x0 : Vec Ideal S256x1024 .f32) (x1 : Vec Ideal S256x512 .bf16) (x2 : Vec Ideal S256x512 .bf16) (x3 : Vec Ideal S256x512 .bf16) (x4 : Vec Ideal S1536x1024 .bf16) (xo8 : Vec Ideal S1536x1024 .f32) (j : S256x512.Idx) :
    out0_B_5 c i arg1 harg1 arg2 harg2 arg3 harg3 arg4 harg4 arg5 harg5 arg6 harg6 arg7 harg7 arg8 harg8 arg9 harg9 hc0 x0 x1 x2 x3 x4 xo8 j = P 0 (by decide) x0 x4 j := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S256x1024) hz]
  rw [pay5_apply]
  refine Finset.sum_congr rfl fun k _ => congrArg₂ (· * ·) rfl (congrArg x4 ?_)
  funext a; apply Fin.ext
  match a with
  | ⟨0, _⟩ => show 0 + 1 * (j 1).val = 0 + (j 1).val; omega
  | ⟨1, _⟩ => show 0 + 1 * k.val = k.val; omega

/-- What a point of case A leaves in window 6's block, read at an index. -/
theorem out6_A (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : cond0_0 i)
    (x0 : Vec Ideal S256x1024 .f32) (x1 : Vec Ideal S256x512 .bf16) (x2 : Vec Ideal S256x512 .bf16) (x3 : Vec Ideal S256x512 .bf16) (x4 : Vec Ideal S1536x1024 .bf16) (j : S256x512.Idx) :
    out0_A_6 c i arg1 harg1 arg2 harg2 arg3 harg3 arg4 harg4 arg5 harg5 arg6 harg6 arg7 harg7 arg8 harg8 arg9 harg9 hc0 x0 x1 x2 x3 x4 j = P 512 (by decide) x0 x4 j := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S256x1024) hz]
  rw [pay7_apply]
  refine Finset.sum_congr rfl fun k _ => congrArg₂ (· * ·) rfl (congrArg x4 ?_)
  funext a; apply Fin.ext
  match a with
  | ⟨0, _⟩ => show 512 + 1 * (j 1).val = 512 + (j 1).val; omega
  | ⟨1, _⟩ => show 0 + 1 * k.val = k.val; omega

/-- What a point of case B leaves in window 6's block, read at an index. -/
theorem out6_B (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : ¬cond0_0 i)
    (x0 : Vec Ideal S256x1024 .f32) (x1 : Vec Ideal S256x512 .bf16) (x2 : Vec Ideal S256x512 .bf16) (x3 : Vec Ideal S256x512 .bf16) (x4 : Vec Ideal S1536x1024 .bf16) (xo8 : Vec Ideal S1536x1024 .f32) (j : S256x512.Idx) :
    out0_B_6 c i arg1 harg1 arg2 harg2 arg3 harg3 arg4 harg4 arg5 harg5 arg6 harg6 arg7 harg7 arg8 harg8 arg9 harg9 hc0 x0 x1 x2 x3 x4 xo8 j = P 512 (by decide) x0 x4 j := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S256x1024) hz]
  rw [pay7_apply]
  refine Finset.sum_congr rfl fun k _ => congrArg₂ (· * ·) rfl (congrArg x4 ?_)
  funext a; apply Fin.ext
  match a with
  | ⟨0, _⟩ => show 512 + 1 * (j 1).val = 512 + (j 1).val; omega
  | ⟨1, _⟩ => show 0 + 1 * k.val = k.val; omega

/-- What a point of case A leaves in window 7's block, read at an index. -/
theorem out7_A (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : cond0_0 i)
    (x0 : Vec Ideal S256x1024 .f32) (x1 : Vec Ideal S256x512 .bf16) (x2 : Vec Ideal S256x512 .bf16) (x3 : Vec Ideal S256x512 .bf16) (x4 : Vec Ideal S1536x1024 .bf16) (j : S256x512.Idx) :
    out0_A_7 c i arg1 harg1 arg2 harg2 arg3 harg3 arg4 harg4 arg5 harg5 arg6 harg6 arg7 harg7 arg8 harg8 arg9 harg9 hc0 x0 x1 x2 x3 x4 j = P 1024 (by decide) x0 x4 j := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S256x1024) hz]
  rw [pay1_apply]
  refine Finset.sum_congr rfl fun k _ => congrArg₂ (· * ·) rfl (congrArg x4 ?_)
  funext a; apply Fin.ext
  match a with
  | ⟨0, _⟩ => show 1024 + 1 * (j 1).val = 1024 + (j 1).val; omega
  | ⟨1, _⟩ => show 0 + 1 * k.val = k.val; omega

/-- What a point of case B leaves in window 7's block, read at an index. -/
theorem out7_B (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : ¬cond0_0 i)
    (x0 : Vec Ideal S256x1024 .f32) (x1 : Vec Ideal S256x512 .bf16) (x2 : Vec Ideal S256x512 .bf16) (x3 : Vec Ideal S256x512 .bf16) (x4 : Vec Ideal S1536x1024 .bf16) (xo8 : Vec Ideal S1536x1024 .f32) (j : S256x512.Idx) :
    out0_B_7 c i arg1 harg1 arg2 harg2 arg3 harg3 arg4 harg4 arg5 harg5 arg6 harg6 arg7 harg7 arg8 harg8 arg9 harg9 hc0 x0 x1 x2 x3 x4 xo8 j = P 1024 (by decide) x0 x4 j := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S256x1024) hz]
  rw [pay1_apply]
  refine Finset.sum_congr rfl fun k _ => congrArg₂ (· * ·) rfl (congrArg x4 ?_)
  funext a; apply Fin.ext
  match a with
  | ⟨0, _⟩ => show 1024 + 1 * (j 1).val = 1024 + (j 1).val; omega
  | ⟨1, _⟩ => show 0 + 1 * k.val = k.val; omega

/-- What a point of case A leaves in the accumulator, read at an index. -/
theorem out8_A (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : cond0_0 i)
    (x0 : Vec Ideal S256x1024 .f32) (x1 : Vec Ideal S256x512 .bf16) (x2 : Vec Ideal S256x512 .bf16) (x3 : Vec Ideal S256x512 .bf16) (x4 : Vec Ideal S1536x1024 .bf16) (y : S1536x1024.Idx) :
    out0_A_8 c i arg1 harg1 arg2 harg2 arg3 harg3 arg4 harg4 arg5 harg5 arg6 harg6 arg7 harg7 arg8 harg8 arg9 harg9 hc0 x0 x1 x2 x3 x4 y = 0 + ∑ k : Fin 256, cat3 (R := 256) x1 x2 x3 k (y 0) * x0 (ix2 k (y 1)) := by
  have hy : (y 0).val < 1536 := (y 0).isLt
  unfold out0_A_8 kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S256x1024) hz, View.ld_unit_zero (S := S256x512) hz]
  by_cases h1 : (y 0).val < 512
  · refine (View.read_writes_cons_rows_of_not_mem _ _ _ _ _ y rfl rfl (Or.inl (show (y 0).val < 1024 by omega))).trans ?_
    refine (View.read_writes_cons_rows_of_not_mem _ _ _ _ _ y rfl rfl (Or.inl (show (y 0).val < 512 by omega))).trans ?_
    refine (View.read_writes_cons_rows_of_mem _ _ _ _ _ y (ix2 (n0 := 512) (n1 := 1024) ⟨(y 0).val - 0, by omega⟩ (y 1)) rfl (show (y 0).val = 0 + ((y 0).val - 0) by omega) rfl).trans ?_
    rw [pay6_apply]
    refine congrArg₂ (· + ·) ?_ (Finset.sum_congr rfl fun k _ => congrArg₂ (· * ·) ((cat3_first _ _ _ _ _ h1).symm) rfl)
    refine (readCov_apply _ _ 0 _ _ y (show (y 0).val = 0 + ((y 0).val - 0) by omega) rfl).trans ?_
    refine (View.read_writes_cons_rows_of_mem _ _ _ _ _ y y rfl (Nat.zero_add _).symm rfl).trans ?_
    exact pay3_apply y
  by_cases h2 : (y 0).val < 1024
  · refine (View.read_writes_cons_rows_of_not_mem _ _ _ _ _ y rfl rfl (Or.inl (show (y 0).val < 1024 by omega))).trans ?_
    refine (View.read_writes_cons_rows_of_mem _ _ _ _ _ y (ix2 (n0 := 512) (n1 := 1024) ⟨(y 0).val - 512, by omega⟩ (y 1)) rfl (show (y 0).val = 512 + ((y 0).val - 512) by omega) rfl).trans ?_
    rw [pay8_apply]
    refine congrArg₂ (· + ·) ?_ (Finset.sum_congr rfl fun k _ => congrArg₂ (· * ·) ((cat3_second _ _ _ _ _ h1 h2).symm) rfl)
    refine (readCov_apply _ _ 512 _ _ y (show (y 0).val = 512 + ((y 0).val - 512) by omega) rfl).trans ?_
    refine (View.read_writes_cons_rows_of_not_mem _ _ _ _ _ y rfl rfl (Or.inr (show 0 + 512 ≤ (y 0).val by omega))).trans ?_
    refine (View.read_writes_cons_rows_of_mem _ _ _ _ _ y y rfl (Nat.zero_add _).symm rfl).trans ?_
    exact pay3_apply y
  refine (View.read_writes_cons_rows_of_mem _ _ _ _ _ y (ix2 (n0 := 512) (n1 := 1024) ⟨(y 0).val - 1024, by omega⟩ (y 1)) rfl (show (y 0).val = 1024 + ((y 0).val - 1024) by omega) rfl).trans ?_
  rw [pay2_apply]
  refine congrArg₂ (· + ·) ?_ (Finset.sum_congr rfl fun k _ => congrArg₂ (· * ·) ((cat3_third _ _ _ _ _ h2).symm) rfl)
  refine (readCov_apply _ _ 1024 _ _ y (show (y 0).val = 1024 + ((y 0).val - 1024) by omega) rfl).trans ?_
  refine (View.read_writes_cons_rows_of_not_mem _ _ _ _ _ y rfl rfl (Or.inr (show 512 + 512 ≤ (y 0).val by omega))).trans ?_
  refine (View.read_writes_cons_rows_of_not_mem _ _ _ _ _ y rfl rfl (Or.inr (show 0 + 512 ≤ (y 0).val by omega))).trans ?_
  refine (View.read_writes_cons_rows_of_mem _ _ _ _ _ y y rfl (Nat.zero_add _).symm rfl).trans ?_
  exact pay3_apply y

/-- What a point of case B leaves in the accumulator, read at an index. -/
theorem out8_B (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S1536x1024 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1536x1024 .f32) (harg9 : arg9.IsWhole) (hc0 : ¬cond0_0 i)
    (x0 : Vec Ideal S256x1024 .f32) (x1 : Vec Ideal S256x512 .bf16) (x2 : Vec Ideal S256x512 .bf16) (x3 : Vec Ideal S256x512 .bf16) (x4 : Vec Ideal S1536x1024 .bf16) (xo8 : Vec Ideal S1536x1024 .f32) (y : S1536x1024.Idx) :
    out0_B_8 c i arg1 harg1 arg2 harg2 arg3 harg3 arg4 harg4 arg5 harg5 arg6 harg6 arg7 harg7 arg8 harg8 arg9 harg9 hc0 x0 x1 x2 x3 x4 xo8 y = xo8 y + ∑ k : Fin 256, cat3 (R := 256) x1 x2 x3 k (y 0) * x0 (ix2 k (y 1)) := by
  have hy : (y 0).val < 1536 := (y 0).isLt
  unfold out0_B_8 kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S256x1024) hz, View.ld_unit_zero (S := S256x512) hz]
  by_cases h1 : (y 0).val < 512
  · refine (View.read_writes_cons_rows_of_not_mem _ _ _ _ _ y rfl rfl (Or.inl (show (y 0).val < 1024 by omega))).trans ?_
    refine (View.read_writes_cons_rows_of_not_mem _ _ _ _ _ y rfl rfl (Or.inl (show (y 0).val < 512 by omega))).trans ?_
    refine (View.read_writes_cons_rows_of_mem _ _ _ _ _ y (ix2 (n0 := 512) (n1 := 1024) ⟨(y 0).val - 0, by omega⟩ (y 1)) rfl (show (y 0).val = 0 + ((y 0).val - 0) by omega) rfl).trans ?_
    rw [pay6_apply]
    refine congrArg₂ (· + ·) ?_ (Finset.sum_congr rfl fun k _ => congrArg₂ (· * ·) ((cat3_first _ _ _ _ _ h1).symm) rfl)
    refine congrArg xo8 ?_
    funext a; apply Fin.ext
    match a with
    | ⟨0, _⟩ => show 0 + 1 * ((y 0).val - 0) = (y 0).val; omega
    | ⟨1, _⟩ => show 0 + 1 * (y 1).val = (y 1).val; omega
  by_cases h2 : (y 0).val < 1024
  · refine (View.read_writes_cons_rows_of_not_mem _ _ _ _ _ y rfl rfl (Or.inl (show (y 0).val < 1024 by omega))).trans ?_
    refine (View.read_writes_cons_rows_of_mem _ _ _ _ _ y (ix2 (n0 := 512) (n1 := 1024) ⟨(y 0).val - 512, by omega⟩ (y 1)) rfl (show (y 0).val = 512 + ((y 0).val - 512) by omega) rfl).trans ?_
    rw [pay8_apply]
    refine congrArg₂ (· + ·) ?_ (Finset.sum_congr rfl fun k _ => congrArg₂ (· * ·) ((cat3_second _ _ _ _ _ h1 h2).symm) rfl)
    refine congrArg xo8 ?_
    funext a; apply Fin.ext
    match a with
    | ⟨0, _⟩ => show 512 + 1 * ((y 0).val - 512) = (y 0).val; omega
    | ⟨1, _⟩ => show 0 + 1 * (y 1).val = (y 1).val; omega
  refine (View.read_writes_cons_rows_of_mem _ _ _ _ _ y (ix2 (n0 := 512) (n1 := 1024) ⟨(y 0).val - 1024, by omega⟩ (y 1)) rfl (show (y 0).val = 1024 + ((y 0).val - 1024) by omega) rfl).trans ?_
  rw [pay2_apply]
  refine congrArg₂ (· + ·) ?_ (Finset.sum_congr rfl fun k _ => congrArg₂ (· * ·) ((cat3_third _ _ _ _ _ h2).symm) rfl)
  refine congrArg xo8 ?_
  funext a; apply Fin.ext
  match a with
  | ⟨0, _⟩ => show 1024 + 1 * ((y 0).val - 1024) = (y 0).val; omega
  | ⟨1, _⟩ => show 0 + 1 * (y 1).val = (y 1).val; omega

/-- Where each window's block lies. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

theorem hN : cfg0.N = 8 := by decide +kernel

theorem rowAt_val (n : Nat) (h : n < cfg0.N) (k : Fin 256) : (rowAt n k).val = n * 256 + k.val := by
  rw [hN] at h; exact Nat.mod_eq_of_lt (by omega)

variable (m : (ℓ : Loc nD τ sig) → Buf (Elt Ideal) ℓ) (ρ : Dev nD → PrngReg)

/-- The gradient's block, read at an index. -/
theorem blk0 (c : Dev nD) (t : Fin cfg0.N) (p : Fin 256) (q : Fin 1024) :
    iblk m c 0 t (ix2 p q) = V m c main_arg0 (ix2 (rowAt t.val p) q) := by
  have hr := rowAt_val t.val t.isLt p
  obtain ⟨⟨a0, a1⟩, -⟩ := idx_facts t
  refine congrArg (V m c main_arg0) ?_
  funext a; apply Fin.ext
  match a with
  | ⟨0, _⟩ => show win0_0.index t (0 : Fin 2) * 256 + 1 * p.val = (rowAt t.val p).val; omega
  | ⟨1, _⟩ => show win0_0.index t (1 : Fin 2) * 1024 + 1 * q.val = q.val; omega

theorem blk1 (c : Dev nD) (t : Fin cfg0.N) (p : Fin 256) (q : Fin 512) :
    iblk m c 1 t (ix2 p q) = V m c main_arg1 (ix2 (rowAt t.val p) q) := by
  have hr := rowAt_val t.val t.isLt p
  obtain ⟨-, ⟨a0, a1⟩, -⟩ := idx_facts t
  refine congrArg (V m c main_arg1) ?_
  funext a; apply Fin.ext
  match a with
  | ⟨0, _⟩ => show win0_1.index t (0 : Fin 2) * 256 + 1 * p.val = (rowAt t.val p).val; omega
  | ⟨1, _⟩ => show win0_1.index t (1 : Fin 2) * 512 + 1 * q.val = q.val; omega

theorem blk2 (c : Dev nD) (t : Fin cfg0.N) (p : Fin 256) (q : Fin 512) :
    iblk m c 2 t (ix2 p q) = V m c main_arg2 (ix2 (rowAt t.val p) q) := by
  have hr := rowAt_val t.val t.isLt p
  obtain ⟨-, -, ⟨a0, a1⟩, -⟩ := idx_facts t
  refine congrArg (V m c main_arg2) ?_
  funext a; apply Fin.ext
  match a with
  | ⟨0, _⟩ => show win0_2.index t (0 : Fin 2) * 256 + 1 * p.val = (rowAt t.val p).val; omega
  | ⟨1, _⟩ => show win0_2.index t (1 : Fin 2) * 512 + 1 * q.val = q.val; omega

theorem blk3 (c : Dev nD) (t : Fin cfg0.N) (p : Fin 256) (q : Fin 512) :
    iblk m c 3 t (ix2 p q) = V m c main_arg3 (ix2 (rowAt t.val p) q) := by
  have hr := rowAt_val t.val t.isLt p
  obtain ⟨-, -, -, ⟨a0, a1⟩, -⟩ := idx_facts t
  refine congrArg (V m c main_arg3) ?_
  funext a; apply Fin.ext
  match a with
  | ⟨0, _⟩ => show win0_3.index t (0 : Fin 2) * 256 + 1 * p.val = (rowAt t.val p).val; omega
  | ⟨1, _⟩ => show win0_3.index t (1 : Fin 2) * 512 + 1 * q.val = q.val; omega

theorem blk4 (c : Dev nD) (t : Fin cfg0.N) (p : Fin 1536) (q : Fin 1024) : iblk m c 4 t (ix2 p q) = V m c main_arg4 (ix2 p q) := by
  obtain ⟨-, -, -, -, ⟨a0, a1⟩, -⟩ := idx_facts t
  refine congrArg (V m c main_arg4) ?_
  funext a; apply Fin.ext
  match a with
  | ⟨0, _⟩ => show win0_4.index t (0 : Fin 2) * 1536 + 1 * p.val = p.val; omega
  | ⟨1, _⟩ => show win0_4.index t (1 : Fin 2) * 1024 + 1 * q.val = q.val; omega

/-- The blocks' columns side by side are the arrays' columns side by side, at the block's row. -/
theorem blk_cat (c : Dev nD) (t : Fin cfg0.N) (k : Fin 256) (p : Fin 1536) :
    cat3 (R := 256) (iblk m c 1 t) (iblk m c 2 t) (iblk m c 3 t) k p
      = cat3 (R := 2048) (V m c main_arg1) (V m c main_arg2) (V m c main_arg3) (rowAt t.val k) p := by
  by_cases h1 : p.val < 512
  · rw [cat3_first _ _ _ _ _ h1, cat3_first _ _ _ _ _ h1]; exact blk1 m c t k _
  by_cases h2 : p.val < 1024
  · rw [cat3_second _ _ _ _ _ h1 h2, cat3_second _ _ _ _ _ h1 h2]; exact blk2 m c t k _
  · rw [cat3_third _ _ _ _ _ h2, cat3_third _ _ _ _ _ h2]; exact blk3 m c t k _

/-- What point `s` adds to the weight's gradient. -/
def part (dx : S2048x1024.Idx → EReal) (r s u : S2048x512.Idx → EReal) (y : S1536x1024.Idx) (n : Nat) : EReal :=
  ∑ k : Fin 256, cat3 (R := 2048) r s u (rowAt n k) (y 0) * dx (ix2 (rowAt n k) (y 1))

/-- The accumulator after point `n`: the parts of the points so far. -/
theorem acc_eq (c : Dev nD) : ∀ (n : Nat) (h : n < cfg0.N) (y : S1536x1024.Idx), (outsAt0 m c n h).2.2.2 y
    = ∑ s ∈ Finset.range (n + 1), part (V m c main_arg0) (V m c main_arg1) (V m c main_arg2) (V m c main_arg3) y s
  | 0, h, y => by
    have e : (outsAt0 m c 0 h).2.2.2 = _ := congrArg (fun p => p.2.2.2) (outsAt0_A m c ⟨0, h⟩ rfl)
    dsimp only at e
    rw [e, out8_A]
    rw [Finset.sum_range_one, zero_add]
    exact Finset.sum_congr rfl fun k _ => congrArg₂ (· * ·) (blk_cat m c ⟨0, h⟩ k (y 0)) (blk0 m c ⟨0, h⟩ k (y 1))
  | n + 1, h, y => by
    have hB : ¬(⟨n + 1, h⟩ : Fin cfg0.N).val % 8 = 0 := by have := hN; dsimp only; omega
    have e : (outsAt0 m c (n + 1) h).2.2.2 = _ := congrArg (fun p => p.2.2.2) (outsAt0_B m c ⟨n + 1, h⟩ hB)
    dsimp only at e
    rw [e, out8_B]
    rw [Finset.sum_range_succ]
    refine congrArg₂ (· + ·) (acc_eq c n (Nat.lt_of_succ_lt h) y) ?_
    exact Finset.sum_congr rfl fun k _ => congrArg₂ (· * ·) (blk_cat m c ⟨n + 1, h⟩ k (y 0)) (blk0 m c ⟨n + 1, h⟩ k (y 1))

/-- The last point writes the whole gradient of the weight. -/
theorem flushed8_eq (c : Dev nD) (t : Fin cfg0.N) (hf : (cfg0.win 8).flush t = true) :
    (dats m 0 c).flushed 8 t = ((cfg0.win 8).blk t).view.read (Elt Ideal) (W (V m c main_arg0) (V m c main_arg1) (V m c main_arg2) (V m c main_arg3)) := by
  have h7 : t.val = 7 := by have := (flush0_8 t).mp hf; have := t.isLt; have := hN; omega
  obtain ⟨-, -, -, -, -, -, -, -, ⟨a0, a1⟩⟩ := idx_facts t
  rw [Value.flushed8]
  funext j
  show (outsAt0 m c t.val t.isLt).2.2.2 j = W (V m c main_arg0) (V m c main_arg1) (V m c main_arg2) (V m c main_arg3) (((cfg0.win 8).blk t).view.emb j)
  have hj : ((cfg0.win 8).blk t).view.emb j = j := by
    funext a; apply Fin.ext
    match a with
    | ⟨0, _⟩ => show win0_8.index t (0 : Fin 2) * 1536 + 1 * (j 0).val = (j 0).val; omega
    | ⟨1, _⟩ => show win0_8.index t (1 : Fin 2) * 1024 + 1 * (j 1).val = (j 1).val; omega
  rw [hj, acc_eq, h7]
  exact sum_rows fun q => cat3 (R := 2048) (V m c main_arg1) (V m c main_arg2) (V m c main_arg3) q (j 0) * V m c main_arg0 (ix2 q (j 1))

theorem cover8 (i : S1536x1024.Idx) : ∃ t : Fin cfg0.N, (cfg0.win 8).flush t = true ∧ i ∈ ((cfg0.win 8).blk t).view.set := by
  have h0 : (i 0).val < 1536 := (i 0).isLt
  have h1 : (i 1).val < 1024 := (i 1).isLt
  obtain ⟨t, ht⟩ : ∃ t : Fin cfg0.N, t.val = 7 := ⟨⟨7, by rw [hN]; omega⟩, rfl⟩
  refine ⟨t, (flush0_8 t).mpr (by omega), ?_⟩
  obtain ⟨-, -, -, -, -, -, -, -, ⟨a0, a1⟩⟩ := idx_facts t
  show i ∈ ((View.whole main_v0_3).slice (win0_8.rect t)).set
  rw [View.set_slice_whole, Rect.mem_set_unit]
  intro a
  match a with
  | ⟨0, _⟩ =>
    show win0_8.index t (0 : Fin 2) * 1536 ≤ (i 0).val ∧ (i 0).val < win0_8.index t (0 : Fin 2) * 1536 + 1536
    omega
  | ⟨1, _⟩ =>
    show win0_8.index t (1 : Fin 2) * 1024 ≤ (i 1).val ∧ (i 1).val < win0_8.index t (1 : Fin 2) * 1024 + 1024
    omega

theorem final8 (c : Dev nD) : (dats m 0 c).arrAt 8 cfg0.N = W (m ((c : Thread nD τ).loc main_arg0)) (m ((c : Thread nD τ).loc main_arg1))
    (m ((c : Thread nD τ).loc main_arg2)) (m ((c : Thread nD τ).loc main_arg3)) :=
  ((dats m 0 c).arrAt_eq_of_cover 8 _ (fun t hf => flushed8_eq m c t hf) cover8).trans (by rw [V_main_arg0, V_main_arg1, V_main_arg2, V_main_arg3])

/-- Each point writes its rows of the gradient in window 5. -/
theorem flushed5_eq (c : Dev nD) (t : Fin cfg0.N) :
    (dats m 0 c).flushed 5 t = ((cfg0.win 5).blk t).view.read (Elt Ideal) (G 0 (by decide) (V m c main_arg0) (V m c main_arg4)) := by
  obtain ⟨-, -, -, -, -, ⟨a0, a1⟩, -⟩ := idx_facts t
  have key : ∀ j : S256x512.Idx, P 0 (by decide) (iblk m c 0 t) (iblk m c 4 t) j
      = G 0 (by decide) (V m c main_arg0) (V m c main_arg4) (((cfg0.win 5).blk t).view.emb j) := by
    intro j
    have hr := rowAt_val t.val t.isLt (j 0)
    have hj : ((cfg0.win 5).blk t).view.emb j = ix2 (rowAt t.val (j 0)) (j 1) := by
      funext a; apply Fin.ext
      match a with
      | ⟨0, _⟩ => show win0_5.index t (0 : Fin 2) * 256 + 1 * (j 0).val = (rowAt t.val (j 0)).val; omega
      | ⟨1, _⟩ => show win0_5.index t (1 : Fin 2) * 512 + 1 * (j 1).val = (j 1).val; omega
    rw [hj]
    exact Finset.sum_congr rfl fun k _ => congrArg₂ (· * ·) (blk0 m c t (j 0) k) (blk4 m c t _ k)
  by_cases h0 : t.val % 8 = 0
  · rw [Value.flushed5_A m c t h0]
    funext j
    exact (out5_A c _ _ _ _ _ _ _ _ _ _ _ _ _ _ _ _ _ _ _ _ _ _ _ _ _ j).trans (key j)
  · rw [Value.flushed5_B m c t h0]
    funext j
    exact (out5_B c _ _ _ _ _ _ _ _ _ _ _ _ _ _ _ _ _ _ _ _ _ _ _ _ _ _ j).trans (key j)

theorem cover5 (i : S2048x512.Idx) : ∃ t : Fin cfg0.N, (cfg0.win 5).flush t = true ∧ i ∈ ((cfg0.win 5).blk t).view.set := by
  have h0 : (i 0).val < 2048 := (i 0).isLt
  have h1 : (i 1).val < 512 := (i 1).isLt
  obtain ⟨t, ht⟩ : ∃ t : Fin cfg0.N, t.val = (i 0).val / 256 := ⟨⟨(i 0).val / 256, by rw [hN]; omega⟩, rfl⟩
  refine ⟨t, flush0_5 _, ?_⟩
  obtain ⟨-, -, -, -, -, ⟨a0, a1⟩, -⟩ := idx_facts t
  show i ∈ ((View.whole main_v0_0).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 512 ≤ (i 1).val ∧ (i 1).val < win0_5.index t (1 : Fin 2) * 512 + 512
    omega

theorem final5 (c : Dev nD) : (dats m 0 c).arrAt 5 cfg0.N = G 0 (by decide) (m ((c : Thread nD τ).loc main_arg0)) (m ((c : Thread nD τ).loc main_arg4)) :=
  ((dats m 0 c).arrAt_eq_of_cover 5 _ (fun t _ => flushed5_eq m c t) cover5).trans (by rw [V_main_arg0, V_main_arg4])

/-- Each point writes its rows of the gradient in window 6. -/
theorem flushed6_eq (c : Dev nD) (t : Fin cfg0.N) :
    (dats m 0 c).flushed 6 t = ((cfg0.win 6).blk t).view.read (Elt Ideal) (G 512 (by decide) (V m c main_arg0) (V m c main_arg4)) := by
  obtain ⟨-, -, -, -, -, -, ⟨a0, a1⟩, -⟩ := idx_facts t
  have key : ∀ j : S256x512.Idx, P 512 (by decide) (iblk m c 0 t) (iblk m c 4 t) j
      = G 512 (by decide) (V m c main_arg0) (V m c main_arg4) (((cfg0.win 6).blk t).view.emb j) := by
    intro j
    have hr := rowAt_val t.val t.isLt (j 0)
    have hj : ((cfg0.win 6).blk t).view.emb j = ix2 (rowAt t.val (j 0)) (j 1) := by
      funext a; apply Fin.ext
      match a with
      | ⟨0, _⟩ => show win0_6.index t (0 : Fin 2) * 256 + 1 * (j 0).val = (rowAt t.val (j 0)).val; omega
      | ⟨1, _⟩ => show win0_6.index t (1 : Fin 2) * 512 + 1 * (j 1).val = (j 1).val; omega
    rw [hj]
    exact Finset.sum_congr rfl fun k _ => congrArg₂ (· * ·) (blk0 m c t (j 0) k) (blk4 m c t _ k)
  by_cases h0 : t.val % 8 = 0
  · rw [Value.flushed6_A m c t h0]
    funext j
    exact (out6_A c _ _ _ _ _ _ _ _ _ _ _ _ _ _ _ _ _ _ _ _ _ _ _ _ _ j).trans (key j)
  · rw [Value.flushed6_B m c t h0]
    funext j
    exact (out6_B c _ _ _ _ _ _ _ _ _ _ _ _ _ _ _ _ _ _ _ _ _ _ _ _ _ _ j).trans (key j)

theorem cover6 (i : S2048x512.Idx) : ∃ t : Fin cfg0.N, (cfg0.win 6).flush t = true ∧ i ∈ ((cfg0.win 6).blk t).view.set := by
  have h0 : (i 0).val < 2048 := (i 0).isLt
  have h1 : (i 1).val < 512 := (i 1).isLt
  obtain ⟨t, ht⟩ : ∃ t : Fin cfg0.N, t.val = (i 0).val / 256 := ⟨⟨(i 0).val / 256, by rw [hN]; omega⟩, rfl⟩
  refine ⟨t, flush0_6 _, ?_⟩
  obtain ⟨-, -, -, -, -, -, ⟨a0, a1⟩, -⟩ := idx_facts t
  show i ∈ ((View.whole main_v0_1).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 512 ≤ (i 1).val ∧ (i 1).val < win0_6.index t (1 : Fin 2) * 512 + 512
    omega

theorem final6 (c : Dev nD) : (dats m 0 c).arrAt 6 cfg0.N = G 512 (by decide) (m ((c : Thread nD τ).loc main_arg0)) (m ((c : Thread nD τ).loc main_arg4)) :=
  ((dats m 0 c).arrAt_eq_of_cover 6 _ (fun t _ => flushed6_eq m c t) cover6).trans (by rw [V_main_arg0, V_main_arg4])

/-- Each point writes its rows of the gradient in window 7. -/
theorem flushed7_eq (c : Dev nD) (t : Fin cfg0.N) :
    (dats m 0 c).flushed 7 t = ((cfg0.win 7).blk t).view.read (Elt Ideal) (G 1024 (by decide) (V m c main_arg0) (V m c main_arg4)) := by
  obtain ⟨-, -, -, -, -, -, -, ⟨a0, a1⟩, -⟩ := idx_facts t
  have key : ∀ j : S256x512.Idx, P 1024 (by decide) (iblk m c 0 t) (iblk m c 4 t) j
      = G 1024 (by decide) (V m c main_arg0) (V m c main_arg4) (((cfg0.win 7).blk t).view.emb j) := by
    intro j
    have hr := rowAt_val t.val t.isLt (j 0)
    have hj : ((cfg0.win 7).blk t).view.emb j = ix2 (rowAt t.val (j 0)) (j 1) := by
      funext a; apply Fin.ext
      match a with
      | ⟨0, _⟩ => show win0_7.index t (0 : Fin 2) * 256 + 1 * (j 0).val = (rowAt t.val (j 0)).val; omega
      | ⟨1, _⟩ => show win0_7.index t (1 : Fin 2) * 512 + 1 * (j 1).val = (j 1).val; omega
    rw [hj]
    exact Finset.sum_congr rfl fun k _ => congrArg₂ (· * ·) (blk0 m c t (j 0) k) (blk4 m c t _ k)
  by_cases h0 : t.val % 8 = 0
  · rw [Value.flushed7_A m c t h0]
    funext j
    exact (out7_A c _ _ _ _ _ _ _ _ _ _ _ _ _ _ _ _ _ _ _ _ _ _ _ _ _ j).trans (key j)
  · rw [Value.flushed7_B m c t h0]
    funext j
    exact (out7_B c _ _ _ _ _ _ _ _ _ _ _ _ _ _ _ _ _ _ _ _ _ _ _ _ _ _ j).trans (key j)

theorem cover7 (i : S2048x512.Idx) : ∃ t : Fin cfg0.N, (cfg0.win 7).flush t = true ∧ i ∈ ((cfg0.win 7).blk t).view.set := by
  have h0 : (i 0).val < 2048 := (i 0).isLt
  have h1 : (i 1).val < 512 := (i 1).isLt
  obtain ⟨t, ht⟩ : ∃ t : Fin cfg0.N, t.val = (i 0).val / 256 := ⟨⟨(i 0).val / 256, by rw [hN]; omega⟩, rfl⟩
  refine ⟨t, flush0_7 _, ?_⟩
  obtain ⟨-, -, -, -, -, -, -, ⟨a0, a1⟩, -⟩ := idx_facts t
  show i ∈ ((View.whole main_v0_2).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 512 ≤ (i 1).val ∧ (i 1).val < win0_7.index t (1 : Fin 2) * 512 + 512
    omega

theorem final7 (c : Dev nD) : (dats m 0 c).arrAt 7 cfg0.N = G 1024 (by decide) (m ((c : Thread nD τ).loc main_arg0)) (m ((c : Thread nD τ).loc main_arg4)) :=
  ((dats m 0 c).arrAt_eq_of_cover 7 _ (fun t _ => flushed7_eq m c t) cover7).trans (by rw [V_main_arg0, V_main_arg4])

open Cert.OutBwdRefIdeal.Read in
/-- The reference's joined outputs, read at an index. -/
theorem reference_cat (r s u : S2048x512.Idx → EReal) (q : Fin 2048) (p : Fin 1536) (i : Cert.OutBwdRefIdeal.S2048x1536.Idx)
    (h0 : (i 0).val = q.val) (h1 : (i 1).val = p.val) : val_main_v4 (F := Ideal) r s u i = cat3 (R := 2048) r s u q p := by
  unfold val_main_v4
  have hi : p.val < 1536 := p.isLt
  by_cases hp : p.val < 512
  · rw [cat3_first _ _ _ _ _ hp]
    refine concatenate_apply_piece (t := Cert.OutBwdRefIdeal.S2048x1536) 1 _ _ _ 0 ?_ S2048x512 r ?_ rfl 0 ?_ (ix2 q ⟨p.val, hp⟩) (fun b hb => ?_) ?_
    · exact (by decide : 0 < 3)
    · rfl
    · rfl
    · match b with
      | ⟨0, _⟩ => exact h0.symm
      | ⟨1, _⟩ => exact absurd rfl hb
    · show 0 + p.val = (i 1).val; omega
  by_cases hp' : p.val < 1024
  · rw [cat3_second _ _ _ _ _ hp hp']
    refine concatenate_apply_piece (t := Cert.OutBwdRefIdeal.S2048x1536) 1 _ _ _ 1 ?_ S2048x512 s ?_ rfl 512 ?_ (ix2 q ⟨p.val - 512, by omega⟩) (fun b hb => ?_) ?_
    · exact (by decide : 1 < 3)
    · rfl
    · rfl
    · match b with
      | ⟨0, _⟩ => exact h0.symm
      | ⟨1, _⟩ => exact absurd rfl hb
    · show 512 + (p.val - 512) = (i 1).val; omega
  · rw [cat3_third _ _ _ _ _ hp']
    refine concatenate_apply_piece (t := Cert.OutBwdRefIdeal.S2048x1536) 1 _ _ _ 2 ?_ S2048x512 u ?_ rfl 1024 ?_ (ix2 q ⟨p.val - 1024, by omega⟩) (fun b hb => ?_) ?_
    · exact (by decide : 2 < 3)
    · rfl
    · rfl
    · match b with
      | ⟨0, _⟩ => exact h0.symm
      | ⟨1, _⟩ => exact absurd rfl hb
    · show 1024 + (p.val - 1024) = (i 1).val; omega

open Cert.OutBwdRefIdeal.Read in
/-- The reference's gradient of the weight. -/
theorem reference_W (dx : S2048x1024.Idx → EReal) (r s u : S2048x512.Idx → EReal) : val_main_v7 (F := Ideal) dx r s u = W dx r s u := by
  funext i
  rw [val_main_v7_apply, val_main_v6_apply]
  refine Finset.sum_congr rfl fun k _ => ?_
  rw [mul_comm, reference_cat r s u k (i 0) _ rfl rfl]
  refine congrArg₂ (· * ·) rfl (congrArg dx ?_)
  funext a; match a with
  | ⟨0, _⟩ => rfl
  | ⟨1, _⟩ => rfl

open Cert.OutBwdRefIdeal.Read in
/-- The reference's gradient of mixer 0. -/
theorem reference_G5 (dx : S2048x1024.Idx → EReal) (w : S1536x1024.Idx → EReal) : val_main_v9 (F := Ideal) dx w = G 0 (by decide) dx w := by
  funext i
  rw [val_main_v9_apply, val_main_v8_apply]
  refine Finset.sum_congr rfl fun k _ => ?_
  rw [val_main_v3_apply]
  refine congrArg₂ (· * ·) (congrArg dx ?_) (congrArg w ?_)
  · funext a; match a with
    | ⟨0, _⟩ => rfl
    | ⟨1, _⟩ => rfl
  · funext a; apply Fin.ext; match a with
    | ⟨0, _⟩ => show (i 1).val = 0 + (i 1).val; omega
    | ⟨1, _⟩ => rfl

open Cert.OutBwdRefIdeal.Read in
/-- The reference's gradient of mixer 1. -/
theorem reference_G6 (dx : S2048x1024.Idx → EReal) (w : S1536x1024.Idx → EReal) : val_main_v10 (F := Ideal) dx w = G 512 (by decide) dx w := by
  funext i
  rw [val_main_v10_apply, val_main_v8_apply]
  refine Finset.sum_congr rfl fun k _ => ?_
  rw [val_main_v3_apply]
  refine congrArg₂ (· * ·) (congrArg dx ?_) (congrArg w ?_)
  · funext a; match a with
    | ⟨0, _⟩ => rfl
    | ⟨1, _⟩ => rfl
  · funext a; apply Fin.ext; match a with
    | ⟨0, _⟩ => rfl
    | ⟨1, _⟩ => rfl

open Cert.OutBwdRefIdeal.Read in
/-- The reference's gradient of mixer 2. -/
theorem reference_G7 (dx : S2048x1024.Idx → EReal) (w : S1536x1024.Idx → EReal) : val_main_v11 (F := Ideal) dx w = G 1024 (by decide) dx w := by
  funext i
  rw [val_main_v11_apply, val_main_v8_apply]
  refine Finset.sum_congr rfl fun k _ => ?_
  rw [val_main_v3_apply]
  refine congrArg₂ (· * ·) (congrArg dx ?_) (congrArg w ?_)
  · funext a; match a with
    | ⟨0, _⟩ => rfl
    | ⟨1, _⟩ => rfl
  · funext a; apply Fin.ext; match a with
    | ⟨0, _⟩ => rfl
    | ⟨1, _⟩ => rfl

end Cert.OutBwdIdeal.Product

namespace Cert.Proof

open Cert.OutBwdIdeal.Product in
/-- `OutBwd` and its reference end with the same three gradients of the mixers' outputs and the same gradient of the weight. -/
theorem algebraic_OutBwd : Cert.algebraic_OutBwdIdeal_OutBwdRefIdeal := fun m g m' g' _ hagree =>
  ⟨fun c => G 0 (by decide) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg4)), fun c => G 512 (by decide) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg4)), fun c => G 1024 (by decide) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg4)),
    fun c => W (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)),
    (θ_run _ _ _).mono (fun _ h c => ⟨(h c).1.trans (final5 m c), (h c).2.1.trans (final6 m c), (h c).2.2.1.trans (final7 m c), (h c).2.2.2.1.trans (final8 m c), (h c).2.2.2.2⟩)
      (Cert.OutBwdIdeal.Value.run_blocks m g),
    (θ_run _ _ _).mono (fun _ h c => ⟨((h c).1.trans (Cert.OutBwdRefIdeal.Read.val_main_v9_eq _ _)).trans
      ((reference_G5 _ _).trans (by rw [(hagree c).1, (hagree c).2.2.2.2])),
      ((h c).2.1.trans (Cert.OutBwdRefIdeal.Read.val_main_v10_eq _ _)).trans ((reference_G6 _ _).trans (by rw [(hagree c).1, (hagree c).2.2.2.2])),
      ((h c).2.2.1.trans (Cert.OutBwdRefIdeal.Read.val_main_v11_eq _ _)).trans ((reference_G7 _ _).trans (by rw [(hagree c).1, (hagree c).2.2.2.2])),
      ((h c).2.2.2.1.trans (Cert.OutBwdRefIdeal.Read.val_main_v7_eq _ _ _ _)).trans
        ((reference_W _ _ _ _).trans (by rw [(hagree c).1, (hagree c).2.1, (hagree c).2.2.1, (hagree c).2.2.2.1])),
      (h c).2.2.2.2⟩) (Cert.OutBwdRefIdeal.Value.run m' g')⟩

end Cert.Proof

end
-- ==== Proof.WgradRgVal.lean ====
/-
  The weight-gradient call `WgradRg`: `dW = hnᵀ · dp`, one block of 512 columns per grid point, against the product that
  `jax.vjp` of `hn @ w` gives. Both are `∑ k, hnᵀ[i, k] · dp[k, j]`.
-/
module

public import proofs.«01_k».proof.Defs
public import proofs.«01_k».proof.Proof.Gen.WgradRg.Frame
public import proofs.«01_k».proof.Proof.Gen.WgradRgIdeal.Value
public import proofs.«01_k».proof.Proof.Gen.WgradRgRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WgradRgIdeal.Product

open Cert.WgradRgIdeal Cert.WgradRgIdeal.Gen

/-- The gradient of the weight: the transposed activations times the output's gradient. -/
def G (h : S1024x2048.Idx → EReal) (d : S2048x1024.Idx → EReal) : S1024x1024.Idx → EReal :=
  fun i => ∑ k : Fin 2048, h (ix2 (i 0) k) * d (ix2 k (i 1))

/-- What a grid point stores, read at an index. -/
theorem pay_apply (d : Vec Ideal S2048x512 .bf16) (h : Vec Ideal S1024x2048 .bf16) (j : S1024x512.Idx) :
    k0_pay1 d h j = ∑ k : Fin 2048, h (ix2 (j 0) k) * d (ix2 k (j 1)) := by
  unfold_payloads
  pointwise

/-- Where each window's block lies: the activations whole, the gradient's and the result's columns moving together. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

variable (m : (ℓ : Loc nD τ sig) → Buf (Elt Ideal) ℓ) (ρ : Dev nD → PrngReg)

/-- Each point writes its block of the whole gradient. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero (by funext a; fin_cases a <;> rfl), View.ld_unit_zero (S := S2048x512) (by funext a; fin_cases a <;> rfl),
    View.ld_unit_zero (S := S1024x2048) (by funext a; fin_cases a <;> rfl)]
  obtain ⟨a0, a1, b0, b1, c0, c1⟩ := idx_facts t
  funext j
  refine (pay_apply _ _ j).trans ?_
  show _ = G (V m c main_arg0) (V m c main_arg1) (((cfg0.win 2).blk t).view.emb j)
  unfold G
  refine Finset.sum_congr rfl fun k _ => ?_
  refine congrArg₂ (· * ·) (congrArg (V m c main_arg0) ?_) (congrArg (V m c main_arg1) ?_)
  · funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2048 + 1 * k.val = k.val; omega
  · funext a; apply Fin.ext
    match a with
    | ⟨0, _⟩ => show win0_1.index t (0 : Fin 2) * 2048 + 1 * k.val = k.val; omega
    | ⟨1, _⟩ => show win0_1.index t (1 : Fin 2) * 512 + 1 * (j 1).val = win0_2.index t (1 : Fin 2) * 512 + 1 * (j 1).val; omega

/-- The block that holds an index of the result. -/
theorem cover (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have hN : cfg0.N = 2 := by decide +kernel
  obtain ⟨t, ht⟩ : ∃ t : Fin cfg0.N, t.val = (i 1).val / 512 := ⟨⟨(i 1).val / 512, by rw [hN]; omega⟩, rfl⟩
  refine ⟨t, flush0_2 _, ?_⟩
  obtain ⟨-, -, -, -, c0, c1⟩ := idx_facts t
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the gradient of the arguments as launched. -/
theorem final (c : Dev nD) : (dats m 0 c).arrAt 2 cfg0.N = G (m ((c : Thread nD τ).loc main_arg0)) (m ((c : Thread nD τ).loc main_arg1)) :=
  ((dats m 0 c).arrAt_eq_of_cover 2 (G (V m c main_arg0) (V m c main_arg1)) (fun t _ => flushed_eq m c t) cover).trans
    (by rw [V_main_arg0, V_main_arg1])

/-- The reference's result is the same gradient. -/
theorem reference_eq (h : S1024x2048.Idx → EReal) (d : S2048x1024.Idx → EReal) :
    Cert.WgradRgRefIdeal.Read.val_main_v7 (F := Ideal) h d = G h d := by
  funext i
  rw [Cert.WgradRgRefIdeal.Read.val_main_v7_apply, Cert.WgradRgRefIdeal.Read.val_main_v6_apply, Cert.WgradRgRefIdeal.Read.val_main_v5_apply]
  refine Finset.sum_congr rfl fun k _ => ?_
  rw [Cert.WgradRgRefIdeal.Read.val_main_v1_apply, Cert.WgradRgRefIdeal.Read.val_main_v2_apply, Cert.WgradRgRefIdeal.Read.val_main_v0_apply, mul_comm]
  refine congrArg₂ (· * ·) (congrArg h ?_) (congrArg d ?_)
  · funext a; match a with
    | ⟨0, _⟩ => rfl
    | ⟨1, _⟩ => rfl
  · funext a; match a with
    | ⟨0, _⟩ => rfl
    | ⟨1, _⟩ => rfl

end Cert.WgradRgIdeal.Product

namespace Cert.Proof

/-- `WgradRg` and its reference end with the same weight gradient. -/
theorem algebraic_WgradRg : Cert.algebraic_WgradRgIdeal_WgradRgRefIdeal := fun m g m' g' _ hagree =>
  ⟨fun c => Cert.WgradRgIdeal.Product.G (m ((c.tc : Thread Cert.WgradRgIdeal.nD Cert.WgradRgIdeal.τ).loc Cert.WgradRgIdeal.main_arg0)) (m ((c.tc : Thread Cert.WgradRgIdeal.nD Cert.WgradRgIdeal.τ).loc Cert.WgradRgIdeal.main_arg1)),
    (θ_run _ _ _).mono (fun _ h c => ⟨(h c).1.trans (Cert.WgradRgIdeal.Product.final m c), (h c).2⟩) (Cert.WgradRgIdeal.Value.run_blocks m g),
    (θ_run _ _ _).mono (fun _ h c => ⟨((h c).1.trans (Cert.WgradRgRefIdeal.Read.val_main_v7_eq _ _)).trans
      ((Cert.WgradRgIdeal.Product.reference_eq _ _).trans (by rw [(hagree c).1, (hagree c).2])), (h c).2⟩) (Cert.WgradRgRefIdeal.Value.run m' g')⟩

end Cert.Proof

end
-- ==== Proof.WgradMlVal.lean ====
/-
  The weight-gradient call `WgradMl`: `dW = hnᵀ · dp`, one block of 512 columns per grid point, against the product that
  `jax.vjp` of `hn @ w` gives. Both are `∑ k, hnᵀ[i, k] · dp[k, j]`.
-/
module

public import proofs.«01_k».proof.Defs
public import proofs.«01_k».proof.Proof.Gen.WgradMl.Frame
public import proofs.«01_k».proof.Proof.Gen.WgradMlIdeal.Value
public import proofs.«01_k».proof.Proof.Gen.WgradMlRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WgradMlIdeal.Product

open Cert.WgradMlIdeal Cert.WgradMlIdeal.Gen

/-- The gradient of the weight: the transposed activations times the output's gradient. -/
def G (h : S1024x2048.Idx → EReal) (d : S2048x2560.Idx → EReal) : S1024x2560.Idx → EReal :=
  fun i => ∑ k : Fin 2048, h (ix2 (i 0) k) * d (ix2 k (i 1))

/-- What a grid point stores, read at an index. -/
theorem pay_apply (d : Vec Ideal S2048x512 .bf16) (h : Vec Ideal S1024x2048 .bf16) (j : S1024x512.Idx) :
    k0_pay1 d h j = ∑ k : Fin 2048, h (ix2 (j 0) k) * d (ix2 k (j 1)) := by
  unfold_payloads
  pointwise

/-- Where each window's block lies: the activations whole, the gradient's and the result's columns moving together. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

variable (m : (ℓ : Loc nD τ sig) → Buf (Elt Ideal) ℓ) (ρ : Dev nD → PrngReg)

/-- Each point writes its block of the whole gradient. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero (by funext a; fin_cases a <;> rfl), View.ld_unit_zero (S := S2048x512) (by funext a; fin_cases a <;> rfl),
    View.ld_unit_zero (S := S1024x2048) (by funext a; fin_cases a <;> rfl)]
  obtain ⟨a0, a1, b0, b1, c0, c1⟩ := idx_facts t
  funext j
  refine (pay_apply _ _ j).trans ?_
  show _ = G (V m c main_arg0) (V m c main_arg1) (((cfg0.win 2).blk t).view.emb j)
  unfold G
  refine Finset.sum_congr rfl fun k _ => ?_
  refine congrArg₂ (· * ·) (congrArg (V m c main_arg0) ?_) (congrArg (V m c main_arg1) ?_)
  · funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2048 + 1 * k.val = k.val; omega
  · funext a; apply Fin.ext
    match a with
    | ⟨0, _⟩ => show win0_1.index t (0 : Fin 2) * 2048 + 1 * k.val = k.val; omega
    | ⟨1, _⟩ => show win0_1.index t (1 : Fin 2) * 512 + 1 * (j 1).val = win0_2.index t (1 : Fin 2) * 512 + 1 * (j 1).val; omega

/-- The block that holds an index of the result. -/
theorem cover (i : S1024x2560.Idx) : ∃ t : Fin cfg0.N, (cfg0.win 2).flush t = true ∧ i ∈ ((cfg0.win 2).blk t).view.set := by
  have h0 : (i 0).val < 1024 := (i 0).isLt
  have h1 : (i 1).val < 2560 := (i 1).isLt
  have hN : cfg0.N = 5 := by decide +kernel
  obtain ⟨t, ht⟩ : ∃ t : Fin cfg0.N, t.val = (i 1).val / 512 := ⟨⟨(i 1).val / 512, by rw [hN]; omega⟩, rfl⟩
  refine ⟨t, flush0_2 _, ?_⟩
  obtain ⟨-, -, -, -, c0, c1⟩ := idx_facts t
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the gradient of the arguments as launched. -/
theorem final (c : Dev nD) : (dats m 0 c).arrAt 2 cfg0.N = G (m ((c : Thread nD τ).loc main_arg0)) (m ((c : Thread nD τ).loc main_arg1)) :=
  ((dats m 0 c).arrAt_eq_of_cover 2 (G (V m c main_arg0) (V m c main_arg1)) (fun t _ => flushed_eq m c t) cover).trans
    (by rw [V_main_arg0, V_main_arg1])

/-- The reference's result is the same gradient. -/
theorem reference_eq (h : S1024x2048.Idx → EReal) (d : S2048x2560.Idx → EReal) :
    Cert.WgradMlRefIdeal.Read.val_main_v7 (F := Ideal) h d = G h d := by
  funext i
  rw [Cert.WgradMlRefIdeal.Read.val_main_v7_apply, Cert.WgradMlRefIdeal.Read.val_main_v6_apply, Cert.WgradMlRefIdeal.Read.val_main_v5_apply]
  refine Finset.sum_congr rfl fun k _ => ?_
  rw [Cert.WgradMlRefIdeal.Read.val_main_v1_apply, Cert.WgradMlRefIdeal.Read.val_main_v2_apply, Cert.WgradMlRefIdeal.Read.val_main_v0_apply, mul_comm]
  refine congrArg₂ (· * ·) (congrArg h ?_) (congrArg d ?_)
  · funext a; match a with
    | ⟨0, _⟩ => rfl
    | ⟨1, _⟩ => rfl
  · funext a; match a with
    | ⟨0, _⟩ => rfl
    | ⟨1, _⟩ => rfl

end Cert.WgradMlIdeal.Product

namespace Cert.Proof

/-- `WgradMl` and its reference end with the same weight gradient. -/
theorem algebraic_WgradMl : Cert.algebraic_WgradMlIdeal_WgradMlRefIdeal := fun m g m' g' _ hagree =>
  ⟨fun c => Cert.WgradMlIdeal.Product.G (m ((c.tc : Thread Cert.WgradMlIdeal.nD Cert.WgradMlIdeal.τ).loc Cert.WgradMlIdeal.main_arg0)) (m ((c.tc : Thread Cert.WgradMlIdeal.nD Cert.WgradMlIdeal.τ).loc Cert.WgradMlIdeal.main_arg1)),
    (θ_run _ _ _).mono (fun _ h c => ⟨(h c).1.trans (Cert.WgradMlIdeal.Product.final m c), (h c).2⟩) (Cert.WgradMlIdeal.Value.run_blocks m g),
    (θ_run _ _ _).mono (fun _ h c => ⟨((h c).1.trans (Cert.WgradMlRefIdeal.Read.val_main_v7_eq _ _)).trans
      ((Cert.WgradMlIdeal.Product.reference_eq _ _).trans (by rw [(hagree c).1, (hagree c).2])), (h c).2⟩) (Cert.WgradMlRefIdeal.Value.run m' g')⟩

end Cert.Proof

end
-- ==== Proof.WgradGdVal.lean ====
/-
  The weight-gradient call `WgradGd`: `dW = hnᵀ · dp`, one block of 512 columns per grid point, against the product that
  `jax.vjp` of `hn @ w` gives. Both are `∑ k, hnᵀ[i, k] · dp[k, j]`.
-/
module

public import proofs.«01_k».proof.Defs
public import proofs.«01_k».proof.Proof.Gen.WgradGd.Frame
public import proofs.«01_k».proof.Proof.Gen.WgradGdIdeal.Value
public import proofs.«01_k».proof.Proof.Gen.WgradGdRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WgradGdIdeal.Product

open Cert.WgradGdIdeal Cert.WgradGdIdeal.Gen

/-- The gradient of the weight: the transposed activations times the output's gradient. -/
def G (h : S1024x2048.Idx → EReal) (d : S2048x2048.Idx → EReal) : S1024x2048.Idx → EReal :=
  fun i => ∑ k : Fin 2048, h (ix2 (i 0) k) * d (ix2 k (i 1))

/-- What a grid point stores, read at an index. -/
theorem pay_apply (d : Vec Ideal S2048x512 .bf16) (h : Vec Ideal S1024x2048 .bf16) (j : S1024x512.Idx) :
    k0_pay1 d h j = ∑ k : Fin 2048, h (ix2 (j 0) k) * d (ix2 k (j 1)) := by
  unfold_payloads
  pointwise

/-- Where each window's block lies: the activations whole, the gradient's and the result's columns moving together. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

variable (m : (ℓ : Loc nD τ sig) → Buf (Elt Ideal) ℓ) (ρ : Dev nD → PrngReg)

/-- Each point writes its block of the whole gradient. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero (by funext a; fin_cases a <;> rfl), View.ld_unit_zero (S := S2048x512) (by funext a; fin_cases a <;> rfl),
    View.ld_unit_zero (S := S1024x2048) (by funext a; fin_cases a <;> rfl)]
  obtain ⟨a0, a1, b0, b1, c0, c1⟩ := idx_facts t
  funext j
  refine (pay_apply _ _ j).trans ?_
  show _ = G (V m c main_arg0) (V m c main_arg1) (((cfg0.win 2).blk t).view.emb j)
  unfold G
  refine Finset.sum_congr rfl fun k _ => ?_
  refine congrArg₂ (· * ·) (congrArg (V m c main_arg0) ?_) (congrArg (V m c main_arg1) ?_)
  · funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2048 + 1 * k.val = k.val; omega
  · funext a; apply Fin.ext
    match a with
    | ⟨0, _⟩ => show win0_1.index t (0 : Fin 2) * 2048 + 1 * k.val = k.val; omega
    | ⟨1, _⟩ => show win0_1.index t (1 : Fin 2) * 512 + 1 * (j 1).val = win0_2.index t (1 : Fin 2) * 512 + 1 * (j 1).val; omega

/-- The block that holds an index of the result. -/
theorem cover (i : S1024x2048.Idx) : ∃ t : Fin cfg0.N, (cfg0.win 2).flush t = true ∧ i ∈ ((cfg0.win 2).blk t).view.set := by
  have h0 : (i 0).val < 1024 := (i 0).isLt
  have h1 : (i 1).val < 2048 := (i 1).isLt
  have hN : cfg0.N = 4 := by decide +kernel
  obtain ⟨t, ht⟩ : ∃ t : Fin cfg0.N, t.val = (i 1).val / 512 := ⟨⟨(i 1).val / 512, by rw [hN]; omega⟩, rfl⟩
  refine ⟨t, flush0_2 _, ?_⟩
  obtain ⟨-, -, -, -, c0, c1⟩ := idx_facts t
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The result array after the run is the gradient of the arguments as launched. -/
theorem final (c : Dev nD) : (dats m 0 c).arrAt 2 cfg0.N = G (m ((c : Thread nD τ).loc main_arg0)) (m ((c : Thread nD τ).loc main_arg1)) :=
  ((dats m 0 c).arrAt_eq_of_cover 2 (G (V m c main_arg0) (V m c main_arg1)) (fun t _ => flushed_eq m c t) cover).trans
    (by rw [V_main_arg0, V_main_arg1])

/-- The reference's result is the same gradient. -/
theorem reference_eq (h : S1024x2048.Idx → EReal) (d : S2048x2048.Idx → EReal) :
    Cert.WgradGdRefIdeal.Read.val_main_v7 (F := Ideal) h d = G h d := by
  funext i
  rw [Cert.WgradGdRefIdeal.Read.val_main_v7_apply, Cert.WgradGdRefIdeal.Read.val_main_v6_apply, Cert.WgradGdRefIdeal.Read.val_main_v5_apply]
  refine Finset.sum_congr rfl fun k _ => ?_
  rw [Cert.WgradGdRefIdeal.Read.val_main_v1_apply, Cert.WgradGdRefIdeal.Read.val_main_v2_apply, Cert.WgradGdRefIdeal.Read.val_main_v0_apply, mul_comm]
  refine congrArg₂ (· * ·) (congrArg h ?_) (congrArg d ?_)
  · funext a; match a with
    | ⟨0, _⟩ => rfl
    | ⟨1, _⟩ => rfl
  · funext a; match a with
    | ⟨0, _⟩ => rfl
    | ⟨1, _⟩ => rfl

end Cert.WgradGdIdeal.Product

namespace Cert.Proof

/-- `WgradGd` and its reference end with the same weight gradient. -/
theorem algebraic_WgradGd : Cert.algebraic_WgradGdIdeal_WgradGdRefIdeal := fun m g m' g' _ hagree =>
  ⟨fun c => Cert.WgradGdIdeal.Product.G (m ((c.tc : Thread Cert.WgradGdIdeal.nD Cert.WgradGdIdeal.τ).loc Cert.WgradGdIdeal.main_arg0)) (m ((c.tc : Thread Cert.WgradGdIdeal.nD Cert.WgradGdIdeal.τ).loc Cert.WgradGdIdeal.main_arg1)),
    (θ_run _ _ _).mono (fun _ h c => ⟨(h c).1.trans (Cert.WgradGdIdeal.Product.final m c), (h c).2⟩) (Cert.WgradGdIdeal.Value.run_blocks m g),
    (θ_run _ _ _).mono (fun _ h c => ⟨((h c).1.trans (Cert.WgradGdRefIdeal.Read.val_main_v7_eq _ _)).trans
      ((Cert.WgradGdIdeal.Product.reference_eq _ _).trans (by rw [(hagree c).1, (hagree c).2])), (h c).2⟩) (Cert.WgradGdRefIdeal.Value.run m' g')⟩

end Cert.Proof

end
-- ==== Proof.WgradSmVal.lean ====
/-
  The weight-gradient call on the small columns: `dW = hnᵀ · (dp₁ + dp₂)`, one grid point, against the product that
  `jax.vjp` of `hn @ w` gives.
-/
module

public import proofs.«01_k».proof.Defs
public import proofs.«01_k».proof.Proof.Gen.WgradSm.Frame
public import proofs.«01_k».proof.Proof.Gen.WgradSmIdeal.Value
public import proofs.«01_k».proof.Proof.Gen.WgradSmRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WgradSmIdeal.Product

open Cert.WgradSmIdeal Cert.WgradSmIdeal.Gen

/-- The gradient of the weight: the transposed activations times the sum of the two gradients of the output. -/
def G (h : S1024x2048.Idx → EReal) (d e : S2048x128.Idx → EReal) : S1024x128.Idx → EReal :=
  fun i => ∑ k : Fin 2048, h (ix2 (i 0) k) * (d (ix2 k (i 1)) + e (ix2 k (i 1)))

/-- The generated value of the call, read at an index. -/
theorem pay_eq (h : Vec Ideal S1024x2048 .bf16) (d e : Vec Ideal S2048x128 .f32) : Value.G3 h d e = G h d e := by
  funext j
  show k0_pay1 d e h j = G h d e j
  unfold_payloads
  unfold G
  pointwise

/-- The reference's result is the same gradient. -/
theorem reference_eq (h : S1024x2048.Idx → EReal) (d e : S2048x128.Idx → EReal) :
    Cert.WgradSmRefIdeal.Read.val_main_v7 (F := Ideal) h d e = G h d e := by
  funext i
  rw [Cert.WgradSmRefIdeal.Read.val_main_v7_apply, Cert.WgradSmRefIdeal.Read.val_main_v6_apply, Cert.WgradSmRefIdeal.Read.val_main_v5_apply]
  refine Finset.sum_congr rfl fun k _ => ?_
  rw [Cert.WgradSmRefIdeal.Read.val_main_v1_apply, Cert.WgradSmRefIdeal.Read.val_main_v2_apply, Cert.WgradSmRefIdeal.Read.val_main_v0_apply, mul_comm]
  have e1 : ∀ a : S2048x128.Idx, a = ix2 k (i 1) → FloatOps.addf (F := Ideal) (φ := .f32) (d a) (e a) = d (ix2 k (i 1)) + e (ix2 k (i 1)) := by
    rintro _ rfl; rfl
  refine congrArg₂ (· * ·) (congrArg h ?_) (e1 _ ?_)
  · funext a; match a with
    | ⟨0, _⟩ => rfl
    | ⟨1, _⟩ => rfl
  · funext a; match a with
    | ⟨0, _⟩ => rfl
    | ⟨1, _⟩ => rfl

end Cert.WgradSmIdeal.Product

namespace Cert.Proof

/-- `WgradSm` and its reference end with the same weight gradient. -/
theorem algebraic_WgradSm : Cert.algebraic_WgradSmIdeal_WgradSmRefIdeal := fun m g m' g' _ hagree =>
  ⟨fun c => Cert.WgradSmIdeal.Product.G (m ((c.tc : Thread Cert.WgradSmIdeal.nD Cert.WgradSmIdeal.τ).loc Cert.WgradSmIdeal.main_arg0))
      (m ((c.tc : Thread Cert.WgradSmIdeal.nD Cert.WgradSmIdeal.τ).loc Cert.WgradSmIdeal.main_arg1))
      (m ((c.tc : Thread Cert.WgradSmIdeal.nD Cert.WgradSmIdeal.τ).loc Cert.WgradSmIdeal.main_arg2)),
    (θ_run _ _ _).mono (fun _ h c => ⟨(h c).1.trans (Cert.WgradSmIdeal.Product.pay_eq _ _ _), (h c).2⟩) (Cert.WgradSmIdeal.Value.run m g),
    (θ_run _ _ _).mono (fun _ h c => ⟨((h c).1.trans (Cert.WgradSmRefIdeal.Read.val_main_v7_eq _ _ _)).trans
      ((Cert.WgradSmIdeal.Product.reference_eq _ _ _).trans (by rw [(hagree c).1, (hagree c).2.1, (hagree c).2.2])), (h c).2⟩) (Cert.WgradSmRefIdeal.Value.run m' g')⟩

end Cert.Proof

end
-- ==== Proof.InFwdVal.lean ====
/-
  The input projection: the normed rows times the weight, and the normed rows transposed, 256 rows per grid point, against
  the same two arrays of the plain reference.
-/
module

public import proofs.«01_k».proof.Defs
public import proofs.«01_k».proof.Proof.Gen.InFwd.Frame
public import proofs.«01_k».proof.Proof.Gen.InFwdIdeal.Value
public import proofs.«01_k».proof.Proof.Gen.InFwdRefIdeal.Read
public import proofs.«01_k».proof.Proof.NormRow
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InFwdIdeal.Product

open Cert.InFwdIdeal Cert.InFwdIdeal.Gen Cert.NormRow

/-- The normed row entry: the entry times the row's normaliser times the norm's weight. -/
def hn (x : S2048x1024.Idx → EReal) (nw : S1x1024.Idx → EReal) (r : Fin 2048) (k : Fin 1024) : EReal :=
  x (ix2 r k) * rs (fun q => x (ix2 r q)) * nw (ix2 0 k)

/-- The first result: the normed rows times the weight. -/
def G (x : S2048x1024.Idx → EReal) (nw : S1x1024.Idx → EReal) (w : S1024x5760.Idx → EReal) : S2048x5760.Idx → EReal :=
  fun i => ∑ k : Fin 1024, hn x nw (i 0) k * w (ix2 k (i 1))

/-- The second result: the normed rows, transposed. -/
def H (x : S2048x1024.Idx → EReal) (nw : S1x1024.Idx → EReal) : S1024x2048.Idx → EReal := fun i => hn x nw (i 1) (i 0)

/-- The normed rows of one block, read at an index. -/
theorem pay1_apply (x : Vec Ideal S256x1024 .f32) (nw : Vec Ideal S1x1024 .f32) (j : S256x1024.Idx) :
    k0_pay1 x nw j = x j * rs (fun q => x (ix2 (j 0) q)) * nw (ix2 0 (j 1)) := by
  unfold_payloads
  unfold rs msq
  pointwise

/-- The product of one block, read at an index. -/
theorem pay2_apply (x : Vec Ideal S256x1024 .f32) (nw : Vec Ideal S1x1024 .f32) (w : Vec Ideal S1024x5760 .bf16) (j : S256x5760.Idx) :
    k0_pay2 x nw w j = ∑ k : Fin 1024, x (ix2 (j 0) k) * rs (fun q => x (ix2 (j 0) q)) * nw (ix2 0 k) * w (ix2 k (j 1)) := by
  have h : k0_pay2 x nw w j = ∑ k : Fin 1024, k0_pay1 x nw (ix2 (j 0) k) * w (ix2 k (j 1)) := by
    unfold k0_pay2
    generalize k0_pay1 x nw = y
    pointwise
  rw [h]
  exact Finset.sum_congr rfl fun k _ => by rw [pay1_apply]; rfl

/-- The transposed rows of one block, read at an index. -/
theorem pay3_apply (x : Vec Ideal S256x1024 .f32) (nw : Vec Ideal S1x1024 .f32) (j : S1024x256.Idx) :
    k0_pay3 x nw j = x (ix2 (j 1) (j 0)) * rs (fun q => x (ix2 (j 1) q)) * nw (ix2 0 (j 0)) := by
  have h : k0_pay3 x nw j = k0_pay1 x nw (ix2 (j 1) (j 0)) := by
    unfold k0_pay3
    generalize k0_pay1 x nw = y
    pointwise
  rw [h, pay1_apply]; rfl

/-- Where each window's block lies. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = t.val) :=
  (by decide +kernel : ∀ t : Fin grid0.N, _)

variable (m : (ℓ : Loc nD τ sig) → Buf (Elt Ideal) ℓ) (ρ : Dev nD → PrngReg)

/-- The row of the whole activations that row `j` of point `t`'s block is. -/
def row (t : Fin cfg0.N) (j : Fin 256) : Fin 2048 := ⟨t.val * 256 + j.val, by
  have h : t.val < 8 := lt_of_lt_of_eq t.isLt (by decide +kernel)
  omega⟩

/-- The activations' block, read at an index. -/
theorem blk0 (c : Dev nD) (t : Fin cfg0.N) (p : Fin 256) (q : Fin 1024) :
    ((cfg0.win 0).blk t).view.read (Elt Ideal) (V m c main_arg0) (ix2 p q) = V m c main_arg0 (ix2 (row t p) q) := by
  obtain ⟨⟨a0, a1⟩, -⟩ := idx_facts t
  refine congrArg (V m c main_arg0) ?_
  funext a; apply Fin.ext
  match a with
  | ⟨0, _⟩ => show win0_0.index t (0 : Fin 2) * 256 + 1 * p.val = t.val * 256 + p.val; omega
  | ⟨1, _⟩ => show win0_0.index t (1 : Fin 2) * 1024 + 1 * q.val = q.val; omega

/-- The norm's weight, staged whole. -/
theorem blk1 (c : Dev nD) (t : Fin cfg0.N) (q : Fin 1024) :
    ((cfg0.win 1).blk t).view.read (Elt Ideal) (V m c main_arg1) (ix2 0 q) = V m c main_arg1 (ix2 0 q) := by
  obtain ⟨-, ⟨a0, a1⟩, -⟩ := idx_facts t
  refine congrArg (V m c main_arg1) ?_
  funext a; apply Fin.ext
  match a with
  | ⟨0, _⟩ => show win0_1.index t (0 : Fin 2) * 1 + 1 * 0 = 0; omega
  | ⟨1, _⟩ => show win0_1.index t (1 : Fin 2) * 1024 + 1 * q.val = q.val; omega

/-- The projection's weight, staged whole. -/
theorem blk2 (c : Dev nD) (t : Fin cfg0.N) (p : Fin 1024) (q : Fin 5760) :
    ((cfg0.win 2).blk t).view.read (Elt Ideal) (V m c main_arg2) (ix2 p q) = V m c main_arg2 (ix2 p q) := by
  obtain ⟨-, -, ⟨a0, a1⟩, -⟩ := idx_facts t
  refine congrArg (V m c main_arg2) ?_
  funext a; apply Fin.ext
  match a with
  | ⟨0, _⟩ => show win0_2.index t (0 : Fin 2) * 1024 + 1 * p.val = p.val; omega
  | ⟨1, _⟩ => show win0_2.index t (1 : Fin 2) * 5760 + 1 * q.val = q.val; omega

/-- Each point writes its rows of the product. -/
theorem flushed3_eq (c : Dev nD) (t : Fin cfg0.N) :
    (dats m 0 c).flushed 3 t = ((cfg0.win 3).blk t).view.read (Elt Ideal) (G (V m c main_arg0) (V m c main_arg1) (V m c main_arg2)) := by
  rw [Value.flushed3]
  unfold out0_3
  have hz : (![0, 0] : Fin 2 → Nat) = fun _ => 0 := by funext a; fin_cases a <;> rfl
  rw [View.canon_unit_zero hz, View.ld_unit_zero (S := S256x1024) hz, View.ld_unit_zero (S := S1x1024) hz, View.ld_unit_zero (S := S1024x5760) hz]
  obtain ⟨-, -, -, ⟨f0, f1⟩, -⟩ := idx_facts t
  funext j
  refine (pay2_apply _ _ _ j).trans ?_
  show _ = G (V m c main_arg0) (V m c main_arg1) (V m c main_arg2) (((cfg0.win 3).blk t).view.emb j)
  have hj : ((cfg0.win 3).blk t).view.emb j = ix2 (row t (j 0)) (j 1) := by
    funext a; apply Fin.ext
    match a with
    | ⟨0, _⟩ => show win0_3.index t (0 : Fin 2) * 256 + 1 * (j 0).val = t.val * 256 + (j 0).val; omega
    | ⟨1, _⟩ => show win0_3.index t (1 : Fin 2) * 5760 + 1 * (j 1).val = (j 1).val; omega
  rw [hj]
  unfold G hn
  refine Finset.sum_congr rfl fun k _ => ?_
  refine congrArg₂ (· * ·) (congrArg₂ (· * ·) (congrArg₂ (· * ·) (blk0 m c t _ _) (congrArg rs (funext fun q => blk0 m c t _ q))) (blk1 m c t k)) (blk2 m c t k (j 1))

/-- Each point writes its columns of the transposed rows. -/
theorem flushed4_eq (c : Dev nD) (t : Fin cfg0.N) :
    (dats m 0 c).flushed 4 t = ((cfg0.win 4).blk t).view.read (Elt Ideal) (H (V m c main_arg0) (V m c main_arg1)) := by
  rw [Value.flushed4]
  unfold out0_4
  have hz : (![0, 0] : Fin 2 → Nat) = fun _ => 0 := by funext a; fin_cases a <;> rfl
  rw [View.canon_unit_zero hz, View.ld_unit_zero (S := S256x1024) hz, View.ld_unit_zero (S := S1x1024) hz]
  obtain ⟨-, -, -, -, ⟨f0, f1⟩⟩ := idx_facts t
  funext j
  refine (pay3_apply _ _ j).trans ?_
  show _ = H (V m c main_arg0) (V m c main_arg1) (((cfg0.win 4).blk t).view.emb j)
  have hj : ((cfg0.win 4).blk t).view.emb j = ix2 (j 0) (row t (j 1)) := by
    funext a; apply Fin.ext
    match a with
    | ⟨0, _⟩ => show win0_4.index t (0 : Fin 2) * 1024 + 1 * (j 0).val = (j 0).val; omega
    | ⟨1, _⟩ => show win0_4.index t (1 : Fin 2) * 256 + 1 * (j 1).val = t.val * 256 + (j 1).val; omega
  rw [hj]
  unfold H hn
  exact congrArg₂ (· * ·) (congrArg₂ (· * ·) (blk0 m c t _ _) (congrArg rs (funext fun q => blk0 m c t _ q))) (blk1 m c t (j 0))

/-- The block that holds an index of the product. -/
theorem cover3 (i : S2048x5760.Idx) : ∃ t : Fin cfg0.N, (cfg0.win 3).flush t = true ∧ i ∈ ((cfg0.win 3).blk t).view.set := by
  have h0 : (i 0).val < 2048 := (i 0).isLt
  have h1 : (i 1).val < 5760 := (i 1).isLt
  have hN : cfg0.N = 8 := by decide +kernel
  obtain ⟨t, ht⟩ : ∃ t : Fin cfg0.N, t.val = (i 0).val / 256 := ⟨⟨(i 0).val / 256, by rw [hN]; omega⟩, rfl⟩
  refine ⟨t, flush0_3 _, ?_⟩
  obtain ⟨-, -, -, ⟨f0, f1⟩, -⟩ := idx_facts t
  show i ∈ ((View.whole main_v0_0).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 5760 ≤ (i 1).val ∧ (i 1).val < win0_3.index t (1 : Fin 2) * 5760 + 5760
    omega

/-- The block that holds an index of the transposed rows. -/
theorem cover4 (i : S1024x2048.Idx) : ∃ t : Fin cfg0.N, (cfg0.win 4).flush t = true ∧ i ∈ ((cfg0.win 4).blk t).view.set := by
  have h0 : (i 0).val < 1024 := (i 0).isLt
  have h1 : (i 1).val < 2048 := (i 1).isLt
  have hN : cfg0.N = 8 := by decide +kernel
  obtain ⟨t, ht⟩ : ∃ t : Fin cfg0.N, t.val = (i 1).val / 256 := ⟨⟨(i 1).val / 256, by rw [hN]; omega⟩, rfl⟩
  refine ⟨t, flush0_4 _, ?_⟩
  obtain ⟨-, -, -, -, ⟨f0, f1⟩⟩ := idx_facts t
  show i ∈ ((View.whole main_v0_1).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- The product's array after the run. -/
theorem final3 (c : Dev nD) : (dats m 0 c).arrAt 3 cfg0.N = G (m ((c : Thread nD τ).loc main_arg0)) (m ((c : Thread nD τ).loc main_arg1))
    (m ((c : Thread nD τ).loc main_arg2)) :=
  ((dats m 0 c).arrAt_eq_of_cover 3 _ (fun t _ => flushed3_eq m c t) cover3).trans (by rw [V_main_arg0, V_main_arg1, V_main_arg2])

/-- The transposed rows' array after the run. -/
theorem final4 (c : Dev nD) : (dats m 0 c).arrAt 4 cfg0.N = H (m ((c : Thread nD τ).loc main_arg0)) (m ((c : Thread nD τ).loc main_arg1)) :=
  ((dats m 0 c).arrAt_eq_of_cover 4 _ (fun t _ => flushed4_eq m c t) cover4).trans (by rw [V_main_arg0, V_main_arg1])

open Cert.InFwdRefIdeal.Read in
/-- The reference's normed rows. -/
theorem reference_hn (x : S2048x1024.Idx → EReal) (nw : S1x1024.Idx → EReal) (i : S2048x1024.Idx) :
    val_main_v13 (F := Ideal) x nw i = hn x nw (i 0) (i 1) := by
  rw [val_main_v13_apply, val_main_v9_apply, val_main_v8_apply, val_main_v7_apply, val_main_v6_apply, val_main_v5_apply,
    val_main_v4_apply, val_main_v3_apply, val_main_v2_apply, val_main_v1_apply, val_main_v12_apply, val_main_v11_apply, val_main_v10_apply,
    val_main_cst_apply]
  have hz : FloatOps.ofBits (F := Ideal) .f32 0x00000000#32 = (0 : EReal) := Ideal.ofBits_zero_f32
  rw [hz, zero_add]
  unfold hn rs msq
  refine congrArg₂ (· * ·) (congrArg₂ (· * ·) (congrArg x ?_) ?_) (congrArg nw ?_)
  · exact (ix2_eta i).symm
  · refine congrArg (fun s => Ideal.rsqrt (Ideal.div s (Ideal.ofBits FTy.f32 0x44800000#32) + Ideal.ofBits FTy.f32 0x358637BD#32)) ?_
    refine Finset.sum_congr rfl fun k _ => ?_
    rw [val_main_v0_apply]
    have e : ∀ a : S2048x1024.Idx, a = ix2 (i 0) k → FloatOps.mulf (F := Ideal) (φ := .f32) (x a) (x a) = x (ix2 (i 0) k) * x (ix2 (i 0) k) := by
      rintro _ rfl; rfl
    refine e _ ?_
    funext a; match a with
    | ⟨0, _⟩ => rfl
    | ⟨1, _⟩ => rfl
  · funext a; apply Fin.ext; match a with
    | ⟨0, _⟩ => rfl
    | ⟨1, _⟩ => exact Nat.mod_eq_of_lt (i 1).isLt

open Cert.InFwdRefIdeal.Read in
/-- The reference's first result. -/
theorem reference_eq3 (x : S2048x1024.Idx → EReal) (nw : S1x1024.Idx → EReal) (w : S1024x5760.Idx → EReal) :
    val_main_v15 (F := Ideal) x nw w = G x nw w := by
  funext i
  rw [val_main_v15_apply]
  refine Finset.sum_congr rfl fun k _ => ?_
  rw [reference_hn, val_main_v14_apply]
  refine congrArg₂ (· * ·) rfl (congrArg w ?_)
  funext a; match a with
  | ⟨0, _⟩ => rfl
  | ⟨1, _⟩ => rfl

open Cert.InFwdRefIdeal.Read in
/-- The reference's second result. -/
theorem reference_eq4 (x : S2048x1024.Idx → EReal) (nw : S1x1024.Idx → EReal) :
    val_main_v17 (F := Ideal) x nw = H x nw := by
  funext i
  rw [val_main_v17_apply, val_main_v16_apply, reference_hn]
  rfl

end Cert.InFwdIdeal.Product

namespace Cert.Proof

/-- `InFwd` and its reference end with the same projection and the same transposed normed rows. -/
theorem algebraic_InFwd : Cert.algebraic_InFwdIdeal_InFwdRefIdeal := fun m g m' g' _ hagree =>
  ⟨fun c => Cert.InFwdIdeal.Product.G (m ((c.tc : Thread Cert.InFwdIdeal.nD Cert.InFwdIdeal.τ).loc Cert.InFwdIdeal.main_arg0))
      (m ((c.tc : Thread Cert.InFwdIdeal.nD Cert.InFwdIdeal.τ).loc Cert.InFwdIdeal.main_arg1))
      (m ((c.tc : Thread Cert.InFwdIdeal.nD Cert.InFwdIdeal.τ).loc Cert.InFwdIdeal.main_arg2)),
    fun c => Cert.InFwdIdeal.Product.H (m ((c.tc : Thread Cert.InFwdIdeal.nD Cert.InFwdIdeal.τ).loc Cert.InFwdIdeal.main_arg0))
      (m ((c.tc : Thread Cert.InFwdIdeal.nD Cert.InFwdIdeal.τ).loc Cert.InFwdIdeal.main_arg1)),
    (θ_run _ _ _).mono (fun _ h c => ⟨(h c).1.trans (Cert.InFwdIdeal.Product.final3 m c), (h c).2.1.trans (Cert.InFwdIdeal.Product.final4 m c), (h c).2.2⟩)
      (Cert.InFwdIdeal.Value.run_blocks m g),
    (θ_run _ _ _).mono (fun _ h c => ⟨((h c).1.trans (Cert.InFwdRefIdeal.Read.val_main_v15_eq _ _ _)).trans
      ((Cert.InFwdIdeal.Product.reference_eq3 _ _ _).trans (by rw [(hagree c).1, (hagree c).2.1, (hagree c).2.2])),
      ((h c).2.1.trans (Cert.InFwdRefIdeal.Read.val_main_v17_eq _ _)).trans
      ((Cert.InFwdIdeal.Product.reference_eq4 _ _).trans (by rw [(hagree c).1, (hagree c).2.1])), (h c).2.2⟩) (Cert.InFwdRefIdeal.Value.run m' g')⟩

end Cert.Proof

end
-- ==== Proof.OutFwdVal.lean ====
/-
  The output projection: the residual stream plus three products with the weight's three row blocks, 256 rows per grid
  point, against one product of the joined mixers' outputs.
-/
module

public import proofs.«01_k».proof.Defs
public import proofs.«01_k».proof.Proof.Gen.OutFwd.Frame
public import proofs.«01_k».proof.Proof.Gen.OutFwdIdeal.Value
public import proofs.«01_k».proof.Proof.Gen.OutFwdRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutFwdIdeal.Product

open Cert.OutFwdIdeal Cert.OutFwdIdeal.Gen

/-- The residual stream plus the three products, one per block of the weight's rows. -/
def G (x : S2048x1024.Idx → EReal) (r s u : S2048x512.Idx → EReal) (w : S1536x1024.Idx → EReal) : S2048x1024.Idx → EReal :=
  fun i => x i + (∑ k : Fin 512, r (ix2 (i 0) k) * w (ix2 ⟨k.val, by omega⟩ (i 1)))
    + (∑ k : Fin 512, s (ix2 (i 0) k) * w (ix2 ⟨512 + k.val, by omega⟩ (i 1)))
    + ∑ k : Fin 512, u (ix2 (i 0) k) * w (ix2 ⟨1024 + k.val, by omega⟩ (i 1))

/-- What a grid point stores, read at an index. -/
theorem pay_apply (x : Vec Ideal S256x1024 .f32) (r s u : Vec Ideal S256x512 .bf16) (a b d : Vec Ideal S512x1024 .bf16) (j : S256x1024.Idx) :
    k0_pay1 x r a s b u d j = x j + (∑ k : Fin 512, r (ix2 (j 0) k) * a (ix2 k (j 1)))
      + (∑ k : Fin 512, s (ix2 (j 0) k) * b (ix2 k (j 1))) + ∑ k : Fin 512, u (ix2 (j 0) k) * d (ix2 k (j 1)) := by
  unfold_payloads
  pointwise

/-- Where each window's block lies: the weight whole, the rows of the rest moving together. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

variable (m : (ℓ : Loc nD τ sig) → Buf (Elt Ideal) ℓ) (ρ : Dev nD → PrngReg)

/-- Each point writes its block of the whole result. -/
theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [Value.flushed5]
  unfold out0_5
  have hz : (![0, 0] : Fin 2 → Nat) = fun _ => 0 := by funext a; fin_cases a <;> rfl
  rw [View.canon_unit_zero hz, View.ld_unit_zero (S := S256x1024) hz, View.ld_unit_zero (S := S256x512) hz,
    View.ld_unit_zero (S := S256x512) hz, View.ld_unit_zero (S := S256x512) hz]
  obtain ⟨⟨a0, a1⟩, ⟨b0, b1⟩, ⟨c0, c1⟩, ⟨d0, d1⟩, ⟨e0, e1⟩, ⟨f0, f1⟩⟩ := idx_facts t
  funext j
  refine (pay_apply _ _ _ _ _ _ _ j).trans ?_
  show _ = G (V m c main_arg0) (V m c main_arg1) (V m c main_arg2) (V m c main_arg3) (V m c main_arg4) (((cfg0.win 5).blk t).view.emb j)
  unfold G
  refine congrArg₂ (· + ·) (congrArg₂ (· + ·) (congrArg₂ (· + ·) (congrArg (V m c main_arg0) ?_) ?_) ?_) ?_
  · funext a; apply Fin.ext
    match a with
    | ⟨0, _⟩ => show win0_0.index t (0 : Fin 2) * 256 + 1 * (j 0).val = win0_5.index t (0 : Fin 2) * 256 + 1 * (j 0).val; omega
    | ⟨1, _⟩ => show win0_0.index t (1 : Fin 2) * 1024 + 1 * (j 1).val = win0_5.index t (1 : Fin 2) * 1024 + 1 * (j 1).val; omega
  · refine Finset.sum_congr rfl fun k _ => congrArg₂ (· * ·) (congrArg (V m c main_arg1) ?_) (congrArg (V m c main_arg4) ?_)
    · funext a; apply Fin.ext
      match a with
      | ⟨0, _⟩ => show win0_1.index t (0 : Fin 2) * 256 + 1 * (j 0).val = win0_5.index t (0 : Fin 2) * 256 + 1 * (j 0).val; omega
      | ⟨1, _⟩ => show win0_1.index t (1 : Fin 2) * 512 + 1 * k.val = k.val; omega
    · funext a; apply Fin.ext
      match a with
      | ⟨0, _⟩ => show win0_4.index t (0 : Fin 2) * 1536 + 1 * (0 + 1 * k.val) = k.val; omega
      | ⟨1, _⟩ => show win0_4.index t (1 : Fin 2) * 1024 + 1 * (0 + 1 * (j 1).val) = win0_5.index t (1 : Fin 2) * 1024 + 1 * (j 1).val; omega
  · refine Finset.sum_congr rfl fun k _ => congrArg₂ (· * ·) (congrArg (V m c main_arg2) ?_) (congrArg (V m c main_arg4) ?_)
    · funext a; apply Fin.ext
      match a with
      | ⟨0, _⟩ => show win0_2.index t (0 : Fin 2) * 256 + 1 * (j 0).val = win0_5.index t (0 : Fin 2) * 256 + 1 * (j 0).val; omega
      | ⟨1, _⟩ => show win0_2.index t (1 : Fin 2) * 512 + 1 * k.val = k.val; omega
    · funext a; apply Fin.ext
      match a with
      | ⟨0, _⟩ => show win0_4.index t (0 : Fin 2) * 1536 + 1 * (512 + 1 * k.val) = 512 + k.val; omega
      | ⟨1, _⟩ => show win0_4.index t (1 : Fin 2) * 1024 + 1 * (0 + 1 * (j 1).val) = win0_5.index t (1 : Fin 2) * 1024 + 1 * (j 1).val; omega
  · refine Finset.sum_congr rfl fun k _ => congrArg₂ (· * ·) (congrArg (V m c main_arg3) ?_) (congrArg (V m c main_arg4) ?_)
    · funext a; apply Fin.ext
      match a with
      | ⟨0, _⟩ => show win0_3.index t (0 : Fin 2) * 256 + 1 * (j 0).val = win0_5.index t (0 : Fin 2) * 256 + 1 * (j 0).val; omega
      | ⟨1, _⟩ => show win0_3.index t (1 : Fin 2) * 512 + 1 * k.val = k.val; omega
    · funext a; apply Fin.ext
      match a with
      | ⟨0, _⟩ => show win0_4.index t (0 : Fin 2) * 1536 + 1 * (1024 + 1 * k.val) = 1024 + k.val; omega
      | ⟨1, _⟩ => show win0_4.index t (1 : Fin 2) * 1024 + 1 * (0 + 1 * (j 1).val) = win0_5.index t (1 : Fin 2) * 1024 + 1 * (j 1).val; omega

/-- The block that holds an index of the result. -/
theorem cover (i : S2048x1024.Idx) : ∃ t : Fin cfg0.N, (cfg0.win 5).flush t = true ∧ i ∈ ((cfg0.win 5).blk t).view.set := by
  have h0 : (i 0).val < 2048 := (i 0).isLt
  have h1 : (i 1).val < 1024 := (i 1).isLt
  have hN : cfg0.N = 8 := by decide +kernel
  obtain ⟨t, ht⟩ : ∃ t : Fin cfg0.N, t.val = (i 0).val / 256 := ⟨⟨(i 0).val / 256, by rw [hN]; omega⟩, rfl⟩
  refine ⟨t, flush0_5 _, ?_⟩
  obtain ⟨-, -, -, -, -, ⟨f0, f1⟩⟩ := idx_facts t
  show i ∈ ((View.whole main_v0).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 1024 ≤ (i 1).val ∧ (i 1).val < win0_5.index t (1 : Fin 2) * 1024 + 1024
    omega

/-- The result array after the run. -/
theorem final (c : Dev nD) : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) :=
  ((dats m 0 c).arrAt_eq_of_cover 5 _ (fun t _ => flushed_eq m c t) cover).trans
    (by rw [V_main_arg0, V_main_arg1, V_main_arg2, V_main_arg3, V_main_arg4])

open Cert.OutFwdRefIdeal.Read in
/-- The reference's one product over the joined outputs is the three products. -/
theorem reference_eq (x : S2048x1024.Idx → EReal) (r s u : S2048x512.Idx → EReal) (w : S1536x1024.Idx → EReal) :
    val_main_v6 (F := Ideal) x r s u w = G x r s u w := by
  funext i
  rw [val_main_v6_apply, val_main_v5_apply]
  show x i + _ = G x r s u w i
  unfold G
  rw [add_assoc, add_assoc]
  refine congrArg (x i + ·) ?_
  have hs : ∀ f : Fin 1536 → EReal, ∑ k, f k = (∑ k : Fin 512, f ⟨k.val, by omega⟩) + ((∑ k : Fin 512, f ⟨512 + k.val, by omega⟩)
      + ∑ k : Fin 512, f ⟨1024 + k.val, by omega⟩) := by
    intro f
    rw [← add_assoc]
    rw [show (∑ k, f k) = ∑ k : Fin (1024 + 512), f ⟨k.val, k.isLt⟩ from rfl, Fin.sum_univ_add]
    refine congrArg₂ (· + ·) ?_ rfl
    exact (Fin.sum_univ_add (a := 512) (b := 512) fun k : Fin (512 + 512) => f ⟨k.val, by omega⟩)
  rw [hs]
  refine congrArg₂ (· + ·) ?_ (congrArg₂ (· + ·) ?_ ?_)
  · refine Finset.sum_congr rfl fun k _ => ?_
    rw [val_main_v4_apply]
    refine congrArg₂ (· * ·) ?_ (congrArg w ?_)
    · unfold val_main_v3
      refine concatenate_apply_piece (t := Cert.OutFwdRefIdeal.S2048x1536) 1 _ _ _ 0 ?_ S2048x512 r ?_ rfl 0 ?_ (ix2 (i 0) k) (fun b hb => ?_) ?_
      · exact (by decide : 0 < 3)
      · rfl
      · rfl
      · match b with
        | ⟨0, _⟩ => rfl
        | ⟨1, _⟩ => exact absurd rfl hb
      · exact (Nat.zero_add _)
    · funext a; match a with
      | ⟨0, _⟩ => rfl
      | ⟨1, _⟩ => rfl
  · refine Finset.sum_congr rfl fun k _ => ?_
    rw [val_main_v4_apply]
    refine congrArg₂ (· * ·) ?_ (congrArg w ?_)
    · unfold val_main_v3
      refine concatenate_apply_piece (t := Cert.OutFwdRefIdeal.S2048x1536) 1 _ _ _ 1 ?_ S2048x512 s ?_ rfl 512 ?_ (ix2 (i 0) k) (fun b hb => ?_) ?_
      · exact (by decide : 1 < 3)
      · rfl
      · rfl
      · match b with
        | ⟨0, _⟩ => rfl
        | ⟨1, _⟩ => exact absurd rfl hb
      · exact rfl
    · funext a; match a with
      | ⟨0, _⟩ => rfl
      | ⟨1, _⟩ => rfl
  · refine Finset.sum_congr rfl fun k _ => ?_
    rw [val_main_v4_apply]
    refine congrArg₂ (· * ·) ?_ (congrArg w ?_)
    · unfold val_main_v3
      refine concatenate_apply_piece (t := Cert.OutFwdRefIdeal.S2048x1536) 1 _ _ _ 2 ?_ S2048x512 u ?_ rfl 1024 ?_ (ix2 (i 0) k) (fun b hb => ?_) ?_
      · exact (by decide : 2 < 3)
      · rfl
      · rfl
      · match b with
        | ⟨0, _⟩ => rfl
        | ⟨1, _⟩ => exact absurd rfl hb
      · exact rfl
    · funext a; match a with
      | ⟨0, _⟩ => rfl
      | ⟨1, _⟩ => rfl

end Cert.OutFwdIdeal.Product

namespace Cert.Proof

/-- `OutFwd` and its reference end with the same residual stream. -/
theorem algebraic_OutFwd : Cert.algebraic_OutFwdIdeal_OutFwdRefIdeal := fun m g m' g' _ hagree =>
  ⟨fun c => Cert.OutFwdIdeal.Product.G (m ((c.tc : Thread Cert.OutFwdIdeal.nD Cert.OutFwdIdeal.τ).loc Cert.OutFwdIdeal.main_arg0))
      (m ((c.tc : Thread Cert.OutFwdIdeal.nD Cert.OutFwdIdeal.τ).loc Cert.OutFwdIdeal.main_arg1))
      (m ((c.tc : Thread Cert.OutFwdIdeal.nD Cert.OutFwdIdeal.τ).loc Cert.OutFwdIdeal.main_arg2))
      (m ((c.tc : Thread Cert.OutFwdIdeal.nD Cert.OutFwdIdeal.τ).loc Cert.OutFwdIdeal.main_arg3))
      (m ((c.tc : Thread Cert.OutFwdIdeal.nD Cert.OutFwdIdeal.τ).loc Cert.OutFwdIdeal.main_arg4)),
    (θ_run _ _ _).mono (fun _ h c => ⟨(h c).1.trans (Cert.OutFwdIdeal.Product.final m c), (h c).2⟩) (Cert.OutFwdIdeal.Value.run_blocks m g),
    (θ_run _ _ _).mono (fun _ h c => ⟨((h c).1.trans (Cert.OutFwdRefIdeal.Read.val_main_v6_eq _ _ _ _ _)).trans
      ((Cert.OutFwdIdeal.Product.reference_eq _ _ _ _ _).trans (by rw [(hagree c).1, (hagree c).2.1, (hagree c).2.2.1, (hagree c).2.2.2.1, (hagree c).2.2.2.2])),
      (h c).2⟩) (Cert.OutFwdRefIdeal.Value.run m' g')⟩

end Cert.Proof

end
-- ==== Proof.HeadVal.lean ====
/-
  The loss head: the final norm, the squared error and its gradients, 256 rows per grid point, with the loss and the norm's
  weight's gradient accumulated over the grid, against `jax.value_and_grad` of the plain loss.
-/
module

public import proofs.«01_k».proof.Defs
public import proofs.«01_k».proof.Proof.Gen.Head.Frame
public import proofs.«01_k».proof.Proof.Gen.HeadIdeal.Value
public import proofs.«01_k».proof.Proof.Gen.HeadRefIdeal.Read
public import proofs.«01_k».proof.Proof.Sums
public import proofs.«01_k».proof.Proof.NormRow
public import Idealize.ShloMosaic.Lib.WritesUnit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HeadIdeal.Product

open Cert.HeadIdeal Cert.HeadIdeal.Gen Cert.Sums Cert.NormRow

theorem hz : (![0, 0] : Fin 2 → Nat) = fun _ => 0 := funext fun a => by fin_cases a <;> rfl

/-- The error of one row: the normed row times the weight, less the target. -/
def err (f w t : Fin 1024 → EReal) (k : Fin 1024) : EReal := f k * rs f * w k - t k

/-- The gradient of the loss with respect to one row's prediction. -/
def dy (f w t : Fin 1024 → EReal) (k : Fin 1024) : EReal := err f w t k * Ideal.ofBits FTy.f32 0x3A800000#32

/-- One entry of the gradient of the loss with respect to the row `f`. -/
def dxRow (f w t : Fin 1024 → EReal) (j : Fin 1024) : EReal :=
  rs f * (dy f w t j * w j - f j * rs f * Ideal.div (∑ k, dy f w t k * w k * (f k * rs f)) (Ideal.ofBits FTy.f32 0x44800000#32))

/-- What one row adds to the gradient of the norm's weight. -/
def dwRow (f w t : Fin 1024 → EReal) (j : Fin 1024) : EReal := dy f w t j * (f j * rs f)

/-- The mean squared error of one row. -/
def lossRow (f w t : Fin 1024 → EReal) : EReal := Ideal.div (∑ k, err f w t k * err f w t k) (Ideal.ofBits FTy.f32 0x44800000#32)

/-- The gradient of the loss with respect to the head's input. -/
def DX (x : S2048x1024.Idx → EReal) (fw : S1x1024.Idx → EReal) (t : S2048x1024.Idx → EReal) : S2048x1024.Idx → EReal := fun i =>
  dxRow (fun k => x (ix2 (i 0) k)) (fun k => fw (ix2 0 k)) (fun k => t (ix2 (i 0) k)) (i 1)

/-- The loss, in every entry. -/
def LO (x : S2048x1024.Idx → EReal) (fw : S1x1024.Idx → EReal) (t : S2048x1024.Idx → EReal) : S8x128.Idx → EReal := fun _ =>
  Ideal.ofBits FTy.f32 0x3F000000#32 * ∑ q : Fin 2048, lossRow (fun k => x (ix2 q k)) (fun k => fw (ix2 0 k)) (fun k => t (ix2 q k))

/-- The gradient of the norm's weight, in the first of eight rows. -/
def DW (x : S2048x1024.Idx → EReal) (fw : S1x1024.Idx → EReal) (t : S2048x1024.Idx → EReal) : S8x1024.Idx → EReal := fun i =>
  if (i 0).val = 0 then ∑ q : Fin 2048, dwRow (fun k => x (ix2 q k)) (fun k => fw (ix2 0 k)) (fun k => t (ix2 q k)) (i 1) else 0

/-- The normaliser of a row of the block. -/
theorem pay5_apply (x : Vec Ideal S256x1024 .f32) (p : Fin 256) : k0_pay5 x (ix2 p 0) = rs (fun q => x (ix2 p q)) := by
  unfold_payloads
  unfold rs msq
  pointwise

/-- The normed rows of the block. -/
theorem pay6_apply (x : Vec Ideal S256x1024 .f32) (p : Fin 256) (j : Fin 1024) : k0_pay6 x (ix2 p j) = x (ix2 p j) * rs (fun q => x (ix2 p q)) := by
  unfold_payloads
  unfold rs msq
  pointwise

/-- The error of the block. -/
theorem pay7_apply (x : Vec Ideal S256x1024 .f32) (fw : Vec Ideal S1x1024 .f32) (t : Vec Ideal S256x1024 .f32) (p : Fin 256) (j : Fin 1024) :
    k0_pay7 x fw t (ix2 p j) = err (fun k => x (ix2 p k)) (fun k => fw (ix2 0 k)) (fun k => t (ix2 p k)) j := by
  have h : k0_pay7 x fw t (ix2 p j) = k0_pay6 x (ix2 p j) * fw (ix2 0 j) - t (ix2 p j) := by
    unfold k0_pay7
    generalize k0_pay6 x = y
    pointwise
  rw [h, pay6_apply]; rfl

/-- The gradient of the loss with respect to the block's prediction. -/
theorem pay9_apply (x : Vec Ideal S256x1024 .f32) (fw : Vec Ideal S1x1024 .f32) (t : Vec Ideal S256x1024 .f32) (p : Fin 256) (j : Fin 1024) :
    k0_pay9 x fw t (ix2 p j) = dy (fun k => x (ix2 p k)) (fun k => fw (ix2 0 k)) (fun k => t (ix2 p k)) j := by
  have h : k0_pay9 x fw t (ix2 p j) = k0_pay7 x fw t (ix2 p j) * Ideal.ofBits FTy.f32 0x3A800000#32 := by
    unfold k0_pay9
    generalize k0_pay7 x fw t = y
    pointwise
  rw [h, pay7_apply]; rfl

/-- The block's loss on top of the accumulator. -/
theorem pay8_apply (x : Vec Ideal S256x1024 .f32) (fw : Vec Ideal S1x1024 .f32) (t : Vec Ideal S256x1024 .f32) (a : Vec Ideal S8x128 .f32) (j : S8x128.Idx) :
    k0_pay8 x fw t a j = a j + Ideal.ofBits FTy.f32 0x3F000000#32 * ∑ p : Fin 256, lossRow (fun k => x (ix2 p k)) (fun k => fw (ix2 0 k)) (fun k => t (ix2 p k)) := by
  have h : k0_pay8 x fw t a j = a j + Ideal.ofBits FTy.f32 0x3F000000#32 * ∑ p : Fin 256, Ideal.div (∑ k : Fin 1024, k0_pay7 x fw t (ix2 p k) * k0_pay7 x fw t (ix2 p k)) (Ideal.ofBits FTy.f32 0x44800000#32) := by
    unfold k0_pay8
    generalize k0_pay7 x fw t = y
    pointwise
    simp only [Fin.sum_univ_one]
  rw [h]
  refine congrArg₂ (· + ·) rfl (congrArg₂ (· * ·) rfl (Finset.sum_congr rfl fun p _ => congrArg₂ Ideal.div (Finset.sum_congr rfl fun k _ => ?_) rfl))
  rw [pay7_apply]

/-- The rows' sum into the accumulator's row. -/
theorem pay1_apply (v13 v35 : FVec Ideal S256x1024 .f32) (v36 : Vec Ideal S1x1024 .f32) (j : S1x1024.Idx) :
    k0_pay1 v13 v35 v36 j = v36 j + ∑ k : Fin 256, v35 (ix2 k (j 1)) * v13 (ix2 k (j 1)) := by
  unfold_payloads
  pointwise

/-- The gradient of the norm in the block. -/
theorem pay2_apply (v11 : FVec Ideal S256x1 .f32) (v13 : FVec Ideal S256x1024 .f32) (fw : Vec Ideal S1x1024 .f32) (v35 : FVec Ideal S256x1024 .f32) (j : S256x1024.Idx) :
    k0_pay2 v11 v13 fw v35 j = v11 (ix2 (j 0) 0) * (v35 j * fw (ix2 0 (j 1)) - v13 j *
      Ideal.div (∑ k : Fin 1024, v35 (ix2 (j 0) k) * fw (ix2 0 k) * v13 (ix2 (j 0) k)) (Ideal.ofBits FTy.f32 0x44800000#32)) := by
  unfold_payloads
  pointwise

/-- The accumulators' starting contents are zero. -/
theorem pay3_apply (j : S8x128.Idx) : (k0_pay3 (F := Ideal)) j = 0 := by
  unfold_payloads
  pointwise

theorem pay4_apply (j : S8x1024.Idx) : (k0_pay4 (F := Ideal)) j = 0 := by
  unfold_payloads
  pointwise

/-- The first row of the accumulator read through a list of writes. -/
theorem readCov_apply (v : View sig .tc .vmem S8x1024 .f32) (L : List (View.Piece (Elt Ideal) S8x1024 .f32))
    (inb : ∀ a : Fin 2, (![0, 0] : Fin 2 → Nat) a + (![1, 1024] : Fin 2 → Nat) a ≤ S8x1024.size a) (j : S1x1024.Idx) (y : S8x1024.Idx)
    (h0 : (y 0).val = 0) (h1 : (y 1).val = (j 1).val) :
    v.readCov L (Rect.unit (s := S8x1024) ![0, 0] ![1, 1024] inb).toLoadRect j = v.read (Elt Ideal) (v.writes (Elt Ideal) v.junk L) y := by
  refine congrArg (v.read (Elt Ideal) (v.writes (Elt Ideal) v.junk L)) (ext2 ?_ ?_)
  · have : (j 0).val < 1 := (j 0).isLt
    show 0 + 1 * (j 0).val = (y 0).val; omega
  · show 0 + 1 * (j 1).val = (y 1).val; omega

/-- What a point of case A leaves of the input's gradient, read at an index. -/
theorem out3_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x128 .f32) (harg5 : arg5.IsWhole) (arg6 : Memref sig .tc .vmem S8x1024 .f32) (harg6 : arg6.IsWhole) (hc0 : cond0_0 i)
    (x0 : Vec Ideal S256x1024 .f32) (x1 : Vec Ideal S1x1024 .f32) (x2 : Vec Ideal S256x1024 .f32) (j : S256x1024.Idx) :
    out0_A_3 c i arg1 harg1 arg2 harg2 arg3 harg3 arg4 harg4 arg5 harg5 arg6 harg6 hc0 x0 x1 x2 j = dxRow (fun k => x0 (ix2 (j 0) k)) (fun k => x1 (ix2 0 k)) (fun k => x2 (ix2 (j 0) k)) (j 1) := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S256x1024) hz, View.ld_unit_zero (S := S1x1024) hz, View.ld_unit_zero (S := S8x128) hz]
  obtain ⟨p, q, rfl⟩ : ∃ (p : Fin 256) (q : Fin 1024), j = ix2 p q := ⟨j 0, j 1, (ix2_eta j).symm⟩
  refine (pay2_apply _ _ _ _ _).trans ?_
  unfold dxRow
  refine congrArg₂ (· * ·) (pay5_apply x0 p) (congrArg₂ (· - ·) (congrArg₂ (· * ·) (pay9_apply x0 x1 x2 p q) rfl)
    (congrArg₂ (· * ·) (pay6_apply x0 p q) (congrArg₂ Ideal.div (Finset.sum_congr rfl fun k _ => congrArg₂ (· * ·) (congrArg₂ (· * ·) (pay9_apply x0 x1 x2 p k) rfl) (pay6_apply x0 p k)) rfl)))

/-- What a point of case A leaves in the loss accumulator, read at an index. -/
theorem out4_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x128 .f32) (harg5 : arg5.IsWhole) (arg6 : Memref sig .tc .vmem S8x1024 .f32) (harg6 : arg6.IsWhole) (hc0 : cond0_0 i)
    (x0 : Vec Ideal S256x1024 .f32) (x1 : Vec Ideal S1x1024 .f32) (x2 : Vec Ideal S256x1024 .f32) (y : S8x128.Idx) :
    out0_A_4 c i arg1 harg1 arg2 harg2 arg3 harg3 arg4 harg4 arg5 harg5 arg6 harg6 hc0 x0 x1 x2 y = 0 + Ideal.ofBits FTy.f32 0x3F000000#32 * ∑ p : Fin 256, lossRow (fun k => x0 (ix2 p k)) (fun k => x1 (ix2 0 k)) (fun k => x2 (ix2 p k)) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_cons_unit_zero hz, View.readCov_cons_toLoadRect]
  simp only [View.readAt_eq_ld, harg1.read_unread, harg2.read_unread, harg3.read_unread, harg4.read_unread, harg5.read_unread, harg6.read_unread, View.ld_unit_zero (S := S256x1024) hz, View.ld_unit_zero (S := S1x1024) hz, View.ld_unit_zero (S := S8x128) hz]
  rw [pay8_apply, pay3_apply]

/-- What a point of case A leaves in the weight's gradient's accumulator, read at an index. -/
theorem out5_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x128 .f32) (harg5 : arg5.IsWhole) (arg6 : Memref sig .tc .vmem S8x1024 .f32) (harg6 : arg6.IsWhole) (hc0 : cond0_0 i)
    (x0 : Vec Ideal S256x1024 .f32) (x1 : Vec Ideal S1x1024 .f32) (x2 : Vec Ideal S256x1024 .f32) (y : S8x1024.Idx) :
    out0_A_5 c i arg1 harg1 arg2 harg2 arg3 harg3 arg4 harg4 arg5 harg5 arg6 harg6 hc0 x0 x1 x2 y = if (y 0).val = 0 then 0 + ∑ k : Fin 256, dwRow (fun q => x0 (ix2 k q)) (fun q => x1 (ix2 0 q)) (fun q => x2 (ix2 k q)) (y 1) else 0 := by
  unfold out0_A_5 kernelRun0_A
  dsimp only
  sl_unfold_words
  simp only [View.readAt_eq_ld, harg1.read_unread, harg2.read_unread, harg3.read_unread, harg4.read_unread, harg5.read_unread, harg6.read_unread, View.ld_unit_zero (S := S256x1024) hz, View.ld_unit_zero (S := S1x1024) hz, View.ld_unit_zero (S := S8x128) hz]
  by_cases h0 : (y 0).val = 0
  · rw [if_pos h0]
    refine (View.read_writes_cons_rows_of_mem _ _ _ _ _ y (ix2 (n0 := 1) (n1 := 1024) 0 (y 1)) rfl (show (y 0).val = 0 + 0 by omega) rfl).trans ?_
    refine (pay1_apply _ _ _ _).trans ?_
    refine congrArg₂ (· + ·) ?_ (Finset.sum_congr rfl fun k _ => congrArg₂ (· * ·) (pay9_apply x0 x1 x2 k (y 1)) (pay6_apply x0 k (y 1)))
    refine (readCov_apply _ _ _ _ y h0 rfl).trans ?_
    refine (View.read_writes_cons_rows_of_mem _ _ _ _ _ y y rfl (Nat.zero_add _).symm rfl).trans ?_
    exact pay4_apply y
  · rw [if_neg h0]
    refine (View.read_writes_cons_rows_of_not_mem _ _ _ _ _ y rfl rfl (Or.inr (show 0 + 1 ≤ (y 0).val by omega))).trans ?_
    refine (View.read_writes_cons_rows_of_mem _ _ _ _ _ y y rfl (Nat.zero_add _).symm rfl).trans ?_
    exact pay4_apply y

/-- What a point of case B leaves of the input's gradient, read at an index. -/
theorem out3_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x128 .f32) (harg5 : arg5.IsWhole) (arg6 : Memref sig .tc .vmem S8x1024 .f32) (harg6 : arg6.IsWhole) (hc0 : ¬cond0_0 i)
    (x0 : Vec Ideal S256x1024 .f32) (x1 : Vec Ideal S1x1024 .f32) (x2 : Vec Ideal S256x1024 .f32) (xo4 : Vec Ideal S8x128 .f32) (xo5 : Vec Ideal S8x1024 .f32) (j : S256x1024.Idx) :
    out0_B_3 c i arg1 harg1 arg2 harg2 arg3 harg3 arg4 harg4 arg5 harg5 arg6 harg6 hc0 x0 x1 x2 xo4 xo5 j = dxRow (fun k => x0 (ix2 (j 0) k)) (fun k => x1 (ix2 0 k)) (fun k => x2 (ix2 (j 0) k)) (j 1) := by
  unfold out0_B_3
  rw [View.read_writes_eq_canon _ _ _ (cover0_B_3 c i arg1 harg1 arg2 harg2 arg3 harg3 arg4 harg4 arg5 harg5 arg6 harg6 hc0 x0 x1 x2 xo4 xo5)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S256x1024) hz, View.ld_unit_zero (S := S1x1024) hz, View.ld_unit_zero (S := S8x128) hz]
  obtain ⟨p, q, rfl⟩ : ∃ (p : Fin 256) (q : Fin 1024), j = ix2 p q := ⟨j 0, j 1, (ix2_eta j).symm⟩
  refine (pay2_apply _ _ _ _ _).trans ?_
  unfold dxRow
  refine congrArg₂ (· * ·) (pay5_apply x0 p) (congrArg₂ (· - ·) (congrArg₂ (· * ·) (pay9_apply x0 x1 x2 p q) rfl)
    (congrArg₂ (· * ·) (pay6_apply x0 p q) (congrArg₂ Ideal.div (Finset.sum_congr rfl fun k _ => congrArg₂ (· * ·) (congrArg₂ (· * ·) (pay9_apply x0 x1 x2 p k) rfl) (pay6_apply x0 p k)) rfl)))

/-- What a point of case B leaves in the loss accumulator, read at an index. -/
theorem out4_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x128 .f32) (harg5 : arg5.IsWhole) (arg6 : Memref sig .tc .vmem S8x1024 .f32) (harg6 : arg6.IsWhole) (hc0 : ¬cond0_0 i)
    (x0 : Vec Ideal S256x1024 .f32) (x1 : Vec Ideal S1x1024 .f32) (x2 : Vec Ideal S256x1024 .f32) (xo4 : Vec Ideal S8x128 .f32) (xo5 : Vec Ideal S8x1024 .f32) (y : S8x128.Idx) :
    out0_B_4 c i arg1 harg1 arg2 harg2 arg3 harg3 arg4 harg4 arg5 harg5 arg6 harg6 hc0 x0 x1 x2 xo4 xo5 y = xo4 y + Ideal.ofBits FTy.f32 0x3F000000#32 * ∑ p : Fin 256, lossRow (fun k => x0 (ix2 p k)) (fun k => x1 (ix2 0 k)) (fun k => x2 (ix2 p k)) := by
  unfold out0_B_4
  rw [View.read_writes_eq_canon _ _ _ (cover0_B_4 c i arg1 harg1 arg2 harg2 arg3 harg3 arg4 harg4 arg5 harg5 arg6 harg6 hc0 x0 x1 x2 xo4 xo5)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S256x1024) hz, View.ld_unit_zero (S := S1x1024) hz, View.ld_unit_zero (S := S8x128) hz]
  rw [pay8_apply]

/-- What a point of case B leaves in the weight's gradient's accumulator, read at an index. -/
theorem out5_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x128 .f32) (harg5 : arg5.IsWhole) (arg6 : Memref sig .tc .vmem S8x1024 .f32) (harg6 : arg6.IsWhole) (hc0 : ¬cond0_0 i)
    (x0 : Vec Ideal S256x1024 .f32) (x1 : Vec Ideal S1x1024 .f32) (x2 : Vec Ideal S256x1024 .f32) (xo4 : Vec Ideal S8x128 .f32) (xo5 : Vec Ideal S8x1024 .f32) (y : S8x1024.Idx) :
    out0_B_5 c i arg1 harg1 arg2 harg2 arg3 harg3 arg4 harg4 arg5 harg5 arg6 harg6 hc0 x0 x1 x2 xo4 xo5 y = if (y 0).val = 0 then xo5 y + ∑ k : Fin 256, dwRow (fun q => x0 (ix2 k q)) (fun q => x1 (ix2 0 q)) (fun q => x2 (ix2 k q)) (y 1) else xo5 y := by
  unfold out0_B_5 kernelRun0_B
  dsimp only
  sl_unfold_words
  simp only [View.readAt_eq_ld, harg1.read_unread, harg2.read_unread, harg3.read_unread, harg4.read_unread, harg5.read_unread, harg6.read_unread, View.ld_unit_zero (S := S256x1024) hz, View.ld_unit_zero (S := S1x1024) hz, View.ld_unit_zero (S := S8x128) hz]
  by_cases h0 : (y 0).val = 0
  · rw [if_pos h0]
    refine (View.read_writes_cons_rows_of_mem _ _ _ _ _ y (ix2 (n0 := 1) (n1 := 1024) 0 (y 1)) rfl (show (y 0).val = 0 + 0 by omega) rfl).trans ?_
    refine (pay1_apply _ _ _ _).trans ?_
    refine congrArg₂ (· + ·) ?_ (Finset.sum_congr rfl fun k _ => congrArg₂ (· * ·) (pay9_apply x0 x1 x2 k (y 1)) (pay6_apply x0 k (y 1)))
    refine congrArg xo5 (ext2 ?_ ?_)
    · show 0 + 1 * 0 = (y 0).val; omega
    · show 0 + 1 * (y 1).val = (y 1).val; omega
  · rw [if_neg h0]
    refine (View.read_writes_cons_rows_of_not_mem _ _ _ _ _ y rfl rfl (Or.inr (show 0 + 1 ≤ (y 0).val by omega))).trans ?_
    exact congrFun (harg6.read_unread xo5) y

/-- Where each window's block lies. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem hN : cfg0.N = 8 := by decide +kernel

theorem rowAt_val (n : Nat) (h : n < cfg0.N) (k : Fin 256) : (rowAt n k).val = n * 256 + k.val := by
  rw [hN] at h; exact Nat.mod_eq_of_lt (by omega)

variable (m : (ℓ : Loc nD τ sig) → Buf (Elt Ideal) ℓ) (ρ : Dev nD → PrngReg)

/-- Window 0's block, read at an index. -/
theorem blk0 (c : Dev nD) (t : Fin cfg0.N) (p : Fin 256) (q : Fin 1024) :
    iblk m c 0 t (ix2 p q) = V m c main_arg0 (ix2 (rowAt t.val p) q) := by
  have hr := rowAt_val t.val t.isLt p
  obtain ⟨⟨a0, a1⟩, -⟩ := idx_facts t
  refine congrArg (V m c main_arg0) (ext2 ?_ ?_)
  · show win0_0.index t (0 : Fin 2) * 256 + 1 * p.val = (rowAt t.val p).val; omega
  · show win0_0.index t (1 : Fin 2) * 1024 + 1 * q.val = q.val; omega

/-- One row of it. -/
theorem brow0 (c : Dev nD) (t : Fin cfg0.N) (p : Fin 256) :
    (fun q : Fin 1024 => (iblk m c 0 t (ix2 p q) : EReal)) = fun q => V m c main_arg0 (ix2 (rowAt t.val p) q) := funext fun q => blk0 m c t p q

/-- Window 2's block, read at an index. -/
theorem blk2 (c : Dev nD) (t : Fin cfg0.N) (p : Fin 256) (q : Fin 1024) :
    iblk m c 2 t (ix2 p q) = V m c main_arg2 (ix2 (rowAt t.val p) q) := by
  have hr := rowAt_val t.val t.isLt p
  obtain ⟨-, -, ⟨a0, a1⟩, -⟩ := idx_facts t
  refine congrArg (V m c main_arg2) (ext2 ?_ ?_)
  · show win0_2.index t (0 : Fin 2) * 256 + 1 * p.val = (rowAt t.val p).val; omega
  · show win0_2.index t (1 : Fin 2) * 1024 + 1 * q.val = q.val; omega

/-- One row of it. -/
theorem brow2 (c : Dev nD) (t : Fin cfg0.N) (p : Fin 256) :
    (fun q : Fin 1024 => (iblk m c 2 t (ix2 p q) : EReal)) = fun q => V m c main_arg2 (ix2 (rowAt t.val p) q) := funext fun q => blk2 m c t p q

/-- Window 1's block, read at an index. -/
theorem blk1 (c : Dev nD) (t : Fin cfg0.N) (p : Fin 1) (q : Fin 1024) : iblk m c 1 t (ix2 p q) = V m c main_arg1 (ix2 p q) := by
  obtain ⟨-, ⟨a0, a1⟩, -⟩ := idx_facts t
  refine congrArg (V m c main_arg1) (ext2 ?_ ?_)
  · show win0_1.index t (0 : Fin 2) * 1 + 1 * p.val = p.val; omega
  · show win0_1.index t (1 : Fin 2) * 1024 + 1 * q.val = q.val; omega

/-- Its row. -/
theorem brow1 (c : Dev nD) (t : Fin cfg0.N) :
    (fun q : Fin 1024 => (iblk m c 1 t (ix2 0 q) : EReal)) = fun q => V m c main_arg1 (ix2 0 q) := funext fun q => blk1 m c t 0 q

/-- What point `n` adds to the loss. -/
def lpart (x : S2048x1024.Idx → EReal) (fw : S1x1024.Idx → EReal) (t : S2048x1024.Idx → EReal) (n : Nat) : EReal :=
  ∑ k : Fin 256, lossRow (fun q => x (ix2 (rowAt n k) q)) (fun q => fw (ix2 0 q)) (fun q => t (ix2 (rowAt n k) q))

/-- What point `n` adds to the gradient of the norm's weight. -/
def part (x : S2048x1024.Idx → EReal) (fw : S1x1024.Idx → EReal) (t : S2048x1024.Idx → EReal) (y : S8x1024.Idx) (n : Nat) : EReal :=
  ∑ k : Fin 256, dwRow (fun q => x (ix2 (rowAt n k) q)) (fun q => fw (ix2 0 q)) (fun q => t (ix2 (rowAt n k) q)) (y 1)

theorem blk_lpart (c : Dev nD) (t : Fin cfg0.N) :
    ∑ k : Fin 256, lossRow (fun q => iblk m c 0 t (ix2 k q)) (fun q => iblk m c 1 t (ix2 0 q)) (fun q => iblk m c 2 t (ix2 k q)) = lpart (V m c main_arg0) (V m c main_arg1) (V m c main_arg2) t.val :=
  Finset.sum_congr rfl fun k _ => congr (congrArg₂ lossRow (brow0 m c t k) (brow1 m c t)) (brow2 m c t k)

theorem blk_part (c : Dev nD) (t : Fin cfg0.N) (y : S8x1024.Idx) :
    ∑ k : Fin 256, dwRow (fun q => iblk m c 0 t (ix2 k q)) (fun q => iblk m c 1 t (ix2 0 q)) (fun q => iblk m c 2 t (ix2 k q)) (y 1) = part (V m c main_arg0) (V m c main_arg1) (V m c main_arg2) y t.val :=
  Finset.sum_congr rfl fun k _ => congrFun (congr (congrArg₂ dwRow (brow0 m c t k) (brow1 m c t)) (brow2 m c t k)) (y 1)

/-- The loss accumulator after point `n`: the parts of the points so far. -/
theorem lacc_eq (c : Dev nD) : ∀ (n : Nat) (h : n < cfg0.N) (y : S8x128.Idx), (outsAt0 m c n h).2.1 y
    = ∑ s ∈ Finset.range (n + 1), Ideal.ofBits FTy.f32 0x3F000000#32 * lpart (V m c main_arg0) (V m c main_arg1) (V m c main_arg2) s
  | 0, h, y => by
    have e : (outsAt0 m c 0 h).2.1 = _ := congrArg (fun p => p.2.1) (outsAt0_A m c ⟨0, h⟩ rfl)
    dsimp only at e
    rw [e, out4_A]
    rw [Finset.sum_range_one, zero_add]
    exact congrArg₂ (· * ·) rfl (blk_lpart m c ⟨0, h⟩)
  | n + 1, h, y => by
    have hB : ¬(⟨n + 1, h⟩ : Fin cfg0.N).val % 8 = 0 := by have := hN; dsimp only; omega
    have e : (outsAt0 m c (n + 1) h).2.1 = _ := congrArg (fun p => p.2.1) (outsAt0_B m c ⟨n + 1, h⟩ hB)
    dsimp only at e
    have ih : (outsAt0 m c (n + 1 - 1) (Nat.lt_of_le_of_lt (Nat.sub_le _ _) h)).2.1 y = _ := lacc_eq c n (Nat.lt_of_succ_lt h) y
    rw [e, out4_B, Finset.sum_range_succ]
    exact congrArg₂ (· + ·) ih (congrArg₂ (· * ·) rfl (blk_lpart m c ⟨n + 1, h⟩))

/-- The weight's gradient's accumulator after point `n`: the parts of the points so far, in the first row. -/
theorem acc_eq (c : Dev nD) : ∀ (n : Nat) (h : n < cfg0.N) (y : S8x1024.Idx), (outsAt0 m c n h).2.2 y
    = if (y 0).val = 0 then ∑ s ∈ Finset.range (n + 1), part (V m c main_arg0) (V m c main_arg1) (V m c main_arg2) y s else 0
  | 0, h, y => by
    have e : (outsAt0 m c 0 h).2.2 = _ := congrArg (fun p => p.2.2) (outsAt0_A m c ⟨0, h⟩ rfl)
    dsimp only at e
    rw [e, out5_A]
    rw [Finset.sum_range_one, zero_add]
    exact if_congr Iff.rfl (blk_part m c ⟨0, h⟩ y) rfl
  | n + 1, h, y => by
    have hB : ¬(⟨n + 1, h⟩ : Fin cfg0.N).val % 8 = 0 := by have := hN; dsimp only; omega
    have e : (outsAt0 m c (n + 1) h).2.2 = _ := congrArg (fun p => p.2.2) (outsAt0_B m c ⟨n + 1, h⟩ hB)
    dsimp only at e
    have ih : (outsAt0 m c (n + 1 - 1) (Nat.lt_of_le_of_lt (Nat.sub_le _ _) h)).2.2 y = _ := acc_eq c n (Nat.lt_of_succ_lt h) y
    rw [e, out5_B]
    by_cases h0 : (y 0).val = 0
    · rw [if_pos h0] at ih ⊢
      rw [if_pos h0, Finset.sum_range_succ]
      exact congrArg₂ (· + ·) ih (blk_part m c ⟨n + 1, h⟩ y)
    · rw [if_neg h0] at ih ⊢
      rw [if_neg h0]
      exact ih

/-- The last point writes the whole loss. -/
theorem flushed4_eq (c : Dev nD) (t : Fin cfg0.N) (hf : (cfg0.win 4).flush t = true) :
    (dats m 0 c).flushed 4 t = ((cfg0.win 4).blk t).view.read (Elt Ideal) (LO (V m c main_arg0) (V m c main_arg1) (V m c main_arg2)) := by
  have h7 : t.val = 7 := by have := (flush0_4 t).mp hf; have := t.isLt; have := hN; omega
  obtain ⟨-, -, -, -, ⟨a0, a1⟩, -⟩ := idx_facts t
  rw [Value.flushed4]
  funext j
  show (outsAt0 m c t.val t.isLt).2.1 j = LO (V m c main_arg0) (V m c main_arg1) (V m c main_arg2) (((cfg0.win 4).blk t).view.emb j)
  have hj : ((cfg0.win 4).blk t).view.emb j = j := by
    refine ext2 (n0 := 8) (n1 := 128) ?_ ?_
    · show win0_4.index t (0 : Fin 2) * 8 + 1 * (j 0).val = (j 0).val; omega
    · show win0_4.index t (1 : Fin 2) * 128 + 1 * (j 1).val = (j 1).val; omega
  rw [hj, lacc_eq, h7]
  unfold LO
  rw [← sum_rows fun q => lossRow (fun k => V m c main_arg0 (ix2 q k)) (fun k => V m c main_arg1 (ix2 0 k)) (fun k => V m c main_arg2 (ix2 q k)), cHalf,
    mul_sum _ (1 / 2) (by norm_num)]
  rfl

theorem cover4 (i : S8x128.Idx) : ∃ t : Fin cfg0.N, (cfg0.win 4).flush t = true ∧ i ∈ ((cfg0.win 4).blk t).view.set := by
  have h0 : (i 0).val < 8 := (i 0).isLt
  have h1 : (i 1).val < 128 := (i 1).isLt
  obtain ⟨t, ht⟩ : ∃ t : Fin cfg0.N, t.val = 7 := ⟨⟨7, by rw [hN]; omega⟩, rfl⟩
  refine ⟨t, (flush0_4 t).mpr (by omega), ?_⟩
  obtain ⟨-, -, -, -, ⟨a0, a1⟩, -⟩ := idx_facts t
  show i ∈ ((View.whole main_v0_1).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 128 ≤ (i 1).val ∧ (i 1).val < win0_4.index t (1 : Fin 2) * 128 + 128
    omega

theorem final4 (c : Dev nD) : (dats m 0 c).arrAt 4 cfg0.N = LO (m ((c : Thread nD τ).loc main_arg0)) (m ((c : Thread nD τ).loc main_arg1)) (m ((c : Thread nD τ).loc main_arg2)) :=
  ((dats m 0 c).arrAt_eq_of_cover 4 _ (fun t hf => flushed4_eq m c t hf) cover4).trans (by rw [V_main_arg0, V_main_arg1, V_main_arg2])

/-- The last point writes the whole gradient of the norm's weight. -/
theorem flushed5_eq (c : Dev nD) (t : Fin cfg0.N) (hf : (cfg0.win 5).flush t = true) :
    (dats m 0 c).flushed 5 t = ((cfg0.win 5).blk t).view.read (Elt Ideal) (DW (V m c main_arg0) (V m c main_arg1) (V m c main_arg2)) := by
  have h7 : t.val = 7 := by have := (flush0_5 t).mp hf; have := t.isLt; have := hN; omega
  obtain ⟨-, -, -, -, -, ⟨a0, a1⟩⟩ := idx_facts t
  rw [Value.flushed5]
  funext j
  show (outsAt0 m c t.val t.isLt).2.2 j = DW (V m c main_arg0) (V m c main_arg1) (V m c main_arg2) (((cfg0.win 5).blk t).view.emb j)
  have hj : ((cfg0.win 5).blk t).view.emb j = j := by
    refine ext2 (n0 := 8) (n1 := 1024) ?_ ?_
    · show win0_5.index t (0 : Fin 2) * 8 + 1 * (j 0).val = (j 0).val; omega
    · show win0_5.index t (1 : Fin 2) * 1024 + 1 * (j 1).val = (j 1).val; omega
  rw [hj, acc_eq, h7]
  exact if_congr Iff.rfl (sum_rows fun q => dwRow (fun k => V m c main_arg0 (ix2 q k)) (fun k => V m c main_arg1 (ix2 0 k)) (fun k => V m c main_arg2 (ix2 q k)) (j 1)) rfl

theorem cover5 (i : S8x1024.Idx) : ∃ t : Fin cfg0.N, (cfg0.win 5).flush t = true ∧ i ∈ ((cfg0.win 5).blk t).view.set := by
  have h0 : (i 0).val < 8 := (i 0).isLt
  have h1 : (i 1).val < 1024 := (i 1).isLt
  obtain ⟨t, ht⟩ : ∃ t : Fin cfg0.N, t.val = 7 := ⟨⟨7, by rw [hN]; omega⟩, rfl⟩
  refine ⟨t, (flush0_5 t).mpr (by omega), ?_⟩
  obtain ⟨-, -, -, -, -, ⟨a0, a1⟩⟩ := idx_facts t
  show i ∈ ((View.whole main_v0_2).slice (win0_5.rect t)).set
  rw [View.set_slice_whole, Rect.mem_set_unit]
  intro a
  match a with
  | ⟨0, _⟩ =>
    show win0_5.index t (0 : Fin 2) * 8 ≤ (i 0).val ∧ (i 0).val < win0_5.index t (0 : Fin 2) * 8 + 8
    omega
  | ⟨1, _⟩ =>
    show win0_5.index t (1 : Fin 2) * 1024 ≤ (i 1).val ∧ (i 1).val < win0_5.index t (1 : Fin 2) * 1024 + 1024
    omega

theorem final5 (c : Dev nD) : (dats m 0 c).arrAt 5 cfg0.N = DW (m ((c : Thread nD τ).loc main_arg0)) (m ((c : Thread nD τ).loc main_arg1)) (m ((c : Thread nD τ).loc main_arg2)) :=
  ((dats m 0 c).arrAt_eq_of_cover 5 _ (fun t hf => flushed5_eq m c t hf) cover5).trans (by rw [V_main_arg0, V_main_arg1, V_main_arg2])

/-- Each point writes its rows of the input's gradient. -/
theorem flushed3_eq (c : Dev nD) (t : Fin cfg0.N) :
    (dats m 0 c).flushed 3 t = ((cfg0.win 3).blk t).view.read (Elt Ideal) (DX (V m c main_arg0) (V m c main_arg1) (V m c main_arg2)) := by
  obtain ⟨-, -, -, ⟨a0, a1⟩, -⟩ := idx_facts t
  have key : ∀ j : S256x1024.Idx, dxRow (fun k => iblk m c 0 t (ix2 (j 0) k)) (fun k => iblk m c 1 t (ix2 0 k)) (fun k => iblk m c 2 t (ix2 (j 0) k)) (j 1)
      = DX (V m c main_arg0) (V m c main_arg1) (V m c main_arg2) (((cfg0.win 3).blk t).view.emb j) := by
    intro j
    have hr := rowAt_val t.val t.isLt (j 0)
    have hj : ((cfg0.win 3).blk t).view.emb j = ix2 (rowAt t.val (j 0)) (j 1) := by
      refine ext2 (n0 := 2048) (n1 := 1024) ?_ ?_
      · show win0_3.index t (0 : Fin 2) * 256 + 1 * (j 0).val = (rowAt t.val (j 0)).val; omega
      · show win0_3.index t (1 : Fin 2) * 1024 + 1 * (j 1).val = (j 1).val; omega
    rw [hj]
    exact congrFun (congr (congrArg₂ dxRow (brow0 m c t (j 0)) (brow1 m c t)) (brow2 m c t (j 0))) (j 1)
  by_cases h0 : t.val % 8 = 0
  · rw [Value.flushed3_A m c t h0]
    funext j
    exact (out3_A c _ _ _ _ _ _ _ _ _ _ _ _ _ _ _ _ _ j).trans (key j)
  · rw [Value.flushed3_B m c t h0]
    funext j
    exact (out3_B c _ _ _ _ _ _ _ _ _ _ _ _ _ _ _ _ _ _ _ j).trans (key j)

theorem cover3 (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  obtain ⟨t, ht⟩ : ∃ t : Fin cfg0.N, t.val = (i 0).val / 256 := ⟨⟨(i 0).val / 256, by rw [hN]; omega⟩, rfl⟩
  refine ⟨t, flush0_3 _, ?_⟩
  obtain ⟨-, -, -, ⟨a0, a1⟩, -⟩ := idx_facts t
  show i ∈ ((View.whole main_v0_0).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

theorem final3 (c : Dev nD) : (dats m 0 c).arrAt 3 cfg0.N = DX (m ((c : Thread nD τ).loc main_arg0)) (m ((c : Thread nD τ).loc main_arg1)) (m ((c : Thread nD τ).loc main_arg2)) :=
  ((dats m 0 c).arrAt_eq_of_cover 3 _ (fun t _ => flushed3_eq m c t) cover3).trans (by rw [V_main_arg0, V_main_arg1, V_main_arg2])

theorem zero_bits : FloatOps.ofBits (F := Ideal) .f32 0x00000000#32 = (0 : EReal) := Ideal.ofBits_zero_f32

open Cert.HeadRefIdeal.Read in
/-- The reference's mean square. -/
theorem reference_msq (x : S2048x1024.Idx → EReal) (i : Cert.HeadRefIdeal.S2048x1.Idx) :
    val_main_v7 (F := Ideal) x i = msq (fun k => x (ix2 (i 0) k)) := by
  rw [val_main_v7_apply, val_main_v5_apply, val_main_v3_apply, val_main_v2_apply, val_main_v4_apply, val_main_v6_apply, val_main_cst_apply, val_main_cst_0_apply,
    val_main_cst_1_apply, zero_bits, zero_add]
  refine congrArg (fun s => Ideal.div s (Ideal.ofBits FTy.f32 0x44800000#32) + Ideal.ofBits FTy.f32 0x358637BD#32) ?_
  refine Finset.sum_congr rfl fun k _ => ?_
  rw [val_main_v1_apply]
  have e : ∀ a : S2048x1024.Idx, a = ix2 (i 0) k → FloatOps.mulf (F := Ideal) (φ := .f32) (x a) (x a) = x (ix2 (i 0) k) * x (ix2 (i 0) k) := by
    rintro _ rfl; rfl
  exact e _ (ext2 rfl rfl)

open Cert.HeadRefIdeal.Read in
/-- The reference's normaliser. -/
theorem reference_rs (x : S2048x1024.Idx → EReal) (i : Cert.HeadRefIdeal.S2048x1.Idx) :
    val_main_v8 (F := Ideal) x i = rs (fun k => x (ix2 (i 0) k)) := by
  rw [val_main_v8_apply, reference_msq]; rfl

open Cert.HeadRefIdeal.Read in
/-- The reference's normed rows. -/
theorem reference_xn (x : S2048x1024.Idx → EReal) (i : S2048x1024.Idx) :
    val_main_v13 (F := Ideal) x i = x i * rs (fun k => x (ix2 (i 0) k)) := by
  rw [val_main_v13_apply, val_main_v12_apply, reference_rs]; rfl

open Cert.HeadRefIdeal.Read in
/-- The reference's error. -/
theorem reference_err (x : S2048x1024.Idx → EReal) (fw : S1x1024.Idx → EReal) (t : S2048x1024.Idx → EReal) (i : S2048x1024.Idx) :
    val_main_v17 (F := Ideal) x fw t i = err (fun k => x (ix2 (i 0) k)) (fun k => fw (ix2 0 k)) (fun k => t (ix2 (i 0) k)) (i 1) := by
  rw [val_main_v17_apply, val_main_v16_apply, reference_xn, val_main_v15_apply, val_main_v14_apply, val_main_v0_apply]
  refine congrArg₂ (· - ·) (congrArg₂ (· * ·) (congrArg₂ (· * ·) (congrArg x (ext2 rfl rfl)) rfl) (congrArg fw (ext2 rfl ?_))) (congrArg t (ext2 rfl rfl))
  exact Nat.mod_eq_of_lt (i 1).isLt

/-- Half of one, over 1024, times twice an error is the error over 1024. -/
theorem scale (e : EReal) : Ideal.div (Ideal.ofBits FTy.f32 0x3F000000#32 * Ideal.ofBits FTy.f32 0x3F800000#32) (Ideal.ofBits FTy.f32 0x44800000#32)
    * (Ideal.ofBits FTy.f32 0x40000000#32 * e) = e * Ideal.ofBits FTy.f32 0x3A800000#32 := by
  have one : Ideal.ofBits FTy.f32 0x3F800000#32 = ((1 : ℝ) : EReal) := by simp [Ideal.ofBits, Ideal.ieee]; norm_cast; norm_num
  rw [div1024, cHalf, one, cTwo, cInv, ← mul_assoc, mul_comm e]
  refine congrArg₂ (· * ·) ?_ rfl
  norm_cast
  norm_num

open Cert.HeadRefIdeal.Read in
/-- The reference's gradient with respect to the prediction. -/
theorem reference_dy (x : S2048x1024.Idx → EReal) (fw : S1x1024.Idx → EReal) (t : S2048x1024.Idx → EReal) (i : S2048x1024.Idx) :
    val_main_v31 (F := Ideal) x fw t i = dy (fun k => x (ix2 (i 0) k)) (fun k => fw (ix2 0 k)) (fun k => t (ix2 (i 0) k)) (i 1) := by
  rw [val_main_v31_apply, val_main_v20_apply, reference_err, val_main_v30_apply, val_main_v29_apply, val_main_v28_apply, val_main_v27_apply, val_main_v26_apply, val_main_v19_apply,
    val_main_cst_8_apply, val_main_cst_9_apply, val_main_cst_10_apply, val_main_cst_3_apply]
  exact scale _

open Cert.HeadRefIdeal.Read in
/-- The reference's cotangent of the normed rows. -/
theorem reference_g (x : S2048x1024.Idx → EReal) (fw : S1x1024.Idx → EReal) (t : S2048x1024.Idx → EReal) (i : S2048x1024.Idx) :
    val_main_v36 (F := Ideal) x fw t i = dy (fun k => x (ix2 (i 0) k)) (fun k => fw (ix2 0 k)) (fun k => t (ix2 (i 0) k)) (i 1) * fw (ix2 0 (i 1)) := by
  rw [val_main_v36_apply, reference_dy, val_main_v35_apply, val_main_v14_apply, val_main_v0_apply]
  refine congrArg₂ (· * ·) rfl (congrArg fw (ext2 rfl ?_))
  exact Nat.mod_eq_of_lt (i 1).isLt

open Cert.HeadRefIdeal.Read in
/-- What the reference multiplies a row by for the part through the normaliser. -/
theorem reference_coef (x : S2048x1024.Idx → EReal) (fw : S1x1024.Idx → EReal) (t : S2048x1024.Idx → EReal) (i : S2048x1024.Idx) :
    val_main_v47 (F := Ideal) x fw t i = coef (fun k => x (ix2 (i 0) k)) (fun k => dy (fun k => x (ix2 (i 0) k)) (fun k => fw (ix2 0 k)) (fun k => t (ix2 (i 0) k)) k * fw (ix2 0 k)) := by
  rw [val_main_v47_apply, val_main_v46_apply, val_main_cst_15_apply, zero_bits, zero_add, Fintype.sum_unique]
  rw [val_main_v45_apply, val_main_v43_apply, val_main_v40_apply, val_main_v39_apply, val_main_v44_apply, val_main_v11_apply, val_main_v10_apply, val_main_v9_apply,
    reference_rs, reference_msq, val_main_cst_13_apply, val_main_cst_14_apply, val_main_cst_2_apply, zero_bits, zero_add]
  have hf : ∀ q : Fin 2048, q = i 0 → (fun k : Fin 1024 => x (ix2 q k)) = fun k => x (ix2 (i 0) k) := by rintro _ rfl; rfl
  unfold coef
  refine congrArg₂ Ideal.div (congrArg₂ (· * ·) ?_ (congrArg₂ (· * ·) rfl (congrArg₂ Ideal.div (congrArg rs (hf _ (Fin.ext rfl))) (congrArg msq (hf _ (Fin.ext rfl)))))) rfl
  refine Finset.sum_congr rfl fun k _ => ?_
  rw [val_main_v38_apply, reference_g]
  have e : ∀ z : S2048x1024.Idx, z = ix2 (i 0) k → FloatOps.mulf (F := Ideal) (φ := .f32) (x z) (dy (fun k => x (ix2 (z 0) k)) (fun k => fw (ix2 0 k)) (fun k => t (ix2 (z 0) k)) (z 1) * fw (ix2 0 (z 1)))
      = x (ix2 (i 0) k) * (dy (fun k => x (ix2 (i 0) k)) (fun k => fw (ix2 0 k)) (fun k => t (ix2 (i 0) k)) k * fw (ix2 0 k)) := by
    rintro _ rfl; rfl
  refine e _ (ext2 ?_ rfl)
  show (i 0).val * 1 + 0 = (i 0).val; omega

open Cert.HeadRefIdeal.Read in
/-- The reference's gradient of the input. -/
theorem reference_DX (x : S2048x1024.Idx → EReal) (fw : S1x1024.Idx → EReal) (t : S2048x1024.Idx → EReal) : val_main_v51 (F := Ideal) x fw t = DX x fw t := by
  funext i
  rw [val_main_v51_apply, val_main_v50_apply, val_main_v49_apply, val_main_v48_apply, val_main_v42_apply, val_main_v41_apply, reference_rs, reference_g, reference_coef]
  unfold DX dxRow
  refine Eq.trans ?_ (grad (fun k => x (ix2 (i 0) k)) (fun k => dy (fun k => x (ix2 (i 0) k)) (fun k => fw (ix2 0 k)) (fun k => t (ix2 (i 0) k)) k * fw (ix2 0 k)) (i 1)).symm
  have hi : ix2 (n0 := 2048) (n1 := 1024) (i 0) (i 1) = i := ix2_eta i
  dsimp only
  rw [hi]
  rfl

open Cert.HeadRefIdeal.Read in
/-- The reference's loss. -/
theorem reference_LO (x : S2048x1024.Idx → EReal) (fw : S1x1024.Idx → EReal) (t : S2048x1024.Idx → EReal) : val_main_v52 (F := Ideal) x fw t = LO x fw t := by
  funext i
  rw [val_main_v52_apply, val_main_v25_apply, val_main_v24_apply, val_main_cst_6_apply, val_main_cst_7_apply, zero_bits, zero_add]
  refine congrArg₂ (· * ·) rfl ?_
  refine (Fintype.sum_bijective (fun q : Fin 2048 => (ix1 q : Cert.HeadRefIdeal.S2048.Idx)) ⟨fun a b h => congrFun h 0, fun j => ⟨j 0, (eq_ix1 j).symm⟩⟩ _ _ fun q => ?_).symm
  rw [val_main_v23_apply, val_main_v21_apply, val_main_v22_apply, val_main_cst_4_apply, val_main_cst_5_apply, zero_bits, zero_add]
  refine congrArg₂ Ideal.div (Finset.sum_congr rfl fun k _ => ?_) rfl
  rw [val_main_v18_apply, reference_err]
  rfl

open Cert.HeadRefIdeal.Read in
/-- The reference's gradient of the norm's weight. -/
theorem reference_DW (x : S2048x1024.Idx → EReal) (fw : S1x1024.Idx → EReal) (t : S2048x1024.Idx → EReal) : val_main_v55 (F := Ideal) x fw t = DW x fw t := by
  funext i
  unfold val_main_v55 DW
  by_cases h0 : (i 0).val = 0
  · rw [if_pos h0]
    refine (concatenate_apply_piece (t := Cert.HeadRefIdeal.S8x1024) 0 _ _ _ 0 ?_ S1x1024 (val_main_v53 (F := Ideal) x fw t) ?_ rfl 0 ?_ (ix2 0 (i 1)) (fun b hb => ?_) ?_).trans ?_
    · exact (by decide : 0 < 2)
    · rfl
    · rfl
    · match b with
      | ⟨0, _⟩ => exact absurd rfl hb
      | ⟨1, _⟩ => rfl
    · show 0 + 0 = (i 0).val; omega
    · rw [val_main_v53_apply, val_main_v37_apply, val_main_cst_12_apply, zero_bits, zero_add, Fintype.sum_unique, val_main_v34_apply, val_main_v33_apply, val_main_cst_11_apply, zero_bits, zero_add]
      refine Finset.sum_congr rfl fun k _ => ?_
      rw [val_main_v32_apply, reference_xn, reference_dy]
      unfold dwRow
      have e1 : ∀ z : S2048x1024.Idx, z = ix2 k (i 1) → FloatOps.mulf (F := Ideal) (φ := .f32) (x z * rs (fun k => x (ix2 (z 0) k))) (dy (fun k => x (ix2 (z 0) k)) (fun k => fw (ix2 0 k)) (fun k => t (ix2 (z 0) k)) (z 1))
          = dy (fun q => x (ix2 k q)) (fun q => fw (ix2 0 q)) (fun q => t (ix2 k q)) (i 1) * (x (ix2 k (i 1)) * rs (fun q => x (ix2 k q))) := by
        rintro _ rfl; exact mul_comm _ _
      refine e1 _ (ext2 rfl ?_)
      show 0 * 1024 + (0 * 1024 + (i 1).val) = (i 1).val; omega
  · rw [if_neg h0]
    have hi : (i 0).val < 8 := (i 0).isLt
    refine (concatenate_apply_piece (t := Cert.HeadRefIdeal.S8x1024) 0 _ _ _ 1 ?_ Cert.HeadRefIdeal.S7x1024 (val_main_v54 (F := Ideal)) ?_ rfl 1 ?_ (ix2 ⟨(i 0).val - 1, by omega⟩ (i 1)) (fun b hb => ?_) ?_).trans ?_
    · exact (by decide : 1 < 2)
    · rfl
    · rfl
    · match b with
      | ⟨0, _⟩ => exact absurd rfl hb
      | ⟨1, _⟩ => rfl
    · show 1 + ((i 0).val - 1) = (i 0).val; omega
    · rw [val_main_v54_apply, val_main_cst_16_apply, zero_bits]

end Cert.HeadIdeal.Product

namespace Cert.Proof

open Cert.HeadIdeal.Product in
/-- `Head` and its reference end with the same gradient of the head's input, the same loss and the same gradient of the norm's weight. -/
theorem algebraic_Head : Cert.algebraic_HeadIdeal_HeadRefIdeal := fun m g m' g' _ hagree =>
  ⟨fun c => DX (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)), fun c => LO (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)), fun c => DW (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)),
    (θ_run _ _ _).mono (fun _ h c => ⟨(h c).1.trans (final3 m c), (h c).2.1.trans (final4 m c), (h c).2.2.1.trans (final5 m c), (h c).2.2.2⟩)
      (Cert.HeadIdeal.Value.run_blocks m g),
    (θ_run _ _ _).mono (fun _ h c => ⟨((h c).1.trans (Cert.HeadRefIdeal.Read.val_main_v51_eq m' c)).trans ((reference_DX _ _ _).trans (by rw [(hagree c).1, (hagree c).2.1, (hagree c).2.2])),
      ((h c).2.1.trans (Cert.HeadRefIdeal.Read.val_main_v52_eq _ _ _)).trans ((reference_LO _ _ _).trans (by rw [(hagree c).1, (hagree c).2.1, (hagree c).2.2])),
      ((h c).2.2.1.trans (Cert.HeadRefIdeal.Read.val_main_v55_eq _ _ _)).trans ((reference_DW _ _ _).trans (by rw [(hagree c).1, (hagree c).2.1, (hagree c).2.2])),
      (h c).2.2.2⟩) (Cert.HeadRefIdeal.Value.run m' g')⟩

end Cert.Proof

end
-- ==== Proof.lean ====
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.WgradRg
public import proofs.«01_k».proof.Proof.Gen.WgradRg.Skeleton
public import proofs.«01_k».proof.Proof.Gen.WgradRg.Launch
public import proofs.«01_k».proof.Proof.Gen.WgradRg.Points
public import proofs.«01_k».proof.Proof.Gen.WgradRg.Frame
public import proofs.«01_k».proof.Proof.Gen.WgradRgIdeal
public import proofs.«01_k».proof.Proof.Gen.WgradRgIdeal.Skeleton
public import proofs.«01_k».proof.Proof.Gen.WgradRgIdeal.Launch
public import proofs.«01_k».proof.Proof.Gen.WgradRgIdeal.Points
public import proofs.«01_k».proof.Proof.Gen.WgradRgIdeal.Frame
public import proofs.«01_k».proof.Proof.Gen.WgradRgRefIdeal
public import proofs.«01_k».proof.Proof.Gen.WgradMl
public import proofs.«01_k».proof.Proof.Gen.WgradMl.Skeleton
public import proofs.«01_k».proof.Proof.Gen.WgradMl.Launch
public import proofs.«01_k».proof.Proof.Gen.WgradMl.Points
public import proofs.«01_k».proof.Proof.Gen.WgradMl.Frame
public import proofs.«01_k».proof.Proof.Gen.WgradMlIdeal
public import proofs.«01_k».proof.Proof.Gen.WgradMlIdeal.Skeleton
public import proofs.«01_k».proof.Proof.Gen.WgradMlIdeal.Launch
public import proofs.«01_k».proof.Proof.Gen.WgradMlIdeal.Points
public import proofs.«01_k».proof.Proof.Gen.WgradMlIdeal.Frame
public import proofs.«01_k».proof.Proof.Gen.WgradMlRefIdeal
public import proofs.«01_k».proof.Proof.Gen.WgradGd
public import proofs.«01_k».proof.Proof.Gen.WgradGd.Skeleton
public import proofs.«01_k».proof.Proof.Gen.WgradGd.Launch
public import proofs.«01_k».proof.Proof.Gen.WgradGd.Points
public import proofs.«01_k».proof.Proof.Gen.WgradGd.Frame
public import proofs.«01_k».proof.Proof.Gen.WgradGdIdeal
public import proofs.«01_k».proof.Proof.Gen.WgradGdIdeal.Skeleton
public import proofs.«01_k».proof.Proof.Gen.WgradGdIdeal.Launch
public import proofs.«01_k».proof.Proof.Gen.WgradGdIdeal.Points
public import proofs.«01_k».proof.Proof.Gen.WgradGdIdeal.Frame
public import proofs.«01_k».proof.Proof.Gen.WgradGdRefIdeal
public import proofs.«01_k».proof.Proof.Gen.WgradSm
public import proofs.«01_k».proof.Proof.Gen.WgradSm.Skeleton
public import proofs.«01_k».proof.Proof.Gen.WgradSm.Launch
public import proofs.«01_k».proof.Proof.Gen.WgradSm.Points
public import proofs.«01_k».proof.Proof.Gen.WgradSm.Frame
public import proofs.«01_k».proof.Proof.Gen.WgradSmIdeal
public import proofs.«01_k».proof.Proof.Gen.WgradSmIdeal.Skeleton
public import proofs.«01_k».proof.Proof.Gen.WgradSmIdeal.Launch
public import proofs.«01_k».proof.Proof.Gen.WgradSmIdeal.Points
public import proofs.«01_k».proof.Proof.Gen.WgradSmIdeal.Frame
public import proofs.«01_k».proof.Proof.Gen.WgradSmRefIdeal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.WgradRgIdeal.Value
public import proofs.«01_k».proof.Proof.Gen.WgradRgRefIdeal.Run
public import proofs.«01_k».proof.Proof.Gen.WgradRgRefIdeal.Read
public import proofs.«01_k».proof.Proof.Gen.WgradMlIdeal.Value
public import proofs.«01_k».proof.Proof.Gen.WgradMlRefIdeal.Run
public import proofs.«01_k».proof.Proof.Gen.WgradMlRefIdeal.Read
public import proofs.«01_k».proof.Proof.Gen.WgradGdIdeal.Value
public import proofs.«01_k».proof.Proof.Gen.WgradGdRefIdeal.Run
public import proofs.«01_k».proof.Proof.Gen.WgradGdRefIdeal.Read
public import proofs.«01_k».proof.Proof.Gen.WgradSmIdeal.Value
public import proofs.«01_k».proof.Proof.Gen.WgradSmRefIdeal.Run
public import proofs.«01_k».proof.Proof.Gen.WgradSmRefIdeal.Read
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.HeadIdeal.Value
public import proofs.«01_k».proof.Proof.Gen.HeadRefIdeal.Run
public import proofs.«01_k».proof.Proof.Gen.HeadRefIdeal.Read
public import proofs.«01_k».proof.Proof.Gen.Regroup
public import proofs.«01_k».proof.Proof.Gen.Regroup.Skeleton
public import proofs.«01_k».proof.Proof.Gen.Regroup.Launch
public import proofs.«01_k».proof.Proof.Gen.Regroup.Points
public import proofs.«01_k».proof.Proof.Gen.Regroup.Frame
public import proofs.«01_k».proof.Proof.Gen.RegroupIdeal
public import proofs.«01_k».proof.Proof.Gen.RegroupIdeal.Skeleton
public import proofs.«01_k».proof.Proof.Gen.RegroupIdeal.Launch
public import proofs.«01_k».proof.Proof.Gen.RegroupIdeal.Points
public import proofs.«01_k».proof.Proof.Gen.RegroupIdeal.Frame
public import proofs.«01_k».proof.Proof.Gen.RegroupIdeal.Value
public import proofs.«01_k».proof.Proof.Gen.RegroupRefIdeal
public import proofs.«01_k».proof.Proof.Gen.RegroupRefIdeal.Run
public import proofs.«01_k».proof.Proof.Gen.RegroupRefIdeal.Read
public import proofs.«01_k».proof.Proof.Gen.Slots
public import proofs.«01_k».proof.Proof.Gen.Slots.Skeleton
public import proofs.«01_k».proof.Proof.Gen.Slots.Launch
public import proofs.«01_k».proof.Proof.Gen.Slots.Points
public import proofs.«01_k».proof.Proof.Gen.Slots.Frame
public import proofs.«01_k».proof.Proof.Gen.SlotsIdeal
public import proofs.«01_k».proof.Proof.Gen.SlotsIdeal.Skeleton
public import proofs.«01_k».proof.Proof.Gen.SlotsIdeal.Launch
public import proofs.«01_k».proof.Proof.Gen.SlotsIdeal.Points
public import proofs.«01_k».proof.Proof.Gen.SlotsIdeal.Frame
public import proofs.«01_k».proof.Proof.Gen.SlotsIdeal.Value
public import proofs.«01_k».proof.Proof.Gen.SlotsRefIdeal
public import proofs.«01_k».proof.Proof.Gen.SlotsRefIdeal.Run
public import proofs.«01_k».proof.Proof.Gen.SlotsRefIdeal.Read
public import proofs.«01_k».proof.Proof.RegroupVal
public import proofs.«01_k».proof.Proof.SlotsVal
public import proofs.«01_k».proof.Proof.AdamInVal
public import proofs.«01_k».proof.Proof.AdamOutVal
public import proofs.«01_k».proof.Proof.AdamSmallVal
public import proofs.«01_k».proof.Proof.InBwdVal
public import proofs.«01_k».proof.Proof.OutBwdVal
public import proofs.«01_k».proof.Proof.WgradRgVal
public import proofs.«01_k».proof.Proof.WgradMlVal
public import proofs.«01_k».proof.Proof.WgradGdVal
public import proofs.«01_k».proof.Proof.WgradSmVal
public import proofs.«01_k».proof.Proof.InFwdVal
public import proofs.«01_k».proof.Proof.OutFwdVal
public import proofs.«01_k».proof.Proof.HeadVal
public import Idealize.ShloMosaic.Adequacy
public import Idealize.ShloMosaic.Init
public import Idealize.ShloMosaic.Lib.Quiescent

@[expose] public section

noncomputable section

namespace Cert.Proof

open Idealize.ShloMosaic Idealize.SL.Sem Cert.InBwd

/-- `InBwd` runs, leaves its arguments unchanged and every semaphore counter at zero. -/
theorem frame_InBwd : Cert.quiescent_InBwd := fun m ρ _ => Cert.InBwd.Gen.frame m ρ

/-- So does its reading at exact arithmetic. -/
theorem frame_InBwdIdeal : Cert.quiescent_InBwdIdeal := fun m ρ _ => Cert.InBwdIdeal.Gen.frame m ρ

/-- And so does its reference. -/
theorem frame_InBwdRefIdeal : Cert.quiescent_InBwdRefIdeal := fun m ρ _ =>
  (θ_run Cert.InBwdRefIdeal.defs _ _).mono (fun r h => ⟨fun c => (h c).2.2, sem_eq_zero_of_no_sems (by decide) r.2⟩) (Cert.InBwdRefIdeal.Value.run m ρ)

/-- `OutBwd` runs, leaves its arguments unchanged and every semaphore counter at zero. -/
theorem frame_OutBwd : Cert.quiescent_OutBwd := fun m ρ _ => Cert.OutBwd.Gen.frame m ρ

/-- So does its reading at exact arithmetic. -/
theorem frame_OutBwdIdeal : Cert.quiescent_OutBwdIdeal := fun m ρ _ => Cert.OutBwdIdeal.Gen.frame m ρ

/-- And so does its reference. -/
theorem frame_OutBwdRefIdeal : Cert.quiescent_OutBwdRefIdeal := fun m ρ _ =>
  (θ_run Cert.OutBwdRefIdeal.defs _ _).mono (fun r h => ⟨fun c => (h c).2.2.2.2, sem_eq_zero_of_no_sems (by decide) r.2⟩) (Cert.OutBwdRefIdeal.Value.run m ρ)

/-- `WgradRg` runs, leaves its arguments unchanged and every semaphore counter at zero. -/
theorem frame_WgradRg : Cert.quiescent_WgradRg := fun m ρ _ => Cert.WgradRg.Gen.frame m ρ

/-- So does its reading at exact arithmetic. -/
theorem frame_WgradRgIdeal : Cert.quiescent_WgradRgIdeal := fun m ρ _ => Cert.WgradRgIdeal.Gen.frame m ρ

/-- And so does its reference. -/
theorem frame_WgradRgRefIdeal : Cert.quiescent_WgradRgRefIdeal := fun m ρ _ =>
  (θ_run Cert.WgradRgRefIdeal.defs _ _).mono (fun r h => ⟨fun c => (h c).2, sem_eq_zero_of_no_sems (by decide) r.2⟩) (Cert.WgradRgRefIdeal.Value.run m ρ)

/-- `WgradMl` runs, leaves its arguments unchanged and every semaphore counter at zero. -/
theorem frame_WgradMl : Cert.quiescent_WgradMl := fun m ρ _ => Cert.WgradMl.Gen.frame m ρ

/-- So does its reading at exact arithmetic. -/
theorem frame_WgradMlIdeal : Cert.quiescent_WgradMlIdeal := fun m ρ _ => Cert.WgradMlIdeal.Gen.frame m ρ

/-- And so does its reference. -/
theorem frame_WgradMlRefIdeal : Cert.quiescent_WgradMlRefIdeal := fun m ρ _ =>
  (θ_run Cert.WgradMlRefIdeal.defs _ _).mono (fun r h => ⟨fun c => (h c).2, sem_eq_zero_of_no_sems (by decide) r.2⟩) (Cert.WgradMlRefIdeal.Value.run m ρ)

/-- `WgradGd` runs, leaves its arguments unchanged and every semaphore counter at zero. -/
theorem frame_WgradGd : Cert.quiescent_WgradGd := fun m ρ _ => Cert.WgradGd.Gen.frame m ρ

/-- So does its reading at exact arithmetic. -/
theorem frame_WgradGdIdeal : Cert.quiescent_WgradGdIdeal := fun m ρ _ => Cert.WgradGdIdeal.Gen.frame m ρ

/-- And so does its reference. -/
theorem frame_WgradGdRefIdeal : Cert.quiescent_WgradGdRefIdeal := fun m ρ _ =>
  (θ_run Cert.WgradGdRefIdeal.defs _ _).mono (fun r h => ⟨fun c => (h c).2, sem_eq_zero_of_no_sems (by decide) r.2⟩) (Cert.WgradGdRefIdeal.Value.run m ρ)

/-- `WgradSm` runs, leaves its arguments unchanged and every semaphore counter at zero. -/
theorem frame_WgradSm : Cert.quiescent_WgradSm := fun m ρ _ => Cert.WgradSm.Gen.frame m ρ

/-- So does its reading at exact arithmetic. -/
theorem frame_WgradSmIdeal : Cert.quiescent_WgradSmIdeal := fun m ρ _ => Cert.WgradSmIdeal.Gen.frame m ρ

/-- And so does its reference. -/
theorem frame_WgradSmRefIdeal : Cert.quiescent_WgradSmRefIdeal := fun m ρ _ =>
  (θ_run Cert.WgradSmRefIdeal.defs _ _).mono (fun r h => ⟨fun c => (h c).2, sem_eq_zero_of_no_sems (by decide) r.2⟩) (Cert.WgradSmRefIdeal.Value.run m ρ)

/-- `InFwd` runs, leaves its arguments unchanged and every semaphore counter at zero. -/
theorem frame_InFwd : Cert.quiescent_InFwd := fun m ρ _ => Cert.InFwd.Gen.frame m ρ

/-- So does its reading at exact arithmetic. -/
theorem frame_InFwdIdeal : Cert.quiescent_InFwdIdeal := fun m ρ _ => Cert.InFwdIdeal.Gen.frame m ρ

/-- And so does its reference. -/
theorem frame_InFwdRefIdeal : Cert.quiescent_InFwdRefIdeal := fun m ρ _ =>
  (θ_run Cert.InFwdRefIdeal.defs _ _).mono (fun r h => ⟨fun c => (h c).2.2, sem_eq_zero_of_no_sems (by decide) r.2⟩) (Cert.InFwdRefIdeal.Value.run m ρ)

/-- `OutFwd` runs, leaves its arguments unchanged and every semaphore counter at zero. -/
theorem frame_OutFwd : Cert.quiescent_OutFwd := fun m ρ _ => Cert.OutFwd.Gen.frame m ρ

/-- So does its reading at exact arithmetic. -/
theorem frame_OutFwdIdeal : Cert.quiescent_OutFwdIdeal := fun m ρ _ => Cert.OutFwdIdeal.Gen.frame m ρ

/-- And so does its reference. -/
theorem frame_OutFwdRefIdeal : Cert.quiescent_OutFwdRefIdeal := fun m ρ _ =>
  (θ_run Cert.OutFwdRefIdeal.defs _ _).mono (fun r h => ⟨fun c => (h c).2, sem_eq_zero_of_no_sems (by decide) r.2⟩) (Cert.OutFwdRefIdeal.Value.run m ρ)

/-- `Head` runs, leaves its arguments unchanged and every semaphore counter at zero. -/
theorem frame_Head : Cert.quiescent_Head := fun m ρ _ => Cert.Head.Gen.frame m ρ

/-- So does its reading at exact arithmetic. -/
theorem frame_HeadIdeal : Cert.quiescent_HeadIdeal := fun m ρ _ => Cert.HeadIdeal.Gen.frame m ρ

/-- And so does its reference. -/
theorem frame_HeadRefIdeal : Cert.quiescent_HeadRefIdeal := fun m ρ _ =>
  (θ_run Cert.HeadRefIdeal.defs _ _).mono (fun r h => ⟨fun c => (h c).2.2.2, sem_eq_zero_of_no_sems (by decide) r.2⟩) (Cert.HeadRefIdeal.Value.run m ρ)

/-- `AdamIn` runs, leaves its arguments unchanged and every semaphore counter at zero. -/
theorem frame_AdamIn : Cert.quiescent_AdamIn := fun m ρ _ => Cert.AdamIn.Gen.frame m ρ

/-- So does its reading at exact arithmetic. -/
theorem frame_AdamInIdeal : Cert.quiescent_AdamInIdeal := fun m ρ _ => Cert.AdamInIdeal.Gen.frame m ρ

/-- And so does its reference. -/
theorem frame_AdamInRefIdeal : Cert.quiescent_AdamInRefIdeal := fun m ρ _ =>
  (θ_run Cert.AdamInRefIdeal.defs _ _).mono (fun r h => ⟨fun c => (h c).2.2.2.2, sem_eq_zero_of_no_sems (by decide) r.2⟩) (Cert.AdamInRefIdeal.Value.run m ρ)

/-- `AdamOut` runs, leaves its arguments unchanged and every semaphore counter at zero. -/
theorem frame_AdamOut : Cert.quiescent_AdamOut := fun m ρ _ => Cert.AdamOut.Gen.frame m ρ

/-- So does its reading at exact arithmetic. -/
theorem frame_AdamOutIdeal : Cert.quiescent_AdamOutIdeal := fun m ρ _ => Cert.AdamOutIdeal.Gen.frame m ρ

/-- And so does its reference. -/
theorem frame_AdamOutRefIdeal : Cert.quiescent_AdamOutRefIdeal := fun m ρ _ =>
  (θ_run Cert.AdamOutRefIdeal.defs _ _).mono (fun r h => ⟨fun c => (h c).2.2.2.2, sem_eq_zero_of_no_sems (by decide) r.2⟩) (Cert.AdamOutRefIdeal.Value.run m ρ)

/-- `AdamSmall` runs, leaves its arguments unchanged and every semaphore counter at zero. -/
theorem frame_AdamSmall : Cert.quiescent_AdamSmall := fun m ρ _ => Cert.AdamSmall.Gen.frame m ρ

/-- So does its reading at exact arithmetic. -/
theorem frame_AdamSmallIdeal : Cert.quiescent_AdamSmallIdeal := fun m ρ _ => Cert.AdamSmallIdeal.Gen.frame m ρ

/-- And so does its reference. -/
theorem frame_AdamSmallRefIdeal : Cert.quiescent_AdamSmallRefIdeal := fun m ρ _ =>
  (θ_run Cert.AdamSmallRefIdeal.defs _ _).mono (fun r h => ⟨fun c => (h c).2.2.2, sem_eq_zero_of_no_sems (by decide) r.2⟩) (Cert.AdamSmallRefIdeal.Value.run m ρ)

/-- `Regroup` runs, leaves its arguments unchanged and every semaphore counter at zero. -/
theorem frame_Regroup : Cert.quiescent_Regroup := fun m ρ _ => Cert.Regroup.Gen.frame m ρ

/-- So does its reading at exact arithmetic. -/
theorem frame_RegroupIdeal : Cert.quiescent_RegroupIdeal := fun m ρ _ => Cert.RegroupIdeal.Gen.frame m ρ

/-- And so does its reference. -/
theorem frame_RegroupRefIdeal : Cert.quiescent_RegroupRefIdeal := fun m ρ _ =>
  (θ_run Cert.RegroupRefIdeal.defs _ _).mono (fun r h => ⟨fun c => (h c).2, sem_eq_zero_of_no_sems (by decide) r.2⟩) (Cert.RegroupRefIdeal.Value.run m ρ)

/-- `Slots` runs, leaves its arguments unchanged and every semaphore counter at zero. -/
theorem frame_Slots : Cert.quiescent_Slots := fun m ρ _ => Cert.Slots.Gen.frame m ρ

/-- So does its reading at exact arithmetic. -/
theorem frame_SlotsIdeal : Cert.quiescent_SlotsIdeal := fun m ρ _ => Cert.SlotsIdeal.Gen.frame m ρ

/-- And so does its reference. -/
theorem frame_SlotsRefIdeal : Cert.quiescent_SlotsRefIdeal := fun m ρ _ =>
  (θ_run Cert.SlotsRefIdeal.defs _ _).mono (fun r h => ⟨fun c => (h c).2, sem_eq_zero_of_no_sems (by decide) r.2⟩) (Cert.SlotsRefIdeal.Value.run m ρ)

/-- Every claim of the certificate. -/
theorem claim : Cert.Claim := ⟨Cert.InBwd.Gen.facts, Cert.InBwdIdeal.Gen.facts, Cert.InBwdRefIdeal.Gen.facts, Cert.OutBwd.Gen.facts, Cert.OutBwdIdeal.Gen.facts, Cert.OutBwdRefIdeal.Gen.facts, Cert.WgradRg.Gen.facts, Cert.WgradRgIdeal.Gen.facts, Cert.WgradRgRefIdeal.Gen.facts, Cert.WgradMl.Gen.facts, Cert.WgradMlIdeal.Gen.facts, Cert.WgradMlRefIdeal.Gen.facts, Cert.WgradGd.Gen.facts, Cert.WgradGdIdeal.Gen.facts, Cert.WgradGdRefIdeal.Gen.facts, Cert.WgradSm.Gen.facts, Cert.WgradSmIdeal.Gen.facts, Cert.WgradSmRefIdeal.Gen.facts, Cert.InFwd.Gen.facts, Cert.InFwdIdeal.Gen.facts, Cert.InFwdRefIdeal.Gen.facts, Cert.OutFwd.Gen.facts, Cert.OutFwdIdeal.Gen.facts, Cert.OutFwdRefIdeal.Gen.facts, Cert.Head.Gen.facts, Cert.HeadIdeal.Gen.facts, Cert.HeadRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamSmall.Gen.facts, Cert.AdamSmallIdeal.Gen.facts, Cert.AdamSmallRefIdeal.Gen.facts, Cert.Regroup.Gen.facts, Cert.RegroupIdeal.Gen.facts, Cert.RegroupRefIdeal.Gen.facts, Cert.Slots.Gen.facts, Cert.SlotsIdeal.Gen.facts, Cert.SlotsRefIdeal.Gen.facts,
  frame_InBwd, frame_InBwdIdeal, frame_InBwdRefIdeal,
  frame_OutBwd, frame_OutBwdIdeal, frame_OutBwdRefIdeal,
  frame_WgradRg, frame_WgradRgIdeal, frame_WgradRgRefIdeal,
  frame_WgradMl, frame_WgradMlIdeal, frame_WgradMlRefIdeal,
  frame_WgradGd, frame_WgradGdIdeal, frame_WgradGdRefIdeal,
  frame_WgradSm, frame_WgradSmIdeal, frame_WgradSmRefIdeal,
  frame_InFwd, frame_InFwdIdeal, frame_InFwdRefIdeal,
  frame_OutFwd, frame_OutFwdIdeal, frame_OutFwdRefIdeal,
  frame_Head, frame_HeadIdeal, frame_HeadRefIdeal,
  frame_AdamIn, frame_AdamInIdeal, frame_AdamInRefIdeal,
  frame_AdamOut, frame_AdamOutIdeal, frame_AdamOutRefIdeal,
  frame_AdamSmall, frame_AdamSmallIdeal, frame_AdamSmallRefIdeal,
  frame_Regroup, frame_RegroupIdeal, frame_RegroupRefIdeal,
  frame_Slots, frame_SlotsIdeal, frame_SlotsRefIdeal,
  trivial, algebraic_InBwd,
  trivial, algebraic_OutBwd,
  trivial, algebraic_WgradRg,
  trivial, algebraic_WgradMl,
  trivial, algebraic_WgradGd,
  trivial, algebraic_WgradSm,
  trivial, algebraic_InFwd,
  trivial, algebraic_OutFwd,
  trivial, algebraic_Head,
  trivial, algebraic_AdamIn,
  trivial, algebraic_AdamOut,
  trivial, algebraic_AdamSmall,
  trivial, algebraic_Regroup,
  trivial, algebraic_Slots⟩

end Cert.Proof

end
